-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S4096x8192 : Shape := ⟨2, ![4096, 8192]⟩
abbrev S2x2x1024x4096 : Shape := ⟨4, ![2, 2, 1024, 4096]⟩
abbrev S2x512x1024 : Shape := ⟨3, ![2, 512, 1024]⟩
abbrev S2x256x1024 : Shape := ⟨3, ![2, 256, 1024]⟩
abbrev S2x2x4 : Shape := ⟨3, ![2, 2, 4]⟩
abbrev S2 : Shape := ⟨1, ![2]⟩
abbrev S_ : Shape := ⟨0, ![]⟩
abbrev S1x512x1024 : Shape := ⟨3, ![1, 512, 1024]⟩
abbrev S512x1024 : Shape := ⟨2, ![512, 1024]⟩
abbrev S256x1024 : Shape := ⟨2, ![256, 1024]⟩
abbrev S1024x1024 : Shape := ⟨2, ![1024, 1024]⟩
abbrev S1x1x256x1024 : Shape := ⟨4, ![1, 1, 256, 1024]⟩
abbrev S1x1x1 : Shape := ⟨3, ![1, 1, 1]⟩
abbrev S1x1x256x4096 : Shape := ⟨4, ![1, 1, 256, 4096]⟩
abbrev S256x4096 : Shape := ⟨2, ![256, 4096]⟩
abbrev S1x256x1024 : Shape := ⟨3, ![1, 256, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S2x2x1024x4096, .bf16⟩
  | .local _ .vmem, ⟨1, _⟩ => ⟨S4096x1024, .fp8e4m3⟩
  | .local _ .vmem, ⟨2, _⟩ => ⟨S1024x8192, .fp8e5m2⟩
  | .local _ .vmem, ⟨3, _⟩ => ⟨S2x512x1024, .f32⟩
  | .local _ .vmem, ⟨4, _⟩ => ⟨S2x256x1024, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 3 38 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 2

abbrev nD : Nat := 4
abbrev τ : Topo := Topo.v7x

variable {F : FTy → Type} [FloatOps F]

abbrev grid0 : Pipeline.Grid := .none

def k0_off1 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v28 : BitVec 32 := Scalar.muli v2 c1024_i32
  let v29 : BitVec 32 := Scalar.addi v28 c0_i32_14
  let c0_i32_20 : BitVec 32 := 0#32
  ![v29.toNat, 0]
def k0_off2 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v28 : BitVec 32 := Scalar.muli v2 c1024_i32
  let v29 : BitVec 32 := Scalar.addi v28 c0_i32_14
  let v50 : Index := Scalar.indexCast v29
  let c0_34 : Index := 0#32
  ![v50.toNat, 0]
def k0_dev1 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_302 : BitVec 32 := 1#32
  let v323 : BitVec 32 := Scalar.muli v16 c1_i32_302
  let v324 : BitVec 32 := Scalar.addi c0_i32_303 v323
  v324.toNat
def k0_dev2 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_305 : BitVec 32 := 1#32
  let v325 : BitVec 32 := Scalar.muli v27 c1_i32_305
  let v326 : BitVec 32 := Scalar.addi c0_i32_306 v325
  v326.toNat
def k0_off3 (d0 : Dev nD) (c0_i32_308 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_307 : BitVec 32 := 1024#32
  let v327 : BitVec 32 := Scalar.muli v2 c1024_i32_307
  let v328 : BitVec 32 := Scalar.addi v327 c0_i32_308
  let v329 : Index := Scalar.indexCast v328
  let c0_309 : Index := 0#32
  ![v329.toNat, 0]
def k0_dev3 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_356 : BitVec 32 := 1#32
  let v367 : BitVec 32 := Scalar.muli v16 c1_i32_356
  let v368 : BitVec 32 := Scalar.addi c0_i32_357 v367
  v368.toNat
def k0_dev4 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_412 : BitVec 32 := 1#32
  let v417 : BitVec 32 := Scalar.muli v27 c1_i32_412
  let v418 : BitVec 32 := Scalar.addi c0_i32_413 v417
  v418.toNat
def k0_dev5 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_466 : BitVec 32 := 1#32
  let v467 : BitVec 32 := Scalar.muli v16 c1_i32_466
  let v468 : BitVec 32 := Scalar.addi c0_i32_467 v467
  v468.toNat
def k0_dev6 (d0 : Dev nD) : Nat :=
  let c0_i32_523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_522 : BitVec 32 := 1#32
  let v517 : BitVec 32 := Scalar.muli v27 c1_i32_522
  let v518 : BitVec 32 := Scalar.addi c0_i32_523 v517
  v518.toNat
def k0_dev7 (d0 : Dev nD) : Nat :=
  let c0_i32_579 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_578 : BitVec 32 := 1#32
  let v567 : BitVec 32 := Scalar.muli v16 c1_i32_578
  let v568 : BitVec 32 := Scalar.addi c0_i32_579 v567
  v568.toNat
def k0_dev8 (d0 : Dev nD) : Nat :=
  let c0_i32_635 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_634 : BitVec 32 := 1#32
  let v617 : BitVec 32 := Scalar.muli v27 c1_i32_634
  let v618 : BitVec 32 := Scalar.addi c0_i32_635 v617
  v618.toNat
def k0_dev9 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_687 : BitVec 32 := 1#32
  let v667 : BitVec 32 := Scalar.muli v16 c1_i32_687
  let v668 : BitVec 32 := Scalar.addi c0_i32_688 v667
  v668.toNat
def k0_dev10 (d0 : Dev nD) : Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_743 : BitVec 32 := 1#32
  let v717 : BitVec 32 := Scalar.muli v27 c1_i32_743
  let v718 : BitVec 32 := Scalar.addi c0_i32_744 v717
  v718.toNat
def k0_off4 (d0 : Dev nD) (c0_i32_757 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_749 : BitVec 32 := 1#32
  let v727 : BitVec 32 := Scalar.subi v2 c1_i32_749
  let c4_i32_750 : BitVec 32 := 4#32
  let c0_i32_751 : BitVec 32 := 0#32
  let v728 : BitVec 1 := Scalar.cmpi .eq c4_i32_750 c0_i32_751
  let c1_i32_752 : BitVec 32 := 1#32
  let v729 : BitVec 32 := Scalar.select v728 c1_i32_752 c4_i32_750
  let v730 : BitVec 32 := Scalar.remsi v727 v729
  let c0_i32_754 : BitVec 32 := 0#32
  let v732 : BitVec 1 := Scalar.cmpi .slt v730 c0_i32_754
  let c0_i32_755 : BitVec 32 := 0#32
  let v733 : BitVec 1 := Scalar.cmpi .slt v729 c0_i32_755
  let v734 : BitVec 1 := Scalar.xori v732 v733
  let c0_i32_753 : BitVec 32 := 0#32
  let v731 : BitVec 1 := Scalar.cmpi .ne v730 c0_i32_753
  let v735 : BitVec 1 := Scalar.andi v734 v731
  let v736 : BitVec 32 := Scalar.addi v730 v729
  let v737 : BitVec 32 := Scalar.select v735 v736 v730
  let c1024_i32_756 : BitVec 32 := 1024#32
  let v738 : BitVec 32 := Scalar.muli v737 c1024_i32_756
  let v739 : BitVec 32 := Scalar.addi v738 c0_i32_757
  let c0_i32_786 : BitVec 32 := 0#32
  ![v739.toNat, 0]
def k0_off5 (d0 : Dev nD) (c0_i32_757 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_749 : BitVec 32 := 1#32
  let v727 : BitVec 32 := Scalar.subi v2 c1_i32_749
  let c4_i32_750 : BitVec 32 := 4#32
  let c0_i32_751 : BitVec 32 := 0#32
  let v728 : BitVec 1 := Scalar.cmpi .eq c4_i32_750 c0_i32_751
  let c1_i32_752 : BitVec 32 := 1#32
  let v729 : BitVec 32 := Scalar.select v728 c1_i32_752 c4_i32_750
  let v730 : BitVec 32 := Scalar.remsi v727 v729
  let c0_i32_754 : BitVec 32 := 0#32
  let v732 : BitVec 1 := Scalar.cmpi .slt v730 c0_i32_754
  let c0_i32_755 : BitVec 32 := 0#32
  let v733 : BitVec 1 := Scalar.cmpi .slt v729 c0_i32_755
  let v734 : BitVec 1 := Scalar.xori v732 v733
  let c0_i32_753 : BitVec 32 := 0#32
  let v731 : BitVec 1 := Scalar.cmpi .ne v730 c0_i32_753
  let v735 : BitVec 1 := Scalar.andi v734 v731
  let v736 : BitVec 32 := Scalar.addi v730 v729
  let v737 : BitVec 32 := Scalar.select v735 v736 v730
  let c1024_i32_756 : BitVec 32 := 1024#32
  let v738 : BitVec 32 := Scalar.muli v737 c1024_i32_756
  let v739 : BitVec 32 := Scalar.addi v738 c0_i32_757
  let v790 : Index := Scalar.indexCast v739
  let c0_800 : Index := 0#32
  ![v790.toNat, 0]
def k0_off6 (d0 : Dev nD) (c1_i32_760 : BitVec 32) (c0_i32_768 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v742 : BitVec 32 := Scalar.addi v2 c1_i32_760
  let c4_i32_761 : BitVec 32 := 4#32
  let c0_i32_762 : BitVec 32 := 0#32
  let v743 : BitVec 1 := Scalar.cmpi .eq c4_i32_761 c0_i32_762
  let c1_i32_763 : BitVec 32 := 1#32
  let v744 : BitVec 32 := Scalar.select v743 c1_i32_763 c4_i32_761
  let v745 : BitVec 32 := Scalar.remsi v742 v744
  let c0_i32_765 : BitVec 32 := 0#32
  let v747 : BitVec 1 := Scalar.cmpi .slt v745 c0_i32_765
  let c0_i32_766 : BitVec 32 := 0#32
  let v748 : BitVec 1 := Scalar.cmpi .slt v744 c0_i32_766
  let v749 : BitVec 1 := Scalar.xori v747 v748
  let c0_i32_764 : BitVec 32 := 0#32
  let v746 : BitVec 1 := Scalar.cmpi .ne v745 c0_i32_764
  let v750 : BitVec 1 := Scalar.andi v749 v746
  let v751 : BitVec 32 := Scalar.addi v745 v744
  let v752 : BitVec 32 := Scalar.select v750 v751 v745
  let c1024_i32_767 : BitVec 32 := 1024#32
  let v753 : BitVec 32 := Scalar.muli v752 c1024_i32_767
  let v754 : BitVec 32 := Scalar.addi v753 c0_i32_768
  let c0_i32_805 : BitVec 32 := 0#32
  ![v754.toNat, 0]
def k0_off7 (d0 : Dev nD) (c1_i32_760 : BitVec 32) (c0_i32_768 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v742 : BitVec 32 := Scalar.addi v2 c1_i32_760
  let c4_i32_761 : BitVec 32 := 4#32
  let c0_i32_762 : BitVec 32 := 0#32
  let v743 : BitVec 1 := Scalar.cmpi .eq c4_i32_761 c0_i32_762
  let c1_i32_763 : BitVec 32 := 1#32
  let v744 : BitVec 32 := Scalar.select v743 c1_i32_763 c4_i32_761
  let v745 : BitVec 32 := Scalar.remsi v742 v744
  let c0_i32_765 : BitVec 32 := 0#32
  let v747 : BitVec 1 := Scalar.cmpi .slt v745 c0_i32_765
  let c0_i32_766 : BitVec 32 := 0#32
  let v748 : BitVec 1 := Scalar.cmpi .slt v744 c0_i32_766
  let v749 : BitVec 1 := Scalar.xori v747 v748
  let c0_i32_764 : BitVec 32 := 0#32
  let v746 : BitVec 1 := Scalar.cmpi .ne v745 c0_i32_764
  let v750 : BitVec 1 := Scalar.andi v749 v746
  let v751 : BitVec 32 := Scalar.addi v745 v744
  let v752 : BitVec 32 := Scalar.select v750 v751 v745
  let c1024_i32_767 : BitVec 32 := 1024#32
  let v753 : BitVec 32 := Scalar.muli v752 c1024_i32_767
  let v754 : BitVec 32 := Scalar.addi v753 c0_i32_768
  let v824 : Index := Scalar.indexCast v754
  let c0_828 : Index := 0#32
  ![v824.toNat, 0]
def k0_off8 (d0 : Dev nD) (c1_i32_882 : BitVec 32) (c0_i32_890 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v882 : BitVec 32 := Scalar.subi v2 c1_i32_882
  let c4_i32_883 : BitVec 32 := 4#32
  let c0_i32_884 : BitVec 32 := 0#32
  let v883 : BitVec 1 := Scalar.cmpi .eq c4_i32_883 c0_i32_884
  let c1_i32_885 : BitVec 32 := 1#32
  let v884 : BitVec 32 := Scalar.select v883 c1_i32_885 c4_i32_883
  let v885 : BitVec 32 := Scalar.remsi v882 v884
  let c0_i32_887 : BitVec 32 := 0#32
  let v887 : BitVec 1 := Scalar.cmpi .slt v885 c0_i32_887
  let c0_i32_888 : BitVec 32 := 0#32
  let v888 : BitVec 1 := Scalar.cmpi .slt v884 c0_i32_888
  let v889 : BitVec 1 := Scalar.xori v887 v888
  let c0_i32_886 : BitVec 32 := 0#32
  let v886 : BitVec 1 := Scalar.cmpi .ne v885 c0_i32_886
  let v890 : BitVec 1 := Scalar.andi v889 v886
  let v891 : BitVec 32 := Scalar.addi v885 v884
  let v892 : BitVec 32 := Scalar.select v890 v891 v885
  let c1024_i32_889 : BitVec 32 := 1024#32
  let v893 : BitVec 32 := Scalar.muli v892 c1024_i32_889
  let v894 : BitVec 32 := Scalar.addi v893 c0_i32_890
  let v898 : Index := Scalar.indexCast v894
  let c0_895 : Index := 0#32
  ![v898.toNat, 0]
def k0_off8_at (r : Fin 24) : BitVec 32 × BitVec 32 :=
  if r.val < 12 then
    if r.val < 6 then
      if r.val < 3 then
        if r.val < 1 then
          (1#32, 0#32)
        else
          if r.val < 2 then
            (4294967295#32, 0#32)
          else
            (1#32, 256#32)
      else
        if r.val < 4 then
          (4294967295#32, 256#32)
        else
          if r.val < 5 then
            (1#32, 512#32)
          else
            (4294967295#32, 512#32)
    else
      if r.val < 9 then
        if r.val < 7 then
          (1#32, 768#32)
        else
          if r.val < 8 then
            (4294967295#32, 768#32)
          else
            (2#32, 0#32)
      else
        if r.val < 10 then
          (4294967294#32, 0#32)
        else
          if r.val < 11 then
            (2#32, 256#32)
          else
            (4294967294#32, 256#32)
  else
    if r.val < 18 then
      if r.val < 15 then
        if r.val < 13 then
          (2#32, 512#32)
        else
          if r.val < 14 then
            (4294967294#32, 512#32)
          else
            (2#32, 768#32)
      else
        if r.val < 16 then
          (4294967294#32, 768#32)
        else
          if r.val < 17 then
            (3#32, 0#32)
          else
            (4294967293#32, 0#32)
    else
      if r.val < 21 then
        if r.val < 19 then
          (3#32, 256#32)
        else
          if r.val < 20 then
            (4294967293#32, 256#32)
          else
            (3#32, 512#32)
      else
        if r.val < 22 then
          (4294967293#32, 512#32)
        else
          if r.val < 23 then
            (3#32, 768#32)
          else
            (4294967293#32, 768#32)
def k0_dev11 (d0 : Dev nD) : Nat :=
  let c0_i32_957 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_956 : BitVec 32 := 1#32
  let v951 : BitVec 32 := Scalar.muli v27 c1_i32_956
  let v952 : BitVec 32 := Scalar.addi c0_i32_957 v951
  v952.toNat
def k0_dev12 (d0 : Dev nD) : Nat :=
  let c0_i32_972 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_971 : BitVec 32 := 1#32
  let v955 : BitVec 32 := Scalar.muli v16 c1_i32_971
  let v956 : BitVec 32 := Scalar.addi c0_i32_972 v955
  v956.toNat
def k0_dev13 (d0 : Dev nD) : Nat :=
  let c0_i32_1067 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1066 : BitVec 32 := 1#32
  let v1042 : BitVec 32 := Scalar.muli v16 c1_i32_1066
  let v1043 : BitVec 32 := Scalar.addi c0_i32_1067 v1042
  v1043.toNat
def k0_dev14 (d0 : Dev nD) : Nat :=
  let c0_i32_1082 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1081 : BitVec 32 := 1#32
  let v1046 : BitVec 32 := Scalar.muli v27 c1_i32_1081
  let v1047 : BitVec 32 := Scalar.addi c0_i32_1082 v1046
  v1047.toNat
def k0_dev15 (d0 : Dev nD) : Nat :=
  let c0_i32_1178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1177 : BitVec 32 := 1#32
  let v1133 : BitVec 32 := Scalar.muli v27 c1_i32_1177
  let v1134 : BitVec 32 := Scalar.addi c0_i32_1178 v1133
  v1134.toNat
def k0_dev16 (d0 : Dev nD) : Nat :=
  let c0_i32_1193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1192 : BitVec 32 := 1#32
  let v1137 : BitVec 32 := Scalar.muli v16 c1_i32_1192
  let v1138 : BitVec 32 := Scalar.addi c0_i32_1193 v1137
  v1138.toNat
def k0_dev17 (d0 : Dev nD) : Nat :=
  let c0_i32_1289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1288 : BitVec 32 := 1#32
  let v1224 : BitVec 32 := Scalar.muli v16 c1_i32_1288
  let v1225 : BitVec 32 := Scalar.addi c0_i32_1289 v1224
  v1225.toNat
def k0_dev18 (d0 : Dev nD) : Nat :=
  let c0_i32_1304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1303 : BitVec 32 := 1#32
  let v1228 : BitVec 32 := Scalar.muli v27 c1_i32_1303
  let v1229 : BitVec 32 := Scalar.addi c0_i32_1304 v1228
  v1229.toNat
def k0_dev19 (d0 : Dev nD) : Nat :=
  let c0_i32_1400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1399 : BitVec 32 := 1#32
  let v1315 : BitVec 32 := Scalar.muli v27 c1_i32_1399
  let v1316 : BitVec 32 := Scalar.addi c0_i32_1400 v1315
  v1316.toNat
def k0_dev20 (d0 : Dev nD) : Nat :=
  let c0_i32_1415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1414 : BitVec 32 := 1#32
  let v1319 : BitVec 32 := Scalar.muli v16 c1_i32_1414
  let v1320 : BitVec 32 := Scalar.addi c0_i32_1415 v1319
  v1320.toNat
def k0_dev21 (d0 : Dev nD) : Nat :=
  let c0_i32_1511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1510 : BitVec 32 := 1#32
  let v1406 : BitVec 32 := Scalar.muli v16 c1_i32_1510
  let v1407 : BitVec 32 := Scalar.addi c0_i32_1511 v1406
  v1407.toNat
def k0_dev22 (d0 : Dev nD) : Nat :=
  let c0_i32_1526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1525 : BitVec 32 := 1#32
  let v1410 : BitVec 32 := Scalar.muli v27 c1_i32_1525
  let v1411 : BitVec 32 := Scalar.addi c0_i32_1526 v1410
  v1411.toNat
def k0_dev23 (d0 : Dev nD) : Nat :=
  let c0_i32_1622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1621 : BitVec 32 := 1#32
  let v1497 : BitVec 32 := Scalar.muli v27 c1_i32_1621
  let v1498 : BitVec 32 := Scalar.addi c0_i32_1622 v1497
  v1498.toNat
def k0_dev24 (d0 : Dev nD) : Nat :=
  let c0_i32_1637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1636 : BitVec 32 := 1#32
  let v1501 : BitVec 32 := Scalar.muli v16 c1_i32_1636
  let v1502 : BitVec 32 := Scalar.addi c0_i32_1637 v1501
  v1502.toNat
def k0_dev25 (d0 : Dev nD) : Nat :=
  let c0_i32_1733 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1732 : BitVec 32 := 1#32
  let v1588 : BitVec 32 := Scalar.muli v16 c1_i32_1732
  let v1589 : BitVec 32 := Scalar.addi c0_i32_1733 v1588
  v1589.toNat
def k0_dev26 (d0 : Dev nD) : Nat :=
  let c0_i32_1748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1747 : BitVec 32 := 1#32
  let v1592 : BitVec 32 := Scalar.muli v27 c1_i32_1747
  let v1593 : BitVec 32 := Scalar.addi c0_i32_1748 v1592
  v1593.toNat
def k0_dev27 (d0 : Dev nD) : Nat :=
  let c0_i32_1844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1843 : BitVec 32 := 1#32
  let v1679 : BitVec 32 := Scalar.muli v27 c1_i32_1843
  let v1680 : BitVec 32 := Scalar.addi c0_i32_1844 v1679
  v1680.toNat
def k0_dev28 (d0 : Dev nD) : Nat :=
  let c0_i32_1859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1858 : BitVec 32 := 1#32
  let v1683 : BitVec 32 := Scalar.muli v16 c1_i32_1858
  let v1684 : BitVec 32 := Scalar.addi c0_i32_1859 v1683
  v1684.toNat
def k0_dev29 (d0 : Dev nD) : Nat :=
  let c0_i32_1954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_1953 : BitVec 32 := 1#32
  let v1770 : BitVec 32 := Scalar.muli v16 c1_i32_1953
  let v1771 : BitVec 32 := Scalar.addi c0_i32_1954 v1770
  v1771.toNat
def k0_dev30 (d0 : Dev nD) : Nat :=
  let c0_i32_1969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_1968 : BitVec 32 := 1#32
  let v1774 : BitVec 32 := Scalar.muli v27 c1_i32_1968
  let v1775 : BitVec 32 := Scalar.addi c0_i32_1969 v1774
  v1775.toNat
def k0_dev31 (d0 : Dev nD) : Nat :=
  let c0_i32_2065 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2064 : BitVec 32 := 1#32
  let v1861 : BitVec 32 := Scalar.muli v27 c1_i32_2064
  let v1862 : BitVec 32 := Scalar.addi c0_i32_2065 v1861
  v1862.toNat
def k0_dev32 (d0 : Dev nD) : Nat :=
  let c0_i32_2080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2079 : BitVec 32 := 1#32
  let v1865 : BitVec 32 := Scalar.muli v16 c1_i32_2079
  let v1866 : BitVec 32 := Scalar.addi c0_i32_2080 v1865
  v1866.toNat
def k0_dev33 (d0 : Dev nD) : Nat :=
  let c0_i32_2176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2175 : BitVec 32 := 1#32
  let v1952 : BitVec 32 := Scalar.muli v16 c1_i32_2175
  let v1953 : BitVec 32 := Scalar.addi c0_i32_2176 v1952
  v1953.toNat
def k0_dev34 (d0 : Dev nD) : Nat :=
  let c0_i32_2191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2190 : BitVec 32 := 1#32
  let v1956 : BitVec 32 := Scalar.muli v27 c1_i32_2190
  let v1957 : BitVec 32 := Scalar.addi c0_i32_2191 v1956
  v1957.toNat
def k0_dev35 (d0 : Dev nD) : Nat :=
  let c0_i32_2287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2286 : BitVec 32 := 1#32
  let v2043 : BitVec 32 := Scalar.muli v27 c1_i32_2286
  let v2044 : BitVec 32 := Scalar.addi c0_i32_2287 v2043
  v2044.toNat
def k0_dev36 (d0 : Dev nD) : Nat :=
  let c0_i32_2302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2301 : BitVec 32 := 1#32
  let v2047 : BitVec 32 := Scalar.muli v16 c1_i32_2301
  let v2048 : BitVec 32 := Scalar.addi c0_i32_2302 v2047
  v2048.toNat
def k0_dev37 (d0 : Dev nD) : Nat :=
  let c0_i32_2398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2397 : BitVec 32 := 1#32
  let v2134 : BitVec 32 := Scalar.muli v16 c1_i32_2397
  let v2135 : BitVec 32 := Scalar.addi c0_i32_2398 v2134
  v2135.toNat
def k0_dev38 (d0 : Dev nD) : Nat :=
  let c0_i32_2413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2412 : BitVec 32 := 1#32
  let v2138 : BitVec 32 := Scalar.muli v27 c1_i32_2412
  let v2139 : BitVec 32 := Scalar.addi c0_i32_2413 v2138
  v2139.toNat
def k0_dev39 (d0 : Dev nD) : Nat :=
  let c0_i32_2509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2508 : BitVec 32 := 1#32
  let v2225 : BitVec 32 := Scalar.muli v27 c1_i32_2508
  let v2226 : BitVec 32 := Scalar.addi c0_i32_2509 v2225
  v2226.toNat
def k0_dev40 (d0 : Dev nD) : Nat :=
  let c0_i32_2524 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2523 : BitVec 32 := 1#32
  let v2229 : BitVec 32 := Scalar.muli v16 c1_i32_2523
  let v2230 : BitVec 32 := Scalar.addi c0_i32_2524 v2229
  v2230.toNat
def k0_dev41 (d0 : Dev nD) : Nat :=
  let c0_i32_2620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2619 : BitVec 32 := 1#32
  let v2316 : BitVec 32 := Scalar.muli v16 c1_i32_2619
  let v2317 : BitVec 32 := Scalar.addi c0_i32_2620 v2316
  v2317.toNat
def k0_dev42 (d0 : Dev nD) : Nat :=
  let c0_i32_2635 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2634 : BitVec 32 := 1#32
  let v2320 : BitVec 32 := Scalar.muli v27 c1_i32_2634
  let v2321 : BitVec 32 := Scalar.addi c0_i32_2635 v2320
  v2321.toNat
def k0_dev43 (d0 : Dev nD) : Nat :=
  let c0_i32_2731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2730 : BitVec 32 := 1#32
  let v2407 : BitVec 32 := Scalar.muli v27 c1_i32_2730
  let v2408 : BitVec 32 := Scalar.addi c0_i32_2731 v2407
  v2408.toNat
def k0_dev44 (d0 : Dev nD) : Nat :=
  let c0_i32_2746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2745 : BitVec 32 := 1#32
  let v2411 : BitVec 32 := Scalar.muli v16 c1_i32_2745
  let v2412 : BitVec 32 := Scalar.addi c0_i32_2746 v2411
  v2412.toNat
def k0_off9 (d0 : Dev nD) (c0_i32_2767 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2751 : BitVec 32 := 1#32
  let v2421 : BitVec 32 := Scalar.addi v2 c1_i32_2751
  let c4_i32_2752 : BitVec 32 := 4#32
  let c0_i32_2753 : BitVec 32 := 0#32
  let v2422 : BitVec 1 := Scalar.cmpi .eq c4_i32_2752 c0_i32_2753
  let c1_i32_2754 : BitVec 32 := 1#32
  let v2423 : BitVec 32 := Scalar.select v2422 c1_i32_2754 c4_i32_2752
  let v2424 : BitVec 32 := Scalar.remsi v2421 v2423
  let c0_i32_2756 : BitVec 32 := 0#32
  let v2426 : BitVec 1 := Scalar.cmpi .slt v2424 c0_i32_2756
  let c0_i32_2757 : BitVec 32 := 0#32
  let v2427 : BitVec 1 := Scalar.cmpi .slt v2423 c0_i32_2757
  let v2428 : BitVec 1 := Scalar.xori v2426 v2427
  let c0_i32_2755 : BitVec 32 := 0#32
  let v2425 : BitVec 1 := Scalar.cmpi .ne v2424 c0_i32_2755
  let v2429 : BitVec 1 := Scalar.andi v2428 v2425
  let v2430 : BitVec 32 := Scalar.addi v2424 v2423
  let v2431 : BitVec 32 := Scalar.select v2429 v2430 v2424
  let c1024_i32_2766 : BitVec 32 := 1024#32
  let v2442 : BitVec 32 := Scalar.muli v2431 c1024_i32_2766
  let v2443 : BitVec 32 := Scalar.addi v2442 c0_i32_2767
  let c0_i32_2770 : BitVec 32 := 0#32
  ![v2443.toNat, 0]
def k0_off10 (d0 : Dev nD) (c0_i32_2787 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2751 : BitVec 32 := 1#32
  let v2421 : BitVec 32 := Scalar.addi v2 c1_i32_2751
  let c4_i32_2752 : BitVec 32 := 4#32
  let c0_i32_2753 : BitVec 32 := 0#32
  let v2422 : BitVec 1 := Scalar.cmpi .eq c4_i32_2752 c0_i32_2753
  let c1_i32_2754 : BitVec 32 := 1#32
  let v2423 : BitVec 32 := Scalar.select v2422 c1_i32_2754 c4_i32_2752
  let v2424 : BitVec 32 := Scalar.remsi v2421 v2423
  let c0_i32_2756 : BitVec 32 := 0#32
  let v2426 : BitVec 1 := Scalar.cmpi .slt v2424 c0_i32_2756
  let c0_i32_2757 : BitVec 32 := 0#32
  let v2427 : BitVec 1 := Scalar.cmpi .slt v2423 c0_i32_2757
  let v2428 : BitVec 1 := Scalar.xori v2426 v2427
  let c0_i32_2755 : BitVec 32 := 0#32
  let v2425 : BitVec 1 := Scalar.cmpi .ne v2424 c0_i32_2755
  let v2429 : BitVec 1 := Scalar.andi v2428 v2425
  let v2430 : BitVec 32 := Scalar.addi v2424 v2423
  let v2431 : BitVec 32 := Scalar.select v2429 v2430 v2424
  let c1024_i32_2786 : BitVec 32 := 1024#32
  let v2464 : BitVec 32 := Scalar.muli v2431 c1024_i32_2786
  let v2465 : BitVec 32 := Scalar.addi v2464 c0_i32_2787
  let c1024_i32_2790 : BitVec 32 := 1024#32
  ![v2465.toNat, 1024]
def k0_off11 (d0 : Dev nD) (c0_i32_2807 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2751 : BitVec 32 := 1#32
  let v2421 : BitVec 32 := Scalar.addi v2 c1_i32_2751
  let c4_i32_2752 : BitVec 32 := 4#32
  let c0_i32_2753 : BitVec 32 := 0#32
  let v2422 : BitVec 1 := Scalar.cmpi .eq c4_i32_2752 c0_i32_2753
  let c1_i32_2754 : BitVec 32 := 1#32
  let v2423 : BitVec 32 := Scalar.select v2422 c1_i32_2754 c4_i32_2752
  let v2424 : BitVec 32 := Scalar.remsi v2421 v2423
  let c0_i32_2756 : BitVec 32 := 0#32
  let v2426 : BitVec 1 := Scalar.cmpi .slt v2424 c0_i32_2756
  let c0_i32_2757 : BitVec 32 := 0#32
  let v2427 : BitVec 1 := Scalar.cmpi .slt v2423 c0_i32_2757
  let v2428 : BitVec 1 := Scalar.xori v2426 v2427
  let c0_i32_2755 : BitVec 32 := 0#32
  let v2425 : BitVec 1 := Scalar.cmpi .ne v2424 c0_i32_2755
  let v2429 : BitVec 1 := Scalar.andi v2428 v2425
  let v2430 : BitVec 32 := Scalar.addi v2424 v2423
  let v2431 : BitVec 32 := Scalar.select v2429 v2430 v2424
  let c1024_i32_2806 : BitVec 32 := 1024#32
  let v2486 : BitVec 32 := Scalar.muli v2431 c1024_i32_2806
  let v2487 : BitVec 32 := Scalar.addi v2486 c0_i32_2807
  let c2048_i32_2810 : BitVec 32 := 2048#32
  ![v2487.toNat, 2048]
def k0_off12 (d0 : Dev nD) (c0_i32_2827 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2751 : BitVec 32 := 1#32
  let v2421 : BitVec 32 := Scalar.addi v2 c1_i32_2751
  let c4_i32_2752 : BitVec 32 := 4#32
  let c0_i32_2753 : BitVec 32 := 0#32
  let v2422 : BitVec 1 := Scalar.cmpi .eq c4_i32_2752 c0_i32_2753
  let c1_i32_2754 : BitVec 32 := 1#32
  let v2423 : BitVec 32 := Scalar.select v2422 c1_i32_2754 c4_i32_2752
  let v2424 : BitVec 32 := Scalar.remsi v2421 v2423
  let c0_i32_2756 : BitVec 32 := 0#32
  let v2426 : BitVec 1 := Scalar.cmpi .slt v2424 c0_i32_2756
  let c0_i32_2757 : BitVec 32 := 0#32
  let v2427 : BitVec 1 := Scalar.cmpi .slt v2423 c0_i32_2757
  let v2428 : BitVec 1 := Scalar.xori v2426 v2427
  let c0_i32_2755 : BitVec 32 := 0#32
  let v2425 : BitVec 1 := Scalar.cmpi .ne v2424 c0_i32_2755
  let v2429 : BitVec 1 := Scalar.andi v2428 v2425
  let v2430 : BitVec 32 := Scalar.addi v2424 v2423
  let v2431 : BitVec 32 := Scalar.select v2429 v2430 v2424
  let c1024_i32_2826 : BitVec 32 := 1024#32
  let v2508 : BitVec 32 := Scalar.muli v2431 c1024_i32_2826
  let v2509 : BitVec 32 := Scalar.addi v2508 c0_i32_2827
  let c3072_i32_2830 : BitVec 32 := 3072#32
  ![v2509.toNat, 3072]
def k0_dev45 (d0 : Dev nD) : Nat :=
  let c0_i32_2923 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_2922 : BitVec 32 := 1#32
  let v2592 : BitVec 32 := Scalar.muli v16 c1_i32_2922
  let v2593 : BitVec 32 := Scalar.addi c0_i32_2923 v2592
  v2593.toNat
def k0_dev46 (d0 : Dev nD) : Nat :=
  let c0_i32_2938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_2937 : BitVec 32 := 1#32
  let v2596 : BitVec 32 := Scalar.muli v27 c1_i32_2937
  let v2597 : BitVec 32 := Scalar.addi c0_i32_2938 v2596
  v2597.toNat
def k0_off13 (d0 : Dev nD) (c0_i32_2959 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_2943 : BitVec 32 := 4294967295#32
  let v2606 : BitVec 32 := Scalar.addi v2 c_m1_i32_2943
  let c4_i32_2944 : BitVec 32 := 4#32
  let c0_i32_2945 : BitVec 32 := 0#32
  let v2607 : BitVec 1 := Scalar.cmpi .eq c4_i32_2944 c0_i32_2945
  let c1_i32_2946 : BitVec 32 := 1#32
  let v2608 : BitVec 32 := Scalar.select v2607 c1_i32_2946 c4_i32_2944
  let v2609 : BitVec 32 := Scalar.remsi v2606 v2608
  let c0_i32_2948 : BitVec 32 := 0#32
  let v2611 : BitVec 1 := Scalar.cmpi .slt v2609 c0_i32_2948
  let c0_i32_2949 : BitVec 32 := 0#32
  let v2612 : BitVec 1 := Scalar.cmpi .slt v2608 c0_i32_2949
  let v2613 : BitVec 1 := Scalar.xori v2611 v2612
  let c0_i32_2947 : BitVec 32 := 0#32
  let v2610 : BitVec 1 := Scalar.cmpi .ne v2609 c0_i32_2947
  let v2614 : BitVec 1 := Scalar.andi v2613 v2610
  let v2615 : BitVec 32 := Scalar.addi v2609 v2608
  let v2616 : BitVec 32 := Scalar.select v2614 v2615 v2609
  let c1024_i32_2958 : BitVec 32 := 1024#32
  let v2627 : BitVec 32 := Scalar.muli v2616 c1024_i32_2958
  let v2628 : BitVec 32 := Scalar.addi v2627 c0_i32_2959
  let c4096_i32_2962 : BitVec 32 := 4096#32
  ![v2628.toNat, 4096]
def k0_off14 (d0 : Dev nD) (c0_i32_2979 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_2943 : BitVec 32 := 4294967295#32
  let v2606 : BitVec 32 := Scalar.addi v2 c_m1_i32_2943
  let c4_i32_2944 : BitVec 32 := 4#32
  let c0_i32_2945 : BitVec 32 := 0#32
  let v2607 : BitVec 1 := Scalar.cmpi .eq c4_i32_2944 c0_i32_2945
  let c1_i32_2946 : BitVec 32 := 1#32
  let v2608 : BitVec 32 := Scalar.select v2607 c1_i32_2946 c4_i32_2944
  let v2609 : BitVec 32 := Scalar.remsi v2606 v2608
  let c0_i32_2948 : BitVec 32 := 0#32
  let v2611 : BitVec 1 := Scalar.cmpi .slt v2609 c0_i32_2948
  let c0_i32_2949 : BitVec 32 := 0#32
  let v2612 : BitVec 1 := Scalar.cmpi .slt v2608 c0_i32_2949
  let v2613 : BitVec 1 := Scalar.xori v2611 v2612
  let c0_i32_2947 : BitVec 32 := 0#32
  let v2610 : BitVec 1 := Scalar.cmpi .ne v2609 c0_i32_2947
  let v2614 : BitVec 1 := Scalar.andi v2613 v2610
  let v2615 : BitVec 32 := Scalar.addi v2609 v2608
  let v2616 : BitVec 32 := Scalar.select v2614 v2615 v2609
  let c1024_i32_2978 : BitVec 32 := 1024#32
  let v2649 : BitVec 32 := Scalar.muli v2616 c1024_i32_2978
  let v2650 : BitVec 32 := Scalar.addi v2649 c0_i32_2979
  let c5120_i32_2982 : BitVec 32 := 5120#32
  ![v2650.toNat, 5120]
def k0_off15 (d0 : Dev nD) (c0_i32_2999 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_2943 : BitVec 32 := 4294967295#32
  let v2606 : BitVec 32 := Scalar.addi v2 c_m1_i32_2943
  let c4_i32_2944 : BitVec 32 := 4#32
  let c0_i32_2945 : BitVec 32 := 0#32
  let v2607 : BitVec 1 := Scalar.cmpi .eq c4_i32_2944 c0_i32_2945
  let c1_i32_2946 : BitVec 32 := 1#32
  let v2608 : BitVec 32 := Scalar.select v2607 c1_i32_2946 c4_i32_2944
  let v2609 : BitVec 32 := Scalar.remsi v2606 v2608
  let c0_i32_2948 : BitVec 32 := 0#32
  let v2611 : BitVec 1 := Scalar.cmpi .slt v2609 c0_i32_2948
  let c0_i32_2949 : BitVec 32 := 0#32
  let v2612 : BitVec 1 := Scalar.cmpi .slt v2608 c0_i32_2949
  let v2613 : BitVec 1 := Scalar.xori v2611 v2612
  let c0_i32_2947 : BitVec 32 := 0#32
  let v2610 : BitVec 1 := Scalar.cmpi .ne v2609 c0_i32_2947
  let v2614 : BitVec 1 := Scalar.andi v2613 v2610
  let v2615 : BitVec 32 := Scalar.addi v2609 v2608
  let v2616 : BitVec 32 := Scalar.select v2614 v2615 v2609
  let c1024_i32_2998 : BitVec 32 := 1024#32
  let v2671 : BitVec 32 := Scalar.muli v2616 c1024_i32_2998
  let v2672 : BitVec 32 := Scalar.addi v2671 c0_i32_2999
  let c6144_i32_3002 : BitVec 32 := 6144#32
  ![v2672.toNat, 6144]
def k0_off16 (d0 : Dev nD) (c0_i32_3019 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_2943 : BitVec 32 := 4294967295#32
  let v2606 : BitVec 32 := Scalar.addi v2 c_m1_i32_2943
  let c4_i32_2944 : BitVec 32 := 4#32
  let c0_i32_2945 : BitVec 32 := 0#32
  let v2607 : BitVec 1 := Scalar.cmpi .eq c4_i32_2944 c0_i32_2945
  let c1_i32_2946 : BitVec 32 := 1#32
  let v2608 : BitVec 32 := Scalar.select v2607 c1_i32_2946 c4_i32_2944
  let v2609 : BitVec 32 := Scalar.remsi v2606 v2608
  let c0_i32_2948 : BitVec 32 := 0#32
  let v2611 : BitVec 1 := Scalar.cmpi .slt v2609 c0_i32_2948
  let c0_i32_2949 : BitVec 32 := 0#32
  let v2612 : BitVec 1 := Scalar.cmpi .slt v2608 c0_i32_2949
  let v2613 : BitVec 1 := Scalar.xori v2611 v2612
  let c0_i32_2947 : BitVec 32 := 0#32
  let v2610 : BitVec 1 := Scalar.cmpi .ne v2609 c0_i32_2947
  let v2614 : BitVec 1 := Scalar.andi v2613 v2610
  let v2615 : BitVec 32 := Scalar.addi v2609 v2608
  let v2616 : BitVec 32 := Scalar.select v2614 v2615 v2609
  let c1024_i32_3018 : BitVec 32 := 1024#32
  let v2693 : BitVec 32 := Scalar.muli v2616 c1024_i32_3018
  let v2694 : BitVec 32 := Scalar.addi v2693 c0_i32_3019
  let c7168_i32_3022 : BitVec 32 := 7168#32
  ![v2694.toNat, 7168]
def k0_dev47 (d0 : Dev nD) : Nat :=
  let c0_i32_3116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_3115 : BitVec 32 := 1#32
  let v2777 : BitVec 32 := Scalar.muli v27 c1_i32_3115
  let v2778 : BitVec 32 := Scalar.addi c0_i32_3116 v2777
  v2778.toNat
def k0_dev48 (d0 : Dev nD) : Nat :=
  let c0_i32_3131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_3130 : BitVec 32 := 1#32
  let v2781 : BitVec 32 := Scalar.muli v16 c1_i32_3130
  let v2782 : BitVec 32 := Scalar.addi c0_i32_3131 v2781
  v2782.toNat
def k0_dev49 (d0 : Dev nD) : Nat :=
  let c0_i32_3314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_3313 : BitVec 32 := 1#32
  let v2967 : BitVec 32 := Scalar.muli v16 c1_i32_3313
  let v2968 : BitVec 32 := Scalar.addi c0_i32_3314 v2967
  v2968.toNat
def k0_dev50 (d0 : Dev nD) : Nat :=
  let c0_i32_3329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_3328 : BitVec 32 := 1#32
  let v2971 : BitVec 32 := Scalar.muli v27 c1_i32_3328
  let v2972 : BitVec 32 := Scalar.addi c0_i32_3329 v2971
  v2972.toNat
def k0_dev51 (d0 : Dev nD) : Nat :=
  let c0_i32_3512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_3511 : BitVec 32 := 1#32
  let v3157 : BitVec 32 := Scalar.muli v27 c1_i32_3511
  let v3158 : BitVec 32 := Scalar.addi c0_i32_3512 v3157
  v3158.toNat
def k0_dev52 (d0 : Dev nD) : Nat :=
  let c0_i32_3527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_3526 : BitVec 32 := 1#32
  let v3161 : BitVec 32 := Scalar.muli v16 c1_i32_3526
  let v3162 : BitVec 32 := Scalar.addi c0_i32_3527 v3161
  v3162.toNat
def k0_dev53 (d0 : Dev nD) : Nat :=
  let c0_i32_3710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_3709 : BitVec 32 := 1#32
  let v3347 : BitVec 32 := Scalar.muli v16 c1_i32_3709
  let v3348 : BitVec 32 := Scalar.addi c0_i32_3710 v3347
  v3348.toNat
def k0_dev54 (d0 : Dev nD) : Nat :=
  let c0_i32_3725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_3724 : BitVec 32 := 1#32
  let v3351 : BitVec 32 := Scalar.muli v27 c1_i32_3724
  let v3352 : BitVec 32 := Scalar.addi c0_i32_3725 v3351
  v3352.toNat
def k0_dev55 (d0 : Dev nD) : Nat :=
  let c0_i32_3908 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_3907 : BitVec 32 := 1#32
  let v3537 : BitVec 32 := Scalar.muli v27 c1_i32_3907
  let v3538 : BitVec 32 := Scalar.addi c0_i32_3908 v3537
  v3538.toNat
def k0_dev56 (d0 : Dev nD) : Nat :=
  let c0_i32_3923 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_3922 : BitVec 32 := 1#32
  let v3541 : BitVec 32 := Scalar.muli v16 c1_i32_3922
  let v3542 : BitVec 32 := Scalar.addi c0_i32_3923 v3541
  v3542.toNat
def k0_dev57 (d0 : Dev nD) : Nat :=
  let c0_i32_4106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_4105 : BitVec 32 := 1#32
  let v3727 : BitVec 32 := Scalar.muli v16 c1_i32_4105
  let v3728 : BitVec 32 := Scalar.addi c0_i32_4106 v3727
  v3728.toNat
def k0_dev58 (d0 : Dev nD) : Nat :=
  let c0_i32_4121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_4120 : BitVec 32 := 1#32
  let v3731 : BitVec 32 := Scalar.muli v27 c1_i32_4120
  let v3732 : BitVec 32 := Scalar.addi c0_i32_4121 v3731
  v3732.toNat
def k0_dev59 (d0 : Dev nD) : Nat :=
  let c0_i32_4247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_4246 : BitVec 32 := 1#32
  let v3856 : BitVec 32 := Scalar.muli v27 c1_i32_4246
  let v3857 : BitVec 32 := Scalar.addi c0_i32_4247 v3856
  v3857.toNat
def k0_dev60 (d0 : Dev nD) : Nat :=
  let c0_i32_4262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_4261 : BitVec 32 := 1#32
  let v3860 : BitVec 32 := Scalar.muli v16 c1_i32_4261
  let v3861 : BitVec 32 := Scalar.addi c0_i32_4262 v3860
  v3861.toNat
def k0_off17 (d0 : Dev nD) (c0_i32_4267 : BitVec 32) (c0_i32_4288 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3870 : BitVec 32 := Scalar.subi v2 c0_i32_4267
  let c4_i32_4268 : BitVec 32 := 4#32
  let c0_i32_4269 : BitVec 32 := 0#32
  let v3871 : BitVec 1 := Scalar.cmpi .eq c4_i32_4268 c0_i32_4269
  let c1_i32_4270 : BitVec 32 := 1#32
  let v3872 : BitVec 32 := Scalar.select v3871 c1_i32_4270 c4_i32_4268
  let v3873 : BitVec 32 := Scalar.remsi v3870 v3872
  let c0_i32_4272 : BitVec 32 := 0#32
  let v3875 : BitVec 1 := Scalar.cmpi .slt v3873 c0_i32_4272
  let c0_i32_4273 : BitVec 32 := 0#32
  let v3876 : BitVec 1 := Scalar.cmpi .slt v3872 c0_i32_4273
  let v3877 : BitVec 1 := Scalar.xori v3875 v3876
  let c0_i32_4271 : BitVec 32 := 0#32
  let v3874 : BitVec 1 := Scalar.cmpi .ne v3873 c0_i32_4271
  let v3878 : BitVec 1 := Scalar.andi v3877 v3874
  let v3879 : BitVec 32 := Scalar.addi v3873 v3872
  let v3880 : BitVec 32 := Scalar.select v3878 v3879 v3873
  let c1024_i32_4287 : BitVec 32 := 1024#32
  let v3896 : BitVec 32 := Scalar.muli v3880 c1024_i32_4287
  let v3897 : BitVec 32 := Scalar.addi v3896 c0_i32_4288
  let c0_i32_4291 : BitVec 32 := 0#32
  ![v3897.toNat, 0]
def k0_off18 (d0 : Dev nD) (c0_i32_4267 : BitVec 32) (c0_i32_4308 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3870 : BitVec 32 := Scalar.subi v2 c0_i32_4267
  let c4_i32_4268 : BitVec 32 := 4#32
  let c0_i32_4269 : BitVec 32 := 0#32
  let v3871 : BitVec 1 := Scalar.cmpi .eq c4_i32_4268 c0_i32_4269
  let c1_i32_4270 : BitVec 32 := 1#32
  let v3872 : BitVec 32 := Scalar.select v3871 c1_i32_4270 c4_i32_4268
  let v3873 : BitVec 32 := Scalar.remsi v3870 v3872
  let c0_i32_4272 : BitVec 32 := 0#32
  let v3875 : BitVec 1 := Scalar.cmpi .slt v3873 c0_i32_4272
  let c0_i32_4273 : BitVec 32 := 0#32
  let v3876 : BitVec 1 := Scalar.cmpi .slt v3872 c0_i32_4273
  let v3877 : BitVec 1 := Scalar.xori v3875 v3876
  let c0_i32_4271 : BitVec 32 := 0#32
  let v3874 : BitVec 1 := Scalar.cmpi .ne v3873 c0_i32_4271
  let v3878 : BitVec 1 := Scalar.andi v3877 v3874
  let v3879 : BitVec 32 := Scalar.addi v3873 v3872
  let v3880 : BitVec 32 := Scalar.select v3878 v3879 v3873
  let c1024_i32_4307 : BitVec 32 := 1024#32
  let v3918 : BitVec 32 := Scalar.muli v3880 c1024_i32_4307
  let v3919 : BitVec 32 := Scalar.addi v3918 c0_i32_4308
  let c1024_i32_4311 : BitVec 32 := 1024#32
  ![v3919.toNat, 1024]
def k0_off19 (d0 : Dev nD) (c0_i32_4267 : BitVec 32) (c0_i32_4328 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3870 : BitVec 32 := Scalar.subi v2 c0_i32_4267
  let c4_i32_4268 : BitVec 32 := 4#32
  let c0_i32_4269 : BitVec 32 := 0#32
  let v3871 : BitVec 1 := Scalar.cmpi .eq c4_i32_4268 c0_i32_4269
  let c1_i32_4270 : BitVec 32 := 1#32
  let v3872 : BitVec 32 := Scalar.select v3871 c1_i32_4270 c4_i32_4268
  let v3873 : BitVec 32 := Scalar.remsi v3870 v3872
  let c0_i32_4272 : BitVec 32 := 0#32
  let v3875 : BitVec 1 := Scalar.cmpi .slt v3873 c0_i32_4272
  let c0_i32_4273 : BitVec 32 := 0#32
  let v3876 : BitVec 1 := Scalar.cmpi .slt v3872 c0_i32_4273
  let v3877 : BitVec 1 := Scalar.xori v3875 v3876
  let c0_i32_4271 : BitVec 32 := 0#32
  let v3874 : BitVec 1 := Scalar.cmpi .ne v3873 c0_i32_4271
  let v3878 : BitVec 1 := Scalar.andi v3877 v3874
  let v3879 : BitVec 32 := Scalar.addi v3873 v3872
  let v3880 : BitVec 32 := Scalar.select v3878 v3879 v3873
  let c1024_i32_4327 : BitVec 32 := 1024#32
  let v3940 : BitVec 32 := Scalar.muli v3880 c1024_i32_4327
  let v3941 : BitVec 32 := Scalar.addi v3940 c0_i32_4328
  let c2048_i32_4331 : BitVec 32 := 2048#32
  ![v3941.toNat, 2048]
def k0_off20 (d0 : Dev nD) (c0_i32_4267 : BitVec 32) (c0_i32_4348 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3870 : BitVec 32 := Scalar.subi v2 c0_i32_4267
  let c4_i32_4268 : BitVec 32 := 4#32
  let c0_i32_4269 : BitVec 32 := 0#32
  let v3871 : BitVec 1 := Scalar.cmpi .eq c4_i32_4268 c0_i32_4269
  let c1_i32_4270 : BitVec 32 := 1#32
  let v3872 : BitVec 32 := Scalar.select v3871 c1_i32_4270 c4_i32_4268
  let v3873 : BitVec 32 := Scalar.remsi v3870 v3872
  let c0_i32_4272 : BitVec 32 := 0#32
  let v3875 : BitVec 1 := Scalar.cmpi .slt v3873 c0_i32_4272
  let c0_i32_4273 : BitVec 32 := 0#32
  let v3876 : BitVec 1 := Scalar.cmpi .slt v3872 c0_i32_4273
  let v3877 : BitVec 1 := Scalar.xori v3875 v3876
  let c0_i32_4271 : BitVec 32 := 0#32
  let v3874 : BitVec 1 := Scalar.cmpi .ne v3873 c0_i32_4271
  let v3878 : BitVec 1 := Scalar.andi v3877 v3874
  let v3879 : BitVec 32 := Scalar.addi v3873 v3872
  let v3880 : BitVec 32 := Scalar.select v3878 v3879 v3873
  let c1024_i32_4347 : BitVec 32 := 1024#32
  let v3962 : BitVec 32 := Scalar.muli v3880 c1024_i32_4347
  let v3963 : BitVec 32 := Scalar.addi v3962 c0_i32_4348
  let c3072_i32_4351 : BitVec 32 := 3072#32
  ![v3963.toNat, 3072]
def k0_dev61 (d0 : Dev nD) : Nat :=
  let c0_i32_4388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_4387 : BitVec 32 := 1#32
  let v3985 : BitVec 32 := Scalar.muli v16 c1_i32_4387
  let v3986 : BitVec 32 := Scalar.addi c0_i32_4388 v3985
  v3986.toNat
def k0_dev62 (d0 : Dev nD) : Nat :=
  let c0_i32_4403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_4402 : BitVec 32 := 1#32
  let v3989 : BitVec 32 := Scalar.muli v27 c1_i32_4402
  let v3990 : BitVec 32 := Scalar.addi c0_i32_4403 v3989
  v3990.toNat
def k0_off21 (d0 : Dev nD) (c0_i32_4408 : BitVec 32) (c0_i32_4429 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3999 : BitVec 32 := Scalar.subi v2 c0_i32_4408
  let c4_i32_4409 : BitVec 32 := 4#32
  let c0_i32_4410 : BitVec 32 := 0#32
  let v4000 : BitVec 1 := Scalar.cmpi .eq c4_i32_4409 c0_i32_4410
  let c1_i32_4411 : BitVec 32 := 1#32
  let v4001 : BitVec 32 := Scalar.select v4000 c1_i32_4411 c4_i32_4409
  let v4002 : BitVec 32 := Scalar.remsi v3999 v4001
  let c0_i32_4413 : BitVec 32 := 0#32
  let v4004 : BitVec 1 := Scalar.cmpi .slt v4002 c0_i32_4413
  let c0_i32_4414 : BitVec 32 := 0#32
  let v4005 : BitVec 1 := Scalar.cmpi .slt v4001 c0_i32_4414
  let v4006 : BitVec 1 := Scalar.xori v4004 v4005
  let c0_i32_4412 : BitVec 32 := 0#32
  let v4003 : BitVec 1 := Scalar.cmpi .ne v4002 c0_i32_4412
  let v4007 : BitVec 1 := Scalar.andi v4006 v4003
  let v4008 : BitVec 32 := Scalar.addi v4002 v4001
  let v4009 : BitVec 32 := Scalar.select v4007 v4008 v4002
  let c1024_i32_4428 : BitVec 32 := 1024#32
  let v4025 : BitVec 32 := Scalar.muli v4009 c1024_i32_4428
  let v4026 : BitVec 32 := Scalar.addi v4025 c0_i32_4429
  let c4096_i32_4432 : BitVec 32 := 4096#32
  ![v4026.toNat, 4096]
def k0_off21_at (r : Fin 12) : BitVec 32 × BitVec 32 :=
  if r.val < 6 then
    if r.val < 3 then
      if r.val < 1 then
        (0#32, 0#32)
      else
        if r.val < 2 then
          (0#32, 256#32)
        else
          (0#32, 512#32)
    else
      if r.val < 4 then
        (0#32, 768#32)
      else
        if r.val < 5 then
          (4294967295#32, 0#32)
        else
          (4294967295#32, 256#32)
  else
    if r.val < 9 then
      if r.val < 7 then
        (4294967295#32, 512#32)
      else
        if r.val < 8 then
          (4294967295#32, 768#32)
        else
          (4294967294#32, 0#32)
    else
      if r.val < 10 then
        (4294967294#32, 256#32)
      else
        if r.val < 11 then
          (4294967294#32, 512#32)
        else
          (4294967294#32, 768#32)
def k0_off22 (d0 : Dev nD) (c0_i32_4408 : BitVec 32) (c0_i32_4449 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3999 : BitVec 32 := Scalar.subi v2 c0_i32_4408
  let c4_i32_4409 : BitVec 32 := 4#32
  let c0_i32_4410 : BitVec 32 := 0#32
  let v4000 : BitVec 1 := Scalar.cmpi .eq c4_i32_4409 c0_i32_4410
  let c1_i32_4411 : BitVec 32 := 1#32
  let v4001 : BitVec 32 := Scalar.select v4000 c1_i32_4411 c4_i32_4409
  let v4002 : BitVec 32 := Scalar.remsi v3999 v4001
  let c0_i32_4413 : BitVec 32 := 0#32
  let v4004 : BitVec 1 := Scalar.cmpi .slt v4002 c0_i32_4413
  let c0_i32_4414 : BitVec 32 := 0#32
  let v4005 : BitVec 1 := Scalar.cmpi .slt v4001 c0_i32_4414
  let v4006 : BitVec 1 := Scalar.xori v4004 v4005
  let c0_i32_4412 : BitVec 32 := 0#32
  let v4003 : BitVec 1 := Scalar.cmpi .ne v4002 c0_i32_4412
  let v4007 : BitVec 1 := Scalar.andi v4006 v4003
  let v4008 : BitVec 32 := Scalar.addi v4002 v4001
  let v4009 : BitVec 32 := Scalar.select v4007 v4008 v4002
  let c1024_i32_4448 : BitVec 32 := 1024#32
  let v4047 : BitVec 32 := Scalar.muli v4009 c1024_i32_4448
  let v4048 : BitVec 32 := Scalar.addi v4047 c0_i32_4449
  let c5120_i32_4452 : BitVec 32 := 5120#32
  ![v4048.toNat, 5120]
def k0_off22_at (r : Fin 12) : BitVec 32 × BitVec 32 :=
  if r.val < 6 then
    if r.val < 3 then
      if r.val < 1 then
        (0#32, 0#32)
      else
        if r.val < 2 then
          (0#32, 256#32)
        else
          (0#32, 512#32)
    else
      if r.val < 4 then
        (0#32, 768#32)
      else
        if r.val < 5 then
          (4294967295#32, 0#32)
        else
          (4294967295#32, 256#32)
  else
    if r.val < 9 then
      if r.val < 7 then
        (4294967295#32, 512#32)
      else
        if r.val < 8 then
          (4294967295#32, 768#32)
        else
          (4294967294#32, 0#32)
    else
      if r.val < 10 then
        (4294967294#32, 256#32)
      else
        if r.val < 11 then
          (4294967294#32, 512#32)
        else
          (4294967294#32, 768#32)
def k0_off23 (d0 : Dev nD) (c0_i32_4408 : BitVec 32) (c0_i32_4469 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3999 : BitVec 32 := Scalar.subi v2 c0_i32_4408
  let c4_i32_4409 : BitVec 32 := 4#32
  let c0_i32_4410 : BitVec 32 := 0#32
  let v4000 : BitVec 1 := Scalar.cmpi .eq c4_i32_4409 c0_i32_4410
  let c1_i32_4411 : BitVec 32 := 1#32
  let v4001 : BitVec 32 := Scalar.select v4000 c1_i32_4411 c4_i32_4409
  let v4002 : BitVec 32 := Scalar.remsi v3999 v4001
  let c0_i32_4413 : BitVec 32 := 0#32
  let v4004 : BitVec 1 := Scalar.cmpi .slt v4002 c0_i32_4413
  let c0_i32_4414 : BitVec 32 := 0#32
  let v4005 : BitVec 1 := Scalar.cmpi .slt v4001 c0_i32_4414
  let v4006 : BitVec 1 := Scalar.xori v4004 v4005
  let c0_i32_4412 : BitVec 32 := 0#32
  let v4003 : BitVec 1 := Scalar.cmpi .ne v4002 c0_i32_4412
  let v4007 : BitVec 1 := Scalar.andi v4006 v4003
  let v4008 : BitVec 32 := Scalar.addi v4002 v4001
  let v4009 : BitVec 32 := Scalar.select v4007 v4008 v4002
  let c1024_i32_4468 : BitVec 32 := 1024#32
  let v4069 : BitVec 32 := Scalar.muli v4009 c1024_i32_4468
  let v4070 : BitVec 32 := Scalar.addi v4069 c0_i32_4469
  let c6144_i32_4472 : BitVec 32 := 6144#32
  ![v4070.toNat, 6144]
def k0_off23_at (r : Fin 12) : BitVec 32 × BitVec 32 :=
  if r.val < 6 then
    if r.val < 3 then
      if r.val < 1 then
        (0#32, 0#32)
      else
        if r.val < 2 then
          (0#32, 256#32)
        else
          (0#32, 512#32)
    else
      if r.val < 4 then
        (0#32, 768#32)
      else
        if r.val < 5 then
          (4294967295#32, 0#32)
        else
          (4294967295#32, 256#32)
  else
    if r.val < 9 then
      if r.val < 7 then
        (4294967295#32, 512#32)
      else
        if r.val < 8 then
          (4294967295#32, 768#32)
        else
          (4294967294#32, 0#32)
    else
      if r.val < 10 then
        (4294967294#32, 256#32)
      else
        if r.val < 11 then
          (4294967294#32, 512#32)
        else
          (4294967294#32, 768#32)
def k0_off24 (d0 : Dev nD) (c0_i32_4408 : BitVec 32) (c0_i32_4489 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3999 : BitVec 32 := Scalar.subi v2 c0_i32_4408
  let c4_i32_4409 : BitVec 32 := 4#32
  let c0_i32_4410 : BitVec 32 := 0#32
  let v4000 : BitVec 1 := Scalar.cmpi .eq c4_i32_4409 c0_i32_4410
  let c1_i32_4411 : BitVec 32 := 1#32
  let v4001 : BitVec 32 := Scalar.select v4000 c1_i32_4411 c4_i32_4409
  let v4002 : BitVec 32 := Scalar.remsi v3999 v4001
  let c0_i32_4413 : BitVec 32 := 0#32
  let v4004 : BitVec 1 := Scalar.cmpi .slt v4002 c0_i32_4413
  let c0_i32_4414 : BitVec 32 := 0#32
  let v4005 : BitVec 1 := Scalar.cmpi .slt v4001 c0_i32_4414
  let v4006 : BitVec 1 := Scalar.xori v4004 v4005
  let c0_i32_4412 : BitVec 32 := 0#32
  let v4003 : BitVec 1 := Scalar.cmpi .ne v4002 c0_i32_4412
  let v4007 : BitVec 1 := Scalar.andi v4006 v4003
  let v4008 : BitVec 32 := Scalar.addi v4002 v4001
  let v4009 : BitVec 32 := Scalar.select v4007 v4008 v4002
  let c1024_i32_4488 : BitVec 32 := 1024#32
  let v4091 : BitVec 32 := Scalar.muli v4009 c1024_i32_4488
  let v4092 : BitVec 32 := Scalar.addi v4091 c0_i32_4489
  let c7168_i32_4492 : BitVec 32 := 7168#32
  ![v4092.toNat, 7168]
def k0_off24_at (r : Fin 12) : BitVec 32 × BitVec 32 :=
  if r.val < 6 then
    if r.val < 3 then
      if r.val < 1 then
        (0#32, 0#32)
      else
        if r.val < 2 then
          (0#32, 256#32)
        else
          (0#32, 512#32)
    else
      if r.val < 4 then
        (0#32, 768#32)
      else
        if r.val < 5 then
          (4294967295#32, 0#32)
        else
          (4294967295#32, 256#32)
  else
    if r.val < 9 then
      if r.val < 7 then
        (4294967295#32, 512#32)
      else
        if r.val < 8 then
          (4294967295#32, 768#32)
        else
          (4294967294#32, 0#32)
    else
      if r.val < 10 then
        (4294967294#32, 256#32)
      else
        if r.val < 11 then
          (4294967294#32, 512#32)
        else
          (4294967294#32, 768#32)
def k0_dev63 (d0 : Dev nD) : Nat :=
  let c0_i32_4529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_4528 : BitVec 32 := 1#32
  let v4114 : BitVec 32 := Scalar.muli v27 c1_i32_4528
  let v4115 : BitVec 32 := Scalar.addi c0_i32_4529 v4114
  v4115.toNat
def k0_dev64 (d0 : Dev nD) : Nat :=
  let c0_i32_4544 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_4543 : BitVec 32 := 1#32
  let v4118 : BitVec 32 := Scalar.muli v16 c1_i32_4543
  let v4119 : BitVec 32 := Scalar.addi c0_i32_4544 v4118
  v4119.toNat
def k0_dev65 (d0 : Dev nD) : Nat :=
  let c0_i32_4670 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_4669 : BitVec 32 := 1#32
  let v4243 : BitVec 32 := Scalar.muli v16 c1_i32_4669
  let v4244 : BitVec 32 := Scalar.addi c0_i32_4670 v4243
  v4244.toNat
def k0_dev66 (d0 : Dev nD) : Nat :=
  let c0_i32_4685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_4684 : BitVec 32 := 1#32
  let v4247 : BitVec 32 := Scalar.muli v27 c1_i32_4684
  let v4248 : BitVec 32 := Scalar.addi c0_i32_4685 v4247
  v4248.toNat
def k0_dev67 (d0 : Dev nD) : Nat :=
  let c0_i32_4811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_4810 : BitVec 32 := 1#32
  let v4372 : BitVec 32 := Scalar.muli v27 c1_i32_4810
  let v4373 : BitVec 32 := Scalar.addi c0_i32_4811 v4372
  v4373.toNat
def k0_dev68 (d0 : Dev nD) : Nat :=
  let c0_i32_4826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_4825 : BitVec 32 := 1#32
  let v4376 : BitVec 32 := Scalar.muli v16 c1_i32_4825
  let v4377 : BitVec 32 := Scalar.addi c0_i32_4826 v4376
  v4377.toNat
def k0_dev69 (d0 : Dev nD) : Nat :=
  let c0_i32_4952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_4951 : BitVec 32 := 1#32
  let v4501 : BitVec 32 := Scalar.muli v16 c1_i32_4951
  let v4502 : BitVec 32 := Scalar.addi c0_i32_4952 v4501
  v4502.toNat
def k0_dev70 (d0 : Dev nD) : Nat :=
  let c0_i32_4967 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_4966 : BitVec 32 := 1#32
  let v4505 : BitVec 32 := Scalar.muli v27 c1_i32_4966
  let v4506 : BitVec 32 := Scalar.addi c0_i32_4967 v4505
  v4506.toNat
def k0_dev71 (d0 : Dev nD) : Nat :=
  let c0_i32_5093 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_5092 : BitVec 32 := 1#32
  let v4630 : BitVec 32 := Scalar.muli v27 c1_i32_5092
  let v4631 : BitVec 32 := Scalar.addi c0_i32_5093 v4630
  v4631.toNat
def k0_dev72 (d0 : Dev nD) : Nat :=
  let c0_i32_5108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_5107 : BitVec 32 := 1#32
  let v4634 : BitVec 32 := Scalar.muli v16 c1_i32_5107
  let v4635 : BitVec 32 := Scalar.addi c0_i32_5108 v4634
  v4635.toNat
def k0_dev73 (d0 : Dev nD) : Nat :=
  let c0_i32_5234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_5233 : BitVec 32 := 1#32
  let v4759 : BitVec 32 := Scalar.muli v16 c1_i32_5233
  let v4760 : BitVec 32 := Scalar.addi c0_i32_5234 v4759
  v4760.toNat
def k0_dev74 (d0 : Dev nD) : Nat :=
  let c0_i32_5249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_5248 : BitVec 32 := 1#32
  let v4763 : BitVec 32 := Scalar.muli v27 c1_i32_5248
  let v4764 : BitVec 32 := Scalar.addi c0_i32_5249 v4763
  v4764.toNat
def k0_dev75 (d0 : Dev nD) : Nat :=
  let c0_i32_5375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_5374 : BitVec 32 := 1#32
  let v4888 : BitVec 32 := Scalar.muli v27 c1_i32_5374
  let v4889 : BitVec 32 := Scalar.addi c0_i32_5375 v4888
  v4889.toNat
def k0_dev76 (d0 : Dev nD) : Nat :=
  let c0_i32_5390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_5389 : BitVec 32 := 1#32
  let v4892 : BitVec 32 := Scalar.muli v16 c1_i32_5389
  let v4893 : BitVec 32 := Scalar.addi c0_i32_5390 v4892
  v4893.toNat
def k0_dev77 (d0 : Dev nD) : Nat :=
  let c0_i32_5516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_5515 : BitVec 32 := 1#32
  let v5017 : BitVec 32 := Scalar.muli v16 c1_i32_5515
  let v5018 : BitVec 32 := Scalar.addi c0_i32_5516 v5017
  v5018.toNat
def k0_dev78 (d0 : Dev nD) : Nat :=
  let c0_i32_5531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_5530 : BitVec 32 := 1#32
  let v5021 : BitVec 32 := Scalar.muli v27 c1_i32_5530
  let v5022 : BitVec 32 := Scalar.addi c0_i32_5531 v5021
  v5022.toNat
def k0_dev79 (d0 : Dev nD) : Nat :=
  let c0_i32_5657 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_5656 : BitVec 32 := 1#32
  let v5146 : BitVec 32 := Scalar.muli v27 c1_i32_5656
  let v5147 : BitVec 32 := Scalar.addi c0_i32_5657 v5146
  v5147.toNat
def k0_dev80 (d0 : Dev nD) : Nat :=
  let c0_i32_5672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_5671 : BitVec 32 := 1#32
  let v5150 : BitVec 32 := Scalar.muli v16 c1_i32_5671
  let v5151 : BitVec 32 := Scalar.addi c0_i32_5672 v5150
  v5151.toNat
def k0_dev81 (d0 : Dev nD) : Nat :=
  let c0_i32_5798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_5797 : BitVec 32 := 1#32
  let v5275 : BitVec 32 := Scalar.muli v16 c1_i32_5797
  let v5276 : BitVec 32 := Scalar.addi c0_i32_5798 v5275
  v5276.toNat
def k0_dev82 (d0 : Dev nD) : Nat :=
  let c0_i32_5813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_5812 : BitVec 32 := 1#32
  let v5279 : BitVec 32 := Scalar.muli v27 c1_i32_5812
  let v5280 : BitVec 32 := Scalar.addi c0_i32_5813 v5279
  v5280.toNat
def k0_dev83 (d0 : Dev nD) : Nat :=
  let c0_i32_5939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_5938 : BitVec 32 := 1#32
  let v5404 : BitVec 32 := Scalar.muli v27 c1_i32_5938
  let v5405 : BitVec 32 := Scalar.addi c0_i32_5939 v5404
  v5405.toNat
def k0_dev84 (d0 : Dev nD) : Nat :=
  let c0_i32_5954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_5953 : BitVec 32 := 1#32
  let v5408 : BitVec 32 := Scalar.muli v16 c1_i32_5953
  let v5409 : BitVec 32 := Scalar.addi c0_i32_5954 v5408
  v5409.toNat
def k0_dev85 (d0 : Dev nD) : Nat :=
  let c0_i32_6080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_6079 : BitVec 32 := 1#32
  let v5533 : BitVec 32 := Scalar.muli v16 c1_i32_6079
  let v5534 : BitVec 32 := Scalar.addi c0_i32_6080 v5533
  v5534.toNat
def k0_dev86 (d0 : Dev nD) : Nat :=
  let c0_i32_6095 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_6094 : BitVec 32 := 1#32
  let v5537 : BitVec 32 := Scalar.muli v27 c1_i32_6094
  let v5538 : BitVec 32 := Scalar.addi c0_i32_6095 v5537
  v5538.toNat
def k0_dev87 (d0 : Dev nD) : Nat :=
  let c0_i32_6221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_6220 : BitVec 32 := 1#32
  let v5662 : BitVec 32 := Scalar.muli v27 c1_i32_6220
  let v5663 : BitVec 32 := Scalar.addi c0_i32_6221 v5662
  v5663.toNat
def k0_dev88 (d0 : Dev nD) : Nat :=
  let c0_i32_6236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_6235 : BitVec 32 := 1#32
  let v5666 : BitVec 32 := Scalar.muli v16 c1_i32_6235
  let v5667 : BitVec 32 := Scalar.addi c0_i32_6236 v5666
  v5667.toNat
def k0_dev89 (d0 : Dev nD) : Nat :=
  let c0_i32_6362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_6361 : BitVec 32 := 1#32
  let v5791 : BitVec 32 := Scalar.muli v16 c1_i32_6361
  let v5792 : BitVec 32 := Scalar.addi c0_i32_6362 v5791
  v5792.toNat
def k0_dev90 (d0 : Dev nD) : Nat :=
  let c0_i32_6377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_6376 : BitVec 32 := 1#32
  let v5795 : BitVec 32 := Scalar.muli v27 c1_i32_6376
  let v5796 : BitVec 32 := Scalar.addi c0_i32_6377 v5795
  v5796.toNat
def k0_dev91 (d0 : Dev nD) : Nat :=
  let c0_i32_6503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_6502 : BitVec 32 := 1#32
  let v5920 : BitVec 32 := Scalar.muli v27 c1_i32_6502
  let v5921 : BitVec 32 := Scalar.addi c0_i32_6503 v5920
  v5921.toNat
def k0_dev92 (d0 : Dev nD) : Nat :=
  let c0_i32_6625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_6624 : BitVec 32 := 1#32
  let v6037 : BitVec 32 := Scalar.muli v16 c1_i32_6624
  let v6038 : BitVec 32 := Scalar.addi c0_i32_6625 v6037
  v6038.toNat
def k0_dev93 (d0 : Dev nD) : Nat :=
  let c0_i32_6747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_6746 : BitVec 32 := 1#32
  let v6154 : BitVec 32 := Scalar.muli v27 c1_i32_6746
  let v6155 : BitVec 32 := Scalar.addi c0_i32_6747 v6154
  v6155.toNat
def k0_dev94 (d0 : Dev nD) : Nat :=
  let c0_i32_6869 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_6868 : BitVec 32 := 1#32
  let v6271 : BitVec 32 := Scalar.muli v16 c1_i32_6868
  let v6272 : BitVec 32 := Scalar.addi c0_i32_6869 v6271
  v6272.toNat
def k0_dev95 (d0 : Dev nD) : Nat :=
  let c0_i32_6991 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_6990 : BitVec 32 := 1#32
  let v6388 : BitVec 32 := Scalar.muli v27 c1_i32_6990
  let v6389 : BitVec 32 := Scalar.addi c0_i32_6991 v6388
  v6389.toNat
def k0_dev96 (d0 : Dev nD) : Nat :=
  let c0_i32_7113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7112 : BitVec 32 := 1#32
  let v6505 : BitVec 32 := Scalar.muli v16 c1_i32_7112
  let v6506 : BitVec 32 := Scalar.addi c0_i32_7113 v6505
  v6506.toNat
def k0_dev97 (d0 : Dev nD) : Nat :=
  let c0_i32_7235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v17 : BitVec 32 := Scalar.subi v2 c1_i32_7
  let c4_i32_8 : BitVec 32 := 4#32
  let c0_i32_9 : BitVec 32 := 0#32
  let v18 : BitVec 1 := Scalar.cmpi .eq c4_i32_8 c0_i32_9
  let c1_i32_10 : BitVec 32 := 1#32
  let v19 : BitVec 32 := Scalar.select v18 c1_i32_10 c4_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_7234 : BitVec 32 := 1#32
  let v6622 : BitVec 32 := Scalar.muli v27 c1_i32_7234
  let v6623 : BitVec 32 := Scalar.addi c0_i32_7235 v6622
  v6623.toNat
def k0_dev98 (d0 : Dev nD) : Nat :=
  let c0_i32_7357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c4_i32_2 : BitVec 32 := 4#32
  let c0_i32 : BitVec 32 := 0#32
  let v7 : BitVec 1 := Scalar.cmpi .eq c4_i32_2 c0_i32
  let c1_i32_3 : BitVec 32 := 1#32
  let v8 : BitVec 32 := Scalar.select v7 c1_i32_3 c4_i32_2
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7356 : BitVec 32 := 1#32
  let v6739 : BitVec 32 := Scalar.muli v16 c1_i32_7356
  let v6740 : BitVec 32 := Scalar.addi c0_i32_7357 v6739
  v6740.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Prog.lean ====
/- The kernel's body written as loops over tiles, blocks and ring steps, and the equality with the printed,
   unrolled body. Every offset and device of a step that depends on the device is the printed one
   (`k0_offN`, `k0_devN`), chosen by the loop's indices. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

noncomputable section

namespace Cert.KernelIdeal.Ring

open Idealize.ShloMosaic Idealize.SL.Sem Cert.KernelIdeal.Gen

variable {F : FTy → Type} [FloatOps F]

/-! ## Buffers -/

abbrev mX : Memref sig .tc .hbm S4096x1024 .f32 := Memref.whole main_arg0
abbrev mW : Memref sig .tc .hbm S1024x8192 .f32 := Memref.whole main_arg1
abbrev mOut : Memref sig .tc .hbm S4096x8192 .f32 := Memref.whole main_v1
abbrev mR : Memref sig .tc .vmem S2x2x1024x4096 .bf16 := Memref.whole cc0_scratch0
abbrev mXq : Memref sig .tc .vmem S4096x1024 .fp8e4m3 := Memref.whole cc0_scratch1
abbrev mWq : Memref sig .tc .vmem S1024x8192 .fp8e5m2 := Memref.whole cc0_scratch2
abbrev mC : Memref sig .tc .vmem S2x512x1024 .f32 := Memref.whole cc0_scratch3
abbrev mO : Memref sig .tc .vmem S2x256x1024 .f32 := Memref.whole cc0_scratch4
abbrev mSx : Memref sig .tc .smem S1 .f32 := win0_0.stage 0
abbrev mSw : Memref sig .tc .smem S1 .f32 := win0_1.stage 0

/-- Programs of the kernel's core. -/
abbrev Pg (F : FTy → Type) (α : Type) := Prog (TpuEff nD τ sig (Elt F) Λ₀ .tc) α

/-! ## In-bounds facts at symbolic indices -/

theorem inbS2 (k : Fin 2) : ∀ a, (![k.val] : Fin 1 → Nat) a + S1.size a ≤ S2.size a := by revert k; decide
theorem inbS3 (k s : Fin 2) (b : Fin 4) : ∀ a, (![k.val, s.val, b.val] : Fin 3 → Nat) a + S1x1x1.size a ≤ S2x2x4.size a := by
  revert k s b; decide
theorem inbC (s : Fin 2) : ∀ a, (![s.val, 0, 0] : Fin 3 → Nat) a + S1x512x1024.size a ≤ S2x512x1024.size a := by revert s; decide
theorem inbO (s : Fin 2) : ∀ a, (![s.val, 0, 0] : Fin 3 → Nat) a + S1x256x1024.size a ≤ S2x256x1024.size a := by revert s; decide
theorem inbBlk (k s : Fin 2) (b : Fin 4) :
    ∀ a, (![k.val, s.val, b.val * 256, 0] : Fin 4 → Nat) a + S1x1x256x4096.size a ≤ S2x2x1024x4096.size a := by
  revert k s b; decide
theorem inbTile (k s : Fin 2) (b j : Fin 4) :
    ∀ a, (![k.val, s.val, b.val * 256, j.val * 1024] : Fin 4 → Nat) a + S1x1x256x1024.size a ≤ S2x2x1024x4096.size a := by
  revert k s b j; decide
theorem inbWq (k : Fin 2) (j : Fin 4) :
    ∀ a, (![0, k.val * 4096 + j.val * 1024] : Fin 2 → Nat) a + S1024x1024.size a ≤ S1024x8192.size a := by
  revert k j; decide
theorem inbW (n : Fin 16) :
    ∀ a, (![n.val % 2 * 512, n.val / 2 * 1024] : Fin 2 → Nat) a + S512x1024.size a ≤ S1024x8192.size a := by
  revert n; decide

theorem wordsBlk (k s : Fin 2) (b : Fin 4) :
    (Rect.unit (s := S2x2x1024x4096) ![k.val, s.val, b.val * 256, 0] S1x1x256x4096.size (inbBlk k s b)).WholeWords
      (EltTy.packing .bf16) := by revert k s b; decide +kernel
theorem packedTile (k s : Fin 2) (b j : Fin 4) :
    (Rect.unit (s := S2x2x1024x4096) ![k.val, s.val, b.val * 256, j.val * 1024] S1x1x256x1024.size (inbTile k s b j)).PackedRows
      (EltTy.packing .bf16) := by revert k s b j; decide +kernel
theorem packedW (n : Fin 16) :
    (Rect.unit (s := S1024x8192) ![n.val % 2 * 512, n.val / 2 * 1024] S512x1024.size (inbW n)).PackedRows
      (EltTy.packing .fp8e5m2) := by revert n; decide +kernel

/-! ## Semaphores and views -/

/-- The semaphore a send of block `b` from slot `s` of ring `k` pays on its source's side. -/
abbrev sendSem (k s : Fin 2) (b : Fin 4) : DmaSem sig :=
  ((cc0_scratch5.slice (Rect.unit (s := S2x2x4) ![k.val, s.val, b.val] S1x1x1.size (inbS3 k s b))).squeeze S_ squeezes_S1x1x1_S_).sem
/-- The semaphore a send into slot `s` of ring `k`, block `b`, pays on its target's side. -/
abbrev recvSem (k s : Fin 2) (b : Fin 4) : DmaSem sig :=
  ((cc0_scratch6.slice (Rect.unit (s := S2x2x4) ![k.val, s.val, b.val] S1x1x1.size (inbS3 k s b))).squeeze S_ squeezes_S1x1x1_S_).sem
abbrev convSem (s : Fin 2) : DmaSem sig :=
  ((cc0_scratch7.slice (Rect.unit (s := S2) ![s.val] S1.size (inbS2 s))).squeeze S_ squeezes_S1_S_).sem
abbrev outSem (k : Fin 2) : DmaSem sig :=
  ((cc0_scratch8.slice (Rect.unit (s := S2) ![k.val] S1.size (inbS2 k))).squeeze S_ squeezes_S1_S_).sem
abbrev credSem (k : Fin 2) : Sem sig :=
  ((cc0_scratch9.slice (Rect.unit (s := S2) ![k.val] S1.size (inbS2 k))).squeeze S_ squeezes_S1_S_).sem
abbrev barSem : Sem sig := (SemArray.scalar (sig.barrier 0 rfl) : Sems sig S_).sem

abbrev vC (s : Fin 2) : Memref sig .tc .vmem S512x1024 .f32 :=
  (mC.slice (Rect.unit (s := S2x512x1024) ![s.val, 0, 0] S1x512x1024.size (inbC s)) (fun _ => rfl)).squeeze S512x1024 squeezes_S1x512x1024_S512x1024
abbrev vO (k : Fin 2) : Memref sig .tc .vmem S256x1024 .f32 :=
  (mO.slice (Rect.unit (s := S2x256x1024) ![k.val, 0, 0] S1x256x1024.size (inbO k)) (fun _ => rfl)).squeeze S256x1024 squeezes_S1x256x1024_S256x1024
abbrev vBlk (k s : Fin 2) (b : Fin 4) : Memref sig .tc .vmem S256x4096 .bf16 :=
  (mR.slice (Rect.unit (s := S2x2x1024x4096) ![k.val, s.val, b.val * 256, 0] S1x1x256x4096.size (inbBlk k s b)) (fun _ => rfl)).squeeze
    S256x4096 squeezes_S1x1x256x4096_S256x4096
abbrev rTile (k s : Fin 2) (b j : Fin 4) : Rect S2x2x1024x4096 :=
  Rect.unit (s := S2x2x1024x4096) ![k.val, s.val, b.val * 256, j.val * 1024] S1x1x256x1024.size (inbTile k s b j)
abbrev vX (o : Fin 2 → Nat) (h : ∀ a, o a + S512x1024.size a ≤ S4096x1024.size a) : Memref sig .tc .hbm S512x1024 .f32 :=
  mX.slice (Rect.unit (s := S4096x1024) o S512x1024.size h) (fun _ => rfl)
abbrev vW (n : Fin 16) : Memref sig .tc .hbm S512x1024 .f32 :=
  mW.slice (Rect.unit (s := S1024x8192) ![n.val % 2 * 512, n.val / 2 * 1024] S512x1024.size (inbW n)) (fun _ => rfl)
abbrev vOut (o : Fin 2 → Nat) (h : ∀ a, o a + S256x1024.size a ≤ S4096x8192.size a) : Memref sig .tc .hbm S256x1024 .f32 :=
  mOut.slice (Rect.unit (s := S4096x8192) o S256x1024.size h) (fun _ => rfl)

/-! ## The steps -/

/-- Copy a tile of `x` into staging slot `s`. -/
def xStart (o : Fin 2 → Nat) (h : ∀ a, o a + S512x1024.size a ≤ S4096x1024.size a) (s : Fin 2) : Pg F PUnit :=
  Prog.lift (.enqueueDma (vX o h) (.here (vC s)) (.dma (convSem s)) (View.wordExact_bits rfl) ((View.wordExact_bits rfl).reshape _ _) ⟨Or.inl rfl, trivial⟩)
def xWait (o : Fin 2 → Nat) (h : ∀ a, o a + S512x1024.size a ≤ S4096x1024.size a) (s : Fin 2) : Pg F PUnit :=
  Prog.lift (.waitDma2 (convSem s) (vX o h) (vC s) (View.wordExact_bits rfl) ((View.wordExact_bits rfl).reshape _ _))
def wStart (n : Fin 16) (s : Fin 2) : Pg F PUnit :=
  Prog.lift (.enqueueDma (vW n) (.here (vC s)) (.dma (convSem s)) (View.wordExact_bits rfl) ((View.wordExact_bits rfl).reshape _ _) ⟨Or.inl rfl, trivial⟩)
def wWait (n : Fin 16) (s : Fin 2) : Pg F PUnit :=
  Prog.lift (.waitDma2 (convSem s) (vW n) (vC s) (View.wordExact_bits rfl) ((View.wordExact_bits rfl).reshape _ _))
/-- Cast staging slot `s` into a tile of the 8-bit copy of `x`. -/
def xCast (o : Fin 2 → Nat) (h : ∀ a, o a + S512x1024.size a ≤ S4096x1024.size a)
    (hp : (Rect.unit (s := S4096x1024) o S512x1024.size h).PackedRows (EltTy.packing .fp8e4m3)) (s : Fin 2) : Pg F PUnit := do
  let v : Vec F S1x512x1024 .f32 ← Prog.lift (.load mC (Rect.unit (s := S2x512x1024) ![s.val, 0, 0] S1x512x1024.size (inbC s)).toLoadRect (View.loadsAt_vmem h_S1x512x1024))
  let _ : Vec F S512x1024 .fp8e4m3 ← Prog.lift (.load mXq (Rect.unit (s := S4096x1024) o S512x1024.size h).toLoadRect (View.loadsAt_vmem h_S512x1024))
  Prog.lift (.store mXq (Rect.unit (s := S4096x1024) o S512x1024.size h) (Gen.k0_pay2 v) Finset.univ (View.stores_vmem h_S512x1024 ((Memref.isWhole_whole _).storeExact_slice rfl _ hp) (fun _ => rfl)) (.inl rfl))
def wCast (n : Fin 16) (s : Fin 2) : Pg F PUnit := do
  let v : Vec F S1x512x1024 .f32 ← Prog.lift (.load mC (Rect.unit (s := S2x512x1024) ![s.val, 0, 0] S1x512x1024.size (inbC s)).toLoadRect (View.loadsAt_vmem h_S1x512x1024))
  let _ : Vec F S512x1024 .fp8e5m2 ← Prog.lift (.load mWq (Rect.unit (s := S1024x8192) ![n.val % 2 * 512, n.val / 2 * 1024] S512x1024.size (inbW n)).toLoadRect (View.loadsAt_vmem h_S512x1024))
  Prog.lift (.store mWq (Rect.unit (s := S1024x8192) ![n.val % 2 * 512, n.val / 2 * 1024] S512x1024.size (inbW n)) (Gen.k0_pay4 v) Finset.univ (View.stores_vmem h_S512x1024 ((Memref.isWhole_whole _).storeExact_slice rfl _ (packedW n)) (fun _ => rfl)) (.inl rfl))

/-- A tile of the first conversion or the second: tile `q` of `x` (two of 512 rows per chunk; chunks in the order
    the kernel converts them), or tile `n` of `w`. -/
inductive Tile
  | x (q : Fin 8)
  | w (n : Fin 16)

/-- Offset of tile `q` of `x` in the argument. -/
def xOff (d : Dev nD) : Fin 8 → Fin 2 → Nat
  | ⟨0, _⟩ => k0_off1 d 0#32 | ⟨1, _⟩ => k0_off1 d 512#32
  | ⟨2, _⟩ => k0_off4 d 0#32 | ⟨3, _⟩ => k0_off4 d 512#32
  | ⟨4, _⟩ => k0_off6 d 1#32 0#32 | ⟨5, _⟩ => k0_off6 d 1#32 512#32
  | ⟨6, _⟩ => k0_off6 d 2#32 0#32 | ⟨_ + 7, _⟩ => k0_off6 d 2#32 512#32
/-- Offset of tile `q` in the 8-bit copy. -/
def xqOff (d : Dev nD) : Fin 8 → Fin 2 → Nat
  | ⟨0, _⟩ => k0_off2 d 0#32 | ⟨1, _⟩ => k0_off2 d 512#32
  | ⟨2, _⟩ => k0_off5 d 0#32 | ⟨3, _⟩ => k0_off5 d 512#32
  | ⟨4, _⟩ => k0_off7 d 1#32 0#32 | ⟨5, _⟩ => k0_off7 d 1#32 512#32
  | ⟨6, _⟩ => k0_off7 d 2#32 0#32 | ⟨_ + 7, _⟩ => k0_off7 d 2#32 512#32
/-- The chunk tile `q` lies in, relative to the device. -/
def xChunk (d : Dev nD) (q : Fin 8) : ℕ := (d.val + ![0, 3, 1, 2] ⟨q.val / 2, by omega⟩) % 4
theorem xOff_eq : ∀ (d : Dev nD) (q : Fin 8), xOff d q = ![xChunk d q * 1024 + q.val % 2 * 512, 0] := by decide +kernel
theorem xqOff_eq : ∀ (d : Dev nD) (q : Fin 8), xqOff d q = ![xChunk d q * 1024 + q.val % 2 * 512, 0] := by decide +kernel
theorem xOff_inb : ∀ (d : Dev nD) (q : Fin 8), ∀ a, xOff d q a + S512x1024.size a ≤ S4096x1024.size a := by decide +kernel
theorem xqOff_inb : ∀ (d : Dev nD) (q : Fin 8), ∀ a, xqOff d q a + S512x1024.size a ≤ S4096x1024.size a := by decide +kernel
theorem xqOff_packed : ∀ (d : Dev nD) (q : Fin 8),
    (Rect.unit (s := S4096x1024) (xqOff d q) S512x1024.size (xqOff_inb d q)).PackedRows (EltTy.packing .fp8e4m3) := by decide +kernel

def tStart (d : Dev nD) (s : Fin 2) : Tile → Pg F PUnit
  | .x q => xStart (xOff d q) (xOff_inb d q) s
  | .w n => wStart n s
def tWait (d : Dev nD) (s : Fin 2) : Tile → Pg F PUnit
  | .x q => xWait (xOff d q) (xOff_inb d q) s
  | .w n => wWait n s
def tCast (d : Dev nD) (s : Fin 2) : Tile → Pg F PUnit
  | .x q => xCast (xqOff d q) (xqOff_inb d q) (xqOff_packed d q) s
  | .w n => wCast n s

/-- The other of two slots. -/
abbrev flip (s : Fin 2) : Fin 2 := ⟨1 - s.val, by omega⟩

/-- Convert the tiles `ts`, of which the first is in flight into slot `s` (and the second into the other), starting a
    tile of `cs` after each. -/
def convGo (d : Dev nD) : Fin 2 → List Tile → List Tile → Pg F PUnit
  | _, [], _ => pure ⟨⟩
  | s, a :: ts, [] => tWait d s a >>= fun _ => tCast d s a >>= fun _ => convGo d (flip s) ts []
  | s, a :: ts, c :: cs => tWait d s a >>= fun _ => tCast d s a >>= fun _ => tStart d s c >>= fun _ => convGo d (flip s) ts cs

/-- Convert the tiles in order through the two staging slots. -/
def conv (d : Dev nD) (a b : Tile) (cs : List Tile) : Pg F PUnit :=
  tStart d 0 a >>= fun _ => tStart d 1 b >>= fun _ => convGo d 0 (a :: b :: cs) cs

/-- `f 0`, …, `f (n - 1)` from `i`: `f i`, …, `f (i + n - 1)`. -/
def seqN : ℕ → ℕ → (ℕ → Pg F PUnit) → Pg F PUnit
  | 0, _, _ => pure ⟨⟩
  | n + 1, i, f => f i >>= fun _ => seqN n (i + 1) f

/-! ### Ring indices: position `q` stands for step `q / 8`, block `q % 8 / 2`, ring `q % 2` -/

abbrev kOf (q : ℕ) : Fin 2 := ⟨q % 2, by omega⟩
abbrev bOf (q : ℕ) : Fin 4 := ⟨q % 8 / 2, by omega⟩
abbrev par (t : ℕ) : Fin 2 := ⟨t % 2, by omega⟩
abbrev j4 (j : ℕ) : Fin 4 := ⟨j % 4, by omega⟩

/-- The next device along ring `k`. -/
def sendDev (d : Dev nD) : Fin 2 → Dev nD
  | ⟨0, _⟩ => ⟨k0_dev3 d, Gen.k0_dev3_lt d⟩
  | ⟨_ + 1, _⟩ => ⟨k0_dev4 d, Gen.k0_dev4_lt d⟩
/-- The previous device along ring `k`. -/
def credDev (d : Dev nD) : Fin 2 → Dev nD
  | ⟨0, _⟩ => ⟨k0_dev11 d, Gen.k0_dev11_lt d⟩
  | ⟨_ + 1, _⟩ => ⟨k0_dev13 d, Gen.k0_dev13_lt d⟩

def w256 (b : Fin 4) : BitVec 32 := BitVec.ofNat 32 (256 * b.val)

/-- Offset of the rows of the 8-bit copy of `x` that step `t` multiplies. -/
def accOff (d : Dev nD) : Fin 2 → ℕ → Fin 4 → Fin 2 → Nat
  | ⟨0, _⟩, 0, b => k0_off8 d 1#32 (w256 b)
  | ⟨0, _⟩, 1, b => k0_off8 d 2#32 (w256 b)
  | ⟨0, _⟩, _ + 2, b => k0_off8 d 3#32 (w256 b)
  | ⟨_ + 1, _⟩, 0, b => k0_off8 d 4294967295#32 (w256 b)
  | ⟨_ + 1, _⟩, 1, b => k0_off8 d 4294967294#32 (w256 b)
  | ⟨_ + 1, _⟩, _ + 2, b => k0_off8 d 4294967293#32 (w256 b)
/-- Offset of an output tile: ring `k`, step `t`, block `b`, column tile `j`. -/
def outOff (d : Dev nD) : Fin 2 → ℕ → Fin 4 → Fin 4 → Fin 2 → Nat
  | ⟨0, _⟩, 2, b, ⟨0, _⟩ => k0_off9 d (w256 b)
  | ⟨0, _⟩, 2, b, ⟨1, _⟩ => k0_off10 d (w256 b)
  | ⟨0, _⟩, 2, b, ⟨2, _⟩ => k0_off11 d (w256 b)
  | ⟨0, _⟩, 2, b, ⟨_ + 3, _⟩ => k0_off12 d (w256 b)
  | ⟨_ + 1, _⟩, 2, b, ⟨0, _⟩ => k0_off13 d (w256 b)
  | ⟨_ + 1, _⟩, 2, b, ⟨1, _⟩ => k0_off14 d (w256 b)
  | ⟨_ + 1, _⟩, 2, b, ⟨2, _⟩ => k0_off15 d (w256 b)
  | ⟨_ + 1, _⟩, 2, b, ⟨_ + 3, _⟩ => k0_off16 d (w256 b)
  | ⟨0, _⟩, t, b, ⟨0, _⟩ => k0_off17 d (match t with | 3 => 0#32 | 4 => 1#32 | _ => 2#32) (w256 b)
  | ⟨0, _⟩, t, b, ⟨1, _⟩ => k0_off18 d (match t with | 3 => 0#32 | 4 => 1#32 | _ => 2#32) (w256 b)
  | ⟨0, _⟩, t, b, ⟨2, _⟩ => k0_off19 d (match t with | 3 => 0#32 | 4 => 1#32 | _ => 2#32) (w256 b)
  | ⟨0, _⟩, t, b, ⟨_ + 3, _⟩ => k0_off20 d (match t with | 3 => 0#32 | 4 => 1#32 | _ => 2#32) (w256 b)
  | ⟨_ + 1, _⟩, t, b, ⟨0, _⟩ => k0_off21 d (match t with | 3 => 0#32 | 4 => 4294967295#32 | _ => 4294967294#32) (w256 b)
  | ⟨_ + 1, _⟩, t, b, ⟨1, _⟩ => k0_off22 d (match t with | 3 => 0#32 | 4 => 4294967295#32 | _ => 4294967294#32) (w256 b)
  | ⟨_ + 1, _⟩, t, b, ⟨2, _⟩ => k0_off23 d (match t with | 3 => 0#32 | 4 => 4294967295#32 | _ => 4294967294#32) (w256 b)
  | ⟨_ + 1, _⟩, t, b, ⟨_ + 3, _⟩ => k0_off24 d (match t with | 3 => 0#32 | 4 => 4294967295#32 | _ => 4294967294#32) (w256 b)

/-- The `i`-th device after `d` along ring `k`: what a step back of `i` sends to `d`. -/
def nxt (d : Dev nD) (k : Fin 2) : Dev nD := ⟨(d.val + ![1, 3] k) % 4, by have : 0 < 4 := by decide
                                                                          exact Nat.mod_lt _ this⟩
def prv (d : Dev nD) (k : Fin 2) : Dev nD := ⟨(d.val + ![3, 1] k) % 4, by have : 0 < 4 := by decide
                                                                          exact Nat.mod_lt _ this⟩
theorem sendDev_eq : ∀ (d : Dev nD) (k : Fin 2), sendDev d k = nxt d k := by decide +kernel
theorem credDev_eq : ∀ (d : Dev nD) (k : Fin 2), credDev d k = prv d k := by decide +kernel
theorem bar1_eq : ∀ d : Dev nD, (⟨k0_dev1 d, Gen.k0_dev1_lt d⟩ : Dev nD) = nxt d 0 := by decide +kernel
theorem bar2_eq : ∀ d : Dev nD, (⟨k0_dev2 d, Gen.k0_dev2_lt d⟩ : Dev nD) = nxt d 1 := by decide +kernel

/-- The chunk of rows whose partial sum a device adds to at step `t` (counting the first product as step 0). -/
def chunkAt (d : Dev nD) (k : Fin 2) (t : ℕ) : ℕ := (d.val + ![3, 1] k * t) % 4
theorem dotOff_eq : ∀ (d : Dev nD) (b : Fin 4), k0_off3 d (w256 b) = ![d.val * 1024 + b.val * 256, 0] := by decide +kernel
theorem dotOff_inb : ∀ (d : Dev nD) (b : Fin 4), ∀ a, k0_off3 d (w256 b) a + S256x1024.size a ≤ S4096x1024.size a := by decide +kernel
theorem accOff_eq : ∀ (d : Dev nD) (k : Fin 2) (t : Fin 3) (b : Fin 4),
    accOff d k t.val b = ![chunkAt d k (t.val + 1) * 1024 + b.val * 256, 0] := by decide +kernel
theorem accOff_inb3 : ∀ (d : Dev nD) (k : Fin 2) (t : Fin 3) (b : Fin 4), ∀ a, accOff d k t.val b a + S256x1024.size a ≤ S4096x1024.size a := by
  decide +kernel
theorem accOff_ge (d : Dev nD) (k : Fin 2) (t : ℕ) (b : Fin 4) : accOff d k (t + 2) b = accOff d k 2 b := by
  fin_cases k <;> rfl
theorem accOff_inb (d : Dev nD) (k : Fin 2) (t : ℕ) (b : Fin 4) : ∀ a, accOff d k t b a + S256x1024.size a ≤ S4096x1024.size a := by
  match t with
  | 0 => exact accOff_inb3 d k 0 b
  | 1 => exact accOff_inb3 d k 1 b
  | t + 2 => rw [accOff_ge]; exact accOff_inb3 d k 2 b
/-- The chunk of rows that is complete on `d` at step `t ≥ 2`. -/
theorem outOff_eq4 : ∀ (d : Dev nD) (k : Fin 2) (t : Fin 6) (_ : 2 ≤ t.val) (b j : Fin 4),
    outOff d k t.val b j = ![chunkAt d k (t.val + 1) * 1024 + b.val * 256, k.val * 4096 + j.val * 1024] := by decide +kernel
theorem outOff_ge (d : Dev nD) (k : Fin 2) (t : ℕ) (b j : Fin 4) : outOff d k (t + 5) b j = outOff d k 5 b j := by
  fin_cases k <;> fin_cases j <;> rfl
theorem outOff_small : ∀ (d : Dev nD) (k : Fin 2) (t : Fin 6) (b j : Fin 4), ∀ a, outOff d k t.val b j a + S256x1024.size a ≤ S4096x8192.size a := by
  decide +kernel
theorem outOff_inb (d : Dev nD) (k : Fin 2) (t : ℕ) (b j : Fin 4) : ∀ a, outOff d k t b j a + S256x1024.size a ≤ S4096x8192.size a := by
  by_cases h : t < 6
  · exact outOff_small d k ⟨t, h⟩ b j
  · obtain ⟨u, rfl⟩ : ∃ u, t = u + 5 := ⟨t - 5, by omega⟩
    rw [outOff_ge]; exact outOff_small d k 5 b j

/-- Multiply a block of `x`'s rows with a column tile of `w` and put it into slot 0 of ring `k`. -/
def dotTile (d : Dev nD) (k : Fin 2) (b j : Fin 4) : Pg F PUnit := do
  let u : Vec F S256x1024 .fp8e4m3 ← Prog.lift (.load mXq (Rect.unit (s := S4096x1024) (k0_off3 d (w256 b)) S256x1024.size (dotOff_inb d b)).toLoadRect (View.loadsAt_vmem h_S256x1024))
  let v : Vec F S1024x1024 .fp8e5m2 ← Prog.lift (.load mWq (Rect.unit (s := S1024x8192) ![0, k.val * 4096 + j.val * 1024] S1024x1024.size (inbWq k j)).toLoadRect (View.loadsAt_vmem h_S1024x1024))
  let _ : Vec F S1x1x256x1024 .bf16 ← Prog.lift (.load mR (rTile k 0 b j).toLoadRect (View.loadsAt_vmem h_S1x1x256x1024))
  Prog.lift (.store mR (rTile k 0 b j) (Gen.k0_pay23 u v) Finset.univ (View.stores_vmem h_S1x1x256x1024 ((Memref.isWhole_whole _).storeExact_slice rfl _ (packedTile k 0 b j)) (fun _ => rfl)) (.inl rfl))

/-- Add the product of a block of `x`'s rows with a column tile of `w` to slot `s` of ring `k`. -/
def accTile (o : Fin 2 → Nat) (h : ∀ a, o a + S256x1024.size a ≤ S4096x1024.size a) (k s : Fin 2) (b j : Fin 4) : Pg F PUnit := do
  let a : Vec F S1x1x256x1024 .bf16 ← Prog.lift (.load mR (rTile k s b j).toLoadRect (View.loadsAt_vmem h_S1x1x256x1024))
  let u : Vec F S256x1024 .fp8e4m3 ← Prog.lift (.load mXq (Rect.unit (s := S4096x1024) o S256x1024.size h).toLoadRect (View.loadsAt_vmem h_S256x1024))
  let v : Vec F S1024x1024 .fp8e5m2 ← Prog.lift (.load mWq (Rect.unit (s := S1024x8192) ![0, k.val * 4096 + j.val * 1024] S1024x1024.size (inbWq k j)).toLoadRect (View.loadsAt_vmem h_S1024x1024))
  let _ : Vec F S1x1x256x1024 .bf16 ← Prog.lift (.load mR (rTile k s b j).toLoadRect (View.loadsAt_vmem h_S1x1x256x1024))
  Prog.lift (.store mR (rTile k s b j) (Gen.k0_pay157 a u v) Finset.univ (View.stores_vmem h_S1x1x256x1024 ((Memref.isWhole_whole _).storeExact_slice rfl _ (packedTile k s b j)) (fun _ => rfl)) (.inl rfl))

/-- Send block `b` of ring `k` from slot `s` to the next device's other slot. -/
def sendBlk (d : Dev nD) (k s s' : Fin 2) (b : Fin 4) : Pg F PUnit :=
  Prog.lift (.enqueueDma (vBlk k s b) (.remote (Dev.tc (sendDev d k)) (vBlk k s' b) (.dma (sendSem k s b))) (.dma (recvSem k s' b))
    (((Memref.isWhole_whole _).wordExact_slice rfl _ (wordsBlk k s b)).reshape _ _)
    (((Memref.isWhole_whole _).wordExact_slice rfl _ (wordsBlk k s' b)).reshape _ _) ⟨⟨rfl, Or.inl rfl⟩, trivial⟩)
def recvWait (k s s' : Fin 2) (b : Fin 4) : Pg F PUnit :=
  Prog.lift (.waitDma2 (recvSem k s' b) (vBlk k s b) (vBlk k s' b)
    (((Memref.isWhole_whole _).wordExact_slice rfl _ (wordsBlk k s b)).reshape _ _)
    (((Memref.isWhole_whole _).wordExact_slice rfl _ (wordsBlk k s' b)).reshape _ _))
def sendWait (k s s' : Fin 2) (b : Fin 4) : Pg F PUnit :=
  Prog.lift (.waitDma2 (sendSem k s b) (vBlk k s' b) (vBlk k s b)
    (((Memref.isWhole_whole _).wordExact_slice rfl _ (wordsBlk k s' b)).reshape _ _)
    (((Memref.isWhole_whole _).wordExact_slice rfl _ (wordsBlk k s b)).reshape _ _))

/-- Scale a tile of slot `s`, take the maximum with zero, put it into output staging `k`. -/
def outCast (sc : F .f32) (k s : Fin 2) (b j : Fin 4) : Pg F PUnit := do
  let v : Vec F S1x1x256x1024 .bf16 ← Prog.lift (.load mR (rTile k s b j).toLoadRect (View.loadsAt_vmem h_S1x1x256x1024))
  let _ : Vec F S1x256x1024 .f32 ← Prog.lift (.load mO (Rect.unit (s := S2x256x1024) ![k.val, 0, 0] S1x256x1024.size (inbO k)).toLoadRect (View.loadsAt_vmem h_S1x256x1024))
  Prog.lift (.store mO (Rect.unit (s := S2x256x1024) ![k.val, 0, 0] S1x256x1024.size (inbO k)) (Gen.k0_pay160 sc v) Finset.univ (View.stores_vmem_bits_univ h_S1x256x1024 rfl) (.inl rfl))
def outStart (o : Fin 2 → Nat) (h : ∀ a, o a + S256x1024.size a ≤ S4096x8192.size a) (k : Fin 2) : Pg F PUnit :=
  Prog.lift (.enqueueDma (vO k) (.here (vOut o h)) (.dma (outSem k)) ((View.wordExact_bits rfl).reshape _ _) (View.wordExact_bits rfl) ⟨Or.inl rfl, trivial⟩)
def outWait (o : Fin 2 → Nat) (h : ∀ a, o a + S256x1024.size a ≤ S4096x8192.size a) (k : Fin 2) : Pg F PUnit :=
  Prog.lift (.waitDma2 (outSem k) (vO k) (vOut o h) ((View.wordExact_bits rfl).reshape _ _) (View.wordExact_bits rfl))

/-! ### Output tiles of a ring, in order: tile `e` is step `2 + e / 16`, block `e % 16 / 4`, column tile `e % 4` -/

abbrev eT (e : ℕ) : ℕ := 2 + e / 16
abbrev eB (e : ℕ) : Fin 4 := ⟨e % 16 / 4, by omega⟩
abbrev eOff (d : Dev nD) (k : Fin 2) (e : ℕ) : Fin 2 → Nat := outOff d k (eT e) (eB e) (j4 e)

/-- Output tile `e` of ring `k`: wait for the tile before it, compute it, start its copy to the result. -/
def outTile (d : Dev nD) (sc : F .f32) (k : Fin 2) : ℕ → Pg F PUnit
  | 0 => outCast sc k (par 1) 0 0 >>= fun _ => outStart (eOff d k 0) (outOff_inb d k _ _ _) k
  | e + 1 => outWait (eOff d k e) (outOff_inb d k _ _ _) k >>= fun _ =>
      outCast sc k (par (eT (e + 1) + 1)) (eB (e + 1)) (j4 (e + 1)) >>= fun _ =>
      outStart (eOff d k (e + 1)) (outOff_inb d k _ _ _) k

/-- The first products and sends: position `i` is block `i / 2`, ring `i % 2`. -/
def firstStep (d : Dev nD) (q : ℕ) : Pg F PUnit :=
  seqN 4 0 (fun j => dotTile d (kOf q) (bOf q) (j4 j)) >>= fun _ => sendBlk d (kOf q) 0 1 (bOf q)

/-- Position `q` of the ring. -/
def ringStep (d : Dev nD) (sc : F .f32) (q : ℕ) : Pg F PUnit :=
  recvWait (kOf q) (par (q / 8)) (par (q / 8 + 1)) (bOf q) >>= fun _ =>
  (if q / 8 ≤ 2 then seqN 4 0 (fun j => accTile (accOff d (kOf q) (q / 8) (bOf q)) (accOff_inb d _ _ _) (kOf q) (par (q / 8 + 1)) (bOf q) (j4 j)) else pure ⟨⟩) >>= fun _ =>
  sendWait (kOf q) (par (q / 8)) (par (q / 8 + 1)) (bOf q) >>= fun _ =>
  semSignalWord (credDev d (kOf q)) (credSem (kOf q)) 1#32 >>= fun _ =>
  (if q / 8 < 5 then semWaitWord (credSem (kOf q)) 1#32 >>= fun _ => sendBlk d (kOf q) (par (q / 8 + 1)) (par (q / 8)) (bOf q) else pure ⟨⟩) >>= fun _ =>
  (if 2 ≤ q / 8 then seqN 4 ((q / 8 - 2) * 16 + q % 8 / 2 * 4) (outTile d sc (kOf q)) else pure ⟨⟩)

/-- The last waits of ring `k`. -/
def lastStep (d : Dev nD) (k : Fin 2) : Pg F PUnit :=
  outWait (eOff d k 63) (outOff_inb d k _ _ _) k >>= fun _ => semWaitWord (credSem k) 4#32

def sLoad (m : Memref sig .tc .smem S1 .f32) : Pg F (Elt F .f32) :=
  smemLoad m (Rect.unit (s := S1) ![0] S1.size inb_S1_S1_0) numel1_S1 rfl

/-- The kernel's body. -/
def bodyS (mSx mSw : Memref sig .tc .smem S1 .f32) : Pg F PUnit :=
  Prog.lift .deviceId >>= fun d =>
  sLoad mSx >>= fun v3 => sLoad mSw >>= fun v4 =>
  conv d (.x 0) (.x 1) [.w 0, .w 1, .w 2, .w 3, .w 4, .w 5, .w 6, .w 7, .w 8, .w 9, .w 10, .w 11, .w 12, .w 13, .w 14, .w 15] >>= fun _ =>
  semSignalWord (⟨k0_dev1 d, Gen.k0_dev1_lt d⟩ : Dev nD) barSem 1#32 >>= fun _ =>
  semSignalWord (⟨k0_dev2 d, Gen.k0_dev2_lt d⟩ : Dev nD) barSem 1#32 >>= fun _ =>
  semWaitWord barSem 2#32 >>= fun _ =>
  seqN 8 0 (firstStep d) >>= fun _ =>
  conv d (.x 2) (.x 3) [.x 4, .x 5, .x 6, .x 7] >>= fun _ =>
  seqN 48 0 (ringStep d (Gen.k0_pay1 v3 v4)) >>= fun _ =>
  lastStep d 0 >>= fun _ => lastStep d 1

end Cert.KernelIdeal.Ring

end
-- ==== Proof.Vals.lean ====
/- What the kernel's buffers hold, over any float values: the 8-bit copies of the arguments, the partial sums that
   travel along a ring, and the result; and what each load, store and copy of the body does to such contents. -/
module

public import proofs.«01_k».proof.Proof.Prog
public import Idealize.ShloMosaic.Lib.ValueLayout
public import Idealize.ShloMosaic.Lib.ViewIndex

@[expose] public section

noncomputable section

namespace Cert.KernelIdeal.Ring

open Idealize.ShloMosaic Idealize.ShloMosaic.TcCoe Idealize.SL.Sem Cert.KernelIdeal.Gen

variable {F : FTy → Type} [FloatOps F]

/-- Index of a matrix at a row and a column taken modulo its sizes. -/
def mk2 {a b : ℕ} (ha : 0 < a) (hb : 0 < b) (r c : ℕ) : (⟨2, ![a, b]⟩ : Shape).Idx :=
  ValueIdx.ix2 ⟨r % a, Nat.mod_lt _ ha⟩ ⟨c % b, Nat.mod_lt _ hb⟩

theorem mk2_eq {a b : ℕ} (ha : 0 < a) (hb : 0 < b) (i : (⟨2, ![a, b]⟩ : Shape).Idx) {r c : ℕ}
    (hr : (i (0 : Fin 2)).val = r) (hc : (i (1 : Fin 2)).val = c) : mk2 ha hb r c = i := by
  subst hr hc
  funext x
  match x with
  | ⟨0, _⟩ => exact Fin.ext (Nat.mod_eq_of_lt (i (0 : Fin 2)).isLt)
  | ⟨1, _⟩ => exact Fin.ext (Nat.mod_eq_of_lt (i (1 : Fin 2)).isLt)

abbrev iX (r c : ℕ) : S4096x1024.Idx := mk2 (a := 4096) (b := 1024) (by decide) (by decide) r c
abbrev iW (r c : ℕ) : S1024x8192.Idx := mk2 (a := 1024) (b := 8192) (by decide) (by decide) r c
abbrev iT (r c : ℕ) : S256x1024.Idx := mk2 (a := 256) (b := 1024) (by decide) (by decide) r c
/-- Index of a ring block's column tile. -/
def iB (r c : ℕ) : S1x1x256x1024.Idx :=
  ValueIdx.ix4 ⟨0, by decide⟩ ⟨0, by decide⟩ ⟨r % 256, Nat.mod_lt _ (by decide)⟩ ⟨c % 1024, Nat.mod_lt _ (by decide)⟩

theorem iB_eq (i : S1x1x256x1024.Idx) {r c : ℕ} (hr : (i (2 : Fin 4)).val = r % 256) (hc : (i (3 : Fin 4)).val = c % 1024) :
    iB r c = i := by
  funext x
  match x with
  | ⟨0, _⟩ => exact Fin.ext (by have : (i (0 : Fin 4)).val < 1 := (i (0 : Fin 4)).isLt
                                show 0 = (i (0 : Fin 4)).val; omega)
  | ⟨1, _⟩ => exact Fin.ext (by have : (i (1 : Fin 4)).val < 1 := (i (1 : Fin 4)).isLt
                                show 0 = (i (1 : Fin 4)).val; omega)
  | ⟨2, _⟩ => exact Fin.ext hr.symm
  | ⟨3, _⟩ => exact Fin.ext hc.symm

variable (m : (ℓ : Loc nD τ sig) → Buf (Elt F) ℓ)

/-! ## The 8-bit copies and their tiles -/

abbrev xArg (d : Dev nD) : Vec F S4096x1024 .f32 := m ((d : Thread nD τ).loc main_arg0)
abbrev wArg (d : Dev nD) : Vec F S1024x8192 .f32 := m ((d : Thread nD τ).loc main_arg1)
def xqFull (d : Dev nD) : Vec F S4096x1024 .fp8e4m3 := truncf .fp8e4m3 (xArg m d) bitsLt_fp8e4m3_f32
def wqFull (d : Dev nD) : Vec F S1024x8192 .fp8e5m2 := truncf .fp8e5m2 (wArg m d) bitsLt_fp8e5m2_f32

/-- Block `b` of chunk `c` of `x`'s rows. -/
def xT (d : Dev nD) (c : ℕ) (b : Fin 4) : Vec F S256x1024 .fp8e4m3 :=
  fun z => xqFull m d (iX (c * 1024 + b.val * 256 + (z (0 : Fin 2)).val) (z (1 : Fin 2)).val)
/-- Column tile `j` of `w`'s half `k`. -/
def wT (d : Dev nD) (k : Fin 2) (j : Fin 4) : Vec F S1024x1024 .fp8e5m2 :=
  fun z => wqFull m d (iW (z (0 : Fin 2)).val (k.val * 4096 + j.val * 1024 + (z (1 : Fin 2)).val))

/-- Tile `t` of an argument is in the 8-bit copies. -/
def okT (d : Dev nD) (fx : Vec F S4096x1024 .fp8e4m3) (fw : Vec F S1024x8192 .fp8e5m2) : Tile → Prop
  | .x q => ∀ i : S4096x1024.Idx, xChunk d q * 1024 + q.val % 2 * 512 ≤ (i (0 : Fin 2)).val →
      (i (0 : Fin 2)).val < xChunk d q * 1024 + q.val % 2 * 512 + 512 → fx i = xqFull m d i
  | .w n => ∀ i : S1024x8192.Idx, n.val % 2 * 512 ≤ (i (0 : Fin 2)).val → (i (0 : Fin 2)).val < n.val % 2 * 512 + 512 →
      n.val / 2 * 1024 ≤ (i (1 : Fin 2)).val → (i (1 : Fin 2)).val < n.val / 2 * 1024 + 1024 → fw i = wqFull m d i

/-- A load of a block of the 8-bit copy of `x`. -/
theorem xq_read (d : Dev nD) (c : ℕ) (b : Fin 4) (fx : Vec F S4096x1024 .fp8e4m3)
    (hf : ∀ i : S4096x1024.Idx, c * 1024 ≤ (i (0 : Fin 2)).val → (i (0 : Fin 2)).val < c * 1024 + 1024 → fx i = xqFull m d i)
    (o : Fin 2 → ℕ) (ho : o = ![c * 1024 + b.val * 256, 0]) (h : ∀ a, o a + S256x1024.size a ≤ S4096x1024.size a) :
    mXq.view.readAt (Elt F) (Rect.unit (s := S4096x1024) o S256x1024.size h).toLoadRect fx = xT m d c b := by
  subst ho
  funext z
  have hz : (z (0 : Fin 2)).val < 256 := (z (0 : Fin 2)).isLt
  have hb := b.isLt
  have e : iX (c * 1024 + b.val * 256 + (z (0 : Fin 2)).val) (z (1 : Fin 2)).val
      = (Rect.unit (s := S4096x1024) ![c * 1024 + b.val * 256, 0] S256x1024.size h).emb z :=
    mk2_eq _ _ _ (by show c * 1024 + b.val * 256 + 1 * (z (0 : Fin 2)).val = _; omega)
      (by show 0 + 1 * (z (1 : Fin 2)).val = _; omega)
  rw [xT, e]
  refine hf _ ?_ ?_
  · show _ ≤ c * 1024 + b.val * 256 + 1 * (z (0 : Fin 2)).val; omega
  · show c * 1024 + b.val * 256 + 1 * (z (0 : Fin 2)).val < _; omega

/-- A load of a column tile of the 8-bit copy of `w`. -/
theorem wq_read (d : Dev nD) (k : Fin 2) (j : Fin 4) (fw : Vec F S1024x8192 .fp8e5m2) (hf : ∀ i, fw i = wqFull m d i) :
    mWq.view.readAt (Elt F) (Rect.unit (s := S1024x8192) ![0, k.val * 4096 + j.val * 1024] S1024x1024.size (inbWq k j)).toLoadRect fw
      = wT m d k j := by
  funext z
  have e : iW (z (0 : Fin 2)).val (k.val * 4096 + j.val * 1024 + (z (1 : Fin 2)).val)
      = (Rect.unit (s := S1024x8192) ![0, k.val * 4096 + j.val * 1024] S1024x1024.size (inbWq k j)).emb z :=
    mk2_eq _ _ _ (by show 0 + 1 * (z (0 : Fin 2)).val = _; omega)
      (by show k.val * 4096 + j.val * 1024 + 1 * (z (1 : Fin 2)).val = _; omega)
  rw [wT, e]
  exact hf _

/-! ## The partial sums -/

/-- Column tile `j` of block `b` of what device `d` holds in ring `k` after step `t` (the first product is step 0). -/
def outT (d : Dev nD) (k : Fin 2) : ℕ → Fin 4 → Fin 4 → Vec F S1x1x256x1024 .bf16
  | 0, b, j => k0_pay23 (xT m d d.val b) (wT m d k j)
  | t + 1, b, j => if t ≤ 2 then k0_pay157 (outT (prv d k) k t b j) (xT m d (chunkAt d k (t + 1)) b) (wT m d k j)
      else outT (prv d k) k t b j

/-- A slot of ring `k` holding device `d`'s sums after step `t`; the same at every slot and ring, so that a copy
    from one slot to another keeps the description. -/
def slotBuf (d : Dev nD) (k : Fin 2) (t : ℕ) : Vec F S2x2x1024x4096 .bf16 := fun i =>
  outT m d k t ⟨(i (2 : Fin 4)).val / 256, by have : (i (2 : Fin 4)).val < 1024 := (i (2 : Fin 4)).isLt
                                              omega⟩
    ⟨(i (3 : Fin 4)).val / 1024, by have : (i (3 : Fin 4)).val < 4096 := (i (3 : Fin 4)).isLt
                                    omega⟩
    (iB (i (2 : Fin 4)).val (i (3 : Fin 4)).val)

theorem slotBuf_emb (d : Dev nD) (k : Fin 2) (t : ℕ) (k' s : Fin 2) (b j : Fin 4) (z : S1x1x256x1024.Idx) :
    slotBuf m d k t ((rTile k' s b j).emb z) = outT m d k t b j z := by
  have h2 : (((rTile k' s b j).emb z) (2 : Fin 4)).val = b.val * 256 + 1 * (z (2 : Fin 4)).val := rfl
  have h3 : (((rTile k' s b j).emb z) (3 : Fin 4)).val = j.val * 1024 + 1 * (z (3 : Fin 4)).val := rfl
  have l2 : (z (2 : Fin 4)).val < 256 := (z (2 : Fin 4)).isLt
  have l3 : (z (3 : Fin 4)).val < 1024 := (z (3 : Fin 4)).isLt
  have key : ∀ b' j' z', b' = b → j' = j → z' = z → outT m d k t b' j' z' = outT m d k t b j z := by
    rintro _ _ _ rfl rfl rfl; rfl
  refine key _ _ _ (Fin.ext ?_) (Fin.ext ?_) (iB_eq z ?_ ?_)
  · show (((rTile k' s b j).emb z) (2 : Fin 4)).val / 256 = b.val; rw [h2]; omega
  · show (((rTile k' s b j).emb z) (3 : Fin 4)).val / 1024 = j.val; rw [h3]; omega
  · rw [h2]; omega
  · rw [h3]; omega

/-- Slot contents with the first `j` column tiles new and the rest old. -/
def mixBuf (j : ℕ) (new old : Vec F S2x2x1024x4096 .bf16) : Vec F S2x2x1024x4096 .bf16 := fun i =>
  if (i (3 : Fin 4)).val < j * 1024 then new i else old i

theorem mixBuf_zero (new old : Vec F S2x2x1024x4096 .bf16) : mixBuf 0 new old = old := by
  funext i; unfold mixBuf; rw [if_neg (by omega)]
theorem mixBuf_four (new old : Vec F S2x2x1024x4096 .bf16) : mixBuf 4 new old = new := by
  funext i; unfold mixBuf; rw [if_pos (by have : (i (3 : Fin 4)).val < 4096 := (i (3 : Fin 4)).isLt
                                          omega)]

/-- A store of a column tile makes one more tile of the block's new. -/
theorem tile_write (k s : Fin 2) (b j : Fin 4) (new old : Vec F S2x2x1024x4096 .bf16) (w : Vec F S1x1x256x1024 .bf16)
    (hw : ∀ z, w z = new ((rTile k s b j).emb z)) (i : S2x2x1024x4096.Idx) (hi : i ∈ (vBlk k s b).view.set) :
    (mR.access (rTile k s b j)).write (Elt F) (mixBuf j.val new old) w Finset.univ i = mixBuf (j.val + 1) new old i := by
  rw [View.set_reshape] at hi
  have hi' : i ∈ (Rect.unit (s := S2x2x1024x4096) ![k.val, s.val, b.val * 256, 0] S1x1x256x4096.size (inbBlk k s b)).set := by
    rw [← View.set_slice_whole cc0_scratch0]; exact hi
  rw [Rect.mem_set_unit] at hi'
  have a0 : k.val ≤ (i (0 : Fin 4)).val ∧ (i (0 : Fin 4)).val < k.val + 1 := hi' 0
  have a1 : s.val ≤ (i (1 : Fin 4)).val ∧ (i (1 : Fin 4)).val < s.val + 1 := hi' 1
  have a2 : b.val * 256 ≤ (i (2 : Fin 4)).val ∧ (i (2 : Fin 4)).val < b.val * 256 + 256 := hi' 2
  by_cases h : i ∈ (rTile k s b j).set
  · obtain ⟨z, -, rfl⟩ := Finset.mem_map.mp (by rw [← Rect.map_emb_univ] at h; exact h)
    have h3 : (((rTile k s b j).emb z) (3 : Fin 4)).val = j.val * 1024 + 1 * (z (3 : Fin 4)).val := rfl
    have l3 : (z (3 : Fin 4)).val < 1024 := (z (3 : Fin 4)).isLt
    refine ((mR.access (rTile k s b j)).write_emb_of_mem (mixBuf j.val new old) w (x := z) (Finset.mem_univ _)).trans ?_
    unfold mixBuf
    rw [if_pos (by rw [h3]; omega)]
    exact hw z
  · have h' : i ∉ (mR.access (rTile k s b j)).set := by rw [View.set_slice_whole]; exact h
    rw [View.write_of_not_mem _ _ _ (by rw [View.setOn_univ]; exact h')]
    have h3 : ¬ (j.val * 1024 ≤ (i (3 : Fin 4)).val ∧ (i (3 : Fin 4)).val < j.val * 1024 + 1024) := by
      intro h3; apply h; rw [Rect.mem_set_unit]
      intro a
      match a with
      | ⟨0, _⟩ => exact a0
      | ⟨1, _⟩ => exact a1
      | ⟨2, _⟩ => exact a2
      | ⟨3, _⟩ => exact h3
    unfold mixBuf
    by_cases h4 : (i (3 : Fin 4)).val < j.val * 1024
    · rw [if_pos h4, if_pos (by omega)]
    · rw [if_neg h4, if_neg (by omega)]

/-- A block copied into another slot of the ring. -/
theorem land_write (d : Dev nD) (k : Fin 2) (t : ℕ) (k' s s' : Fin 2) (b : Fin 4) (fd : Vec F S2x2x1024x4096 .bf16)
    (i : S2x2x1024x4096.Idx) (hi : i ∈ (vBlk k' s' b).view.set) :
    (vBlk k' s' b).view.write (Elt F) fd ((vBlk k' s b).view.read (Elt F) (slotBuf m d k t)) Finset.univ i = slotBuf m d k t i := by
  obtain ⟨z, -, rfl⟩ := Finset.mem_map.mp hi
  refine ((vBlk k' s' b).view.write_emb_of_mem fd _ (x := z) (Finset.mem_univ _)).trans ?_
  rfl

/-! ## The conversion -/

theorem pay2_eq (v : Vec F S1x512x1024 .f32) :
    k0_pay2 v = truncf .fp8e4m3 (shapeCast S512x1024 v shapeCasts_S1x512x1024_S512x1024) bitsLt_fp8e4m3_f32 := by
  funext z; unfold k0_pay2; exact congrFun (shapeCast_self _ _) z
theorem pay4_eq (v : Vec F S1x512x1024 .f32) :
    k0_pay4 v = truncf .fp8e5m2 (shapeCast S512x1024 v shapeCasts_S1x512x1024_S512x1024) bitsLt_fp8e5m2_f32 := by
  funext z; unfold k0_pay4; exact congrFun (shapeCast_self _ _) z

/-- A tile of an argument as the copy into a staging slot reads it. -/
def tileRead (d : Dev nD) : Tile → Vec F S512x1024 .f32
  | .x q => (vX (xOff d q) (xOff_inb d q)).view.read (Elt F) (xArg m d)
  | .w n => (vW n).view.read (Elt F) (wArg m d)

/-- Storing a staged tile of `x` leaves the 8-bit copy right on that tile and wherever it was. -/
theorem x_write (d : Dev nD) (q : Fin 8) (s : Fin 2) (fc : Vec F S2x512x1024 .f32) (fx : Vec F S4096x1024 .fp8e4m3)
    (hfc : (vC s).view.read (Elt F) fc = tileRead m d (.x q)) (i : S4096x1024.Idx)
    (hi : (xChunk d q * 1024 + q.val % 2 * 512 ≤ (i (0 : Fin 2)).val ∧ (i (0 : Fin 2)).val < xChunk d q * 1024 + q.val % 2 * 512 + 512)
      ∨ fx i = xqFull m d i) :
    (mXq.access (Rect.unit (s := S4096x1024) (xqOff d q) S512x1024.size (xqOff_inb d q))).write (Elt F) fx
      (k0_pay2 (mC.view.readAt (Elt F) (Rect.unit (s := S2x512x1024) ![s.val, 0, 0] S1x512x1024.size (inbC s)).toLoadRect fc))
      Finset.univ i = xqFull m d i := by
  have hv : shapeCast S512x1024 (mC.view.readAt (Elt F) (Rect.unit (s := S2x512x1024) ![s.val, 0, 0] S1x512x1024.size (inbC s)).toLoadRect fc)
      shapeCasts_S1x512x1024_S512x1024 = tileRead m d (.x q) := hfc
  rw [pay2_eq, hv]
  by_cases h : i ∈ (Rect.unit (s := S4096x1024) (xqOff d q) S512x1024.size (xqOff_inb d q)).set
  · obtain ⟨z, -, rfl⟩ := Finset.mem_map.mp (by rw [← Rect.map_emb_univ] at h; exact h)
    refine ((mXq.access (Rect.unit (s := S4096x1024) (xqOff d q) S512x1024.size (xqOff_inb d q))).write_emb_of_mem fx _ (x := z) (Finset.mem_univ _)).trans ?_
    have e : (Rect.unit (s := S4096x1024) (xOff d q) S512x1024.size (xOff_inb d q)).emb z
        = (Rect.unit (s := S4096x1024) (xqOff d q) S512x1024.size (xqOff_inb d q)).emb z := by
      funext a
      exact Fin.ext (congrArg (fun n => n + 1 * (z a).val) (congrFun ((xOff_eq d q).trans (xqOff_eq d q).symm) a))
    show FloatOps.truncf .fp8e4m3 bitsLt_fp8e4m3_f32 (xArg m d ((Rect.unit (s := S4096x1024) (xOff d q) S512x1024.size (xOff_inb d q)).emb z)) = _
    rw [e]; rfl
  · have h' : i ∉ (mXq.access (Rect.unit (s := S4096x1024) (xqOff d q) S512x1024.size (xqOff_inb d q))).set := by
      rw [View.set_slice_whole]; exact h
    rw [View.write_of_not_mem _ _ _ (by rw [View.setOn_univ]; exact h')]
    refine hi.resolve_left fun hi => h ?_
    rw [Rect.mem_set_unit, xqOff_eq]
    intro a
    match a with
    | ⟨0, _⟩ => exact hi
    | ⟨1, _⟩ => exact ⟨Nat.zero_le _, by have : (i (1 : Fin 2)).val < 1024 := (i (1 : Fin 2)).isLt
                                         show (i (1 : Fin 2)).val < 0 + 1024; omega⟩

theorem w_write (d : Dev nD) (n : Fin 16) (s : Fin 2) (fc : Vec F S2x512x1024 .f32) (fw : Vec F S1024x8192 .fp8e5m2)
    (hfc : (vC s).view.read (Elt F) fc = tileRead m d (.w n)) (i : S1024x8192.Idx)
    (hi : ((n.val % 2 * 512 ≤ (i (0 : Fin 2)).val ∧ (i (0 : Fin 2)).val < n.val % 2 * 512 + 512) ∧
        n.val / 2 * 1024 ≤ (i (1 : Fin 2)).val ∧ (i (1 : Fin 2)).val < n.val / 2 * 1024 + 1024) ∨ fw i = wqFull m d i) :
    (mWq.access (Rect.unit (s := S1024x8192) ![n.val % 2 * 512, n.val / 2 * 1024] S512x1024.size (inbW n))).write (Elt F) fw
      (k0_pay4 (mC.view.readAt (Elt F) (Rect.unit (s := S2x512x1024) ![s.val, 0, 0] S1x512x1024.size (inbC s)).toLoadRect fc))
      Finset.univ i = wqFull m d i := by
  have hv : shapeCast S512x1024 (mC.view.readAt (Elt F) (Rect.unit (s := S2x512x1024) ![s.val, 0, 0] S1x512x1024.size (inbC s)).toLoadRect fc)
      shapeCasts_S1x512x1024_S512x1024 = tileRead m d (.w n) := hfc
  rw [pay4_eq, hv]
  by_cases h : i ∈ (Rect.unit (s := S1024x8192) ![n.val % 2 * 512, n.val / 2 * 1024] S512x1024.size (inbW n)).set
  · obtain ⟨z, -, rfl⟩ := Finset.mem_map.mp (by rw [← Rect.map_emb_univ] at h; exact h)
    exact (mWq.access (Rect.unit (s := S1024x8192) ![n.val % 2 * 512, n.val / 2 * 1024] S512x1024.size (inbW n))).write_emb_of_mem fw _ (x := z) (Finset.mem_univ _)
  · have h' : i ∉ (mWq.access (Rect.unit (s := S1024x8192) ![n.val % 2 * 512, n.val / 2 * 1024] S512x1024.size (inbW n))).set := by
      rw [View.set_slice_whole]; exact h
    rw [View.write_of_not_mem _ _ _ (by rw [View.setOn_univ]; exact h')]
    refine hi.resolve_left fun hi => h ?_
    rw [Rect.mem_set_unit]
    intro a
    match a with
    | ⟨0, _⟩ => exact hi.1
    | ⟨1, _⟩ => exact hi.2

/-! ## The result -/

/-- The step after which chunk `ch` of ring `k` is complete on device `d`. -/
def tOf (d : Dev nD) (k : Fin 2) (ch : ℕ) : ℕ :=
  if chunkAt d k 3 = ch then 2 else if chunkAt d k 4 = ch then 3 else if chunkAt d k 5 = ch then 4 else 5
theorem tOf_chunkAt : ∀ (d : Dev nD) (k : Fin 2) (t : Fin 6), 2 ≤ t.val → tOf d k (chunkAt d k (t.val + 1)) = t.val := by
  decide +kernel

/-- The result on device `d`, whose scale is `sc`. -/
def outFull (sc : F .f32) (d : Dev nD) : Vec F S4096x8192 .f32 := fun i =>
  k0_pay160 sc (outT m d ⟨(i (1 : Fin 2)).val / 4096, by have : (i (1 : Fin 2)).val < 8192 := (i (1 : Fin 2)).isLt
                                                         omega⟩
      (tOf d ⟨(i (1 : Fin 2)).val / 4096, by have : (i (1 : Fin 2)).val < 8192 := (i (1 : Fin 2)).isLt
                                             omega⟩ ((i (0 : Fin 2)).val / 1024) + 1)
      ⟨(i (0 : Fin 2)).val % 1024 / 256, by omega⟩ ⟨(i (1 : Fin 2)).val % 4096 / 1024, by omega⟩)
    (ValueIdx.ix3 ⟨0, by decide⟩ ⟨(i (0 : Fin 2)).val % 256, by omega⟩ ⟨(i (1 : Fin 2)).val % 1024, by omega⟩)

/-- What output staging `k` holds, read as its copy reads it. -/
def outRead (sc : F .f32) (v : Vec F S1x1x256x1024 .bf16) : Vec F S256x1024 .f32 :=
  fun z => k0_pay160 sc v (Shape.reshapeEquiv (s := S1x256x1024) (s' := S256x1024) (by decide) z)

theorem o_write (sc : F .f32) (v : Vec F S1x1x256x1024 .bf16) (k : Fin 2) (fo : Vec F S2x256x1024 .f32) :
    (vO k).view.read (Elt F) ((mO.access (Rect.unit (s := S2x256x1024) ![k.val, 0, 0] S1x256x1024.size (inbO k))).write (Elt F) fo
      (k0_pay160 sc v) Finset.univ) = outRead sc v := by
  funext z
  exact congrFun ((mO.access (Rect.unit (s := S2x256x1024) ![k.val, 0, 0] S1x256x1024.size (inbO k))).read_write_univ fo (k0_pay160 sc v)) _

theorem out_write (sc : F .f32) (d : Dev nD) (k : Fin 2) (t : Fin 6) (ht : 2 ≤ t.val) (b j : Fin 4) (fd : Vec F S4096x8192 .f32)
    (h : ∀ a, outOff d k t.val b j a + S256x1024.size a ≤ S4096x8192.size a) (i : S4096x8192.Idx)
    (hi : i ∈ (vOut (outOff d k t.val b j) h).view.set) :
    (vOut (outOff d k t.val b j) h).view.write (Elt F) fd (outRead sc (outT m d k (t.val + 1) b j)) Finset.univ i = outFull m sc d i := by
  obtain ⟨z, -, rfl⟩ := Finset.mem_map.mp hi
  refine ((vOut (outOff d k t.val b j) h).view.write_emb_of_mem fd _ (x := z) (Finset.mem_univ _)).trans ?_
  have z0 : (z (0 : Fin 2)).val < 256 := (z (0 : Fin 2)).isLt
  have z1 : (z (1 : Fin 2)).val < 1024 := (z (1 : Fin 2)).isLt
  have hc : chunkAt d k (t.val + 1) < 4 := Nat.mod_lt _ (by decide)
  have e0 : (((vOut (outOff d k t.val b j) h).view.emb z) (0 : Fin 2)).val = chunkAt d k (t.val + 1) * 1024 + b.val * 256 + (z (0 : Fin 2)).val := by
    show outOff d k t.val b j (0 : Fin 2) + 1 * (z (0 : Fin 2)).val = _
    rw [outOff_eq4 d k t ht]; show chunkAt d k (t.val + 1) * 1024 + b.val * 256 + _ = _; omega
  have e1 : (((vOut (outOff d k t.val b j) h).view.emb z) (1 : Fin 2)).val = k.val * 4096 + j.val * 1024 + (z (1 : Fin 2)).val := by
    show outOff d k t.val b j (1 : Fin 2) + 1 * (z (1 : Fin 2)).val = _
    rw [outOff_eq4 d k t ht]; show k.val * 4096 + j.val * 1024 + _ = _; omega
  have key : ∀ (k' : Fin 2) (t' : ℕ) (b' j' : Fin 4) (y : S1x256x1024.Idx), k' = k → t' = t.val → b' = b → j' = j →
      y = Shape.reshapeEquiv (s := S1x256x1024) (s' := S256x1024) (by decide) z →
      outRead sc (outT m d k (t.val + 1) b j) z = k0_pay160 sc (outT m d k' (t' + 1) b' j') y := by
    rintro _ _ _ _ _ rfl rfl rfl rfl rfl; rfl
  have hk : (⟨(((vOut (outOff d k t.val b j) h).view.emb z) (1 : Fin 2)).val / 4096, by rw [e1]; omega⟩ : Fin 2) = k :=
    Fin.ext (by show (((vOut (outOff d k t.val b j) h).view.emb z) (1 : Fin 2)).val / 4096 = k.val; rw [e1]; omega)
  refine key _ _ _ _ _ hk ?_ (Fin.ext ?_) (Fin.ext ?_) ?_
  · refine (congrArg (fun k' => tOf d k' ((((vOut (outOff d k t.val b j) h).view.emb z) (0 : Fin 2)).val / 1024)) hk).trans ?_
    have e3 : (((vOut (outOff d k t.val b j) h).view.emb z) (0 : Fin 2)).val / 1024 = chunkAt d k (t.val + 1) := by rw [e0]; omega
    show tOf d k ((((vOut (outOff d k t.val b j) h).view.emb z) (0 : Fin 2)).val / 1024) = t.val
    rw [e3]
    exact tOf_chunkAt d k t ht
  · show (((vOut (outOff d k t.val b j) h).view.emb z) (0 : Fin 2)).val % 1024 / 256 = b.val; rw [e0]; omega
  · show (((vOut (outOff d k t.val b j) h).view.emb z) (1 : Fin 2)).val % 4096 / 1024 = j.val; rw [e1]; omega
  · have hz : z = ValueIdx.ix2 (z (0 : Fin 2)) (z (1 : Fin 2)) := by
      funext a; match a with | ⟨0, _⟩ => rfl | ⟨1, _⟩ => rfl
    conv_rhs => rw [hz]
    refine Eq.trans ?_ (ValueIdx.reshapeEquiv_ix2_1ab (by decide) (z (0 : Fin 2)) (z (1 : Fin 2))).symm
    funext a
    match a with
    | ⟨0, _⟩ => rfl
    | ⟨1, _⟩ => exact Fin.ext (by
        show (((vOut (outOff d k t.val b j) h).view.emb z) (0 : Fin 2)).val % 256 = (z (0 : Fin 2)).val; rw [e0]; omega)
    | ⟨2, _⟩ => exact Fin.ext (by
        show (((vOut (outOff d k t.val b j) h).view.emb z) (1 : Fin 2)).val % 1024 = (z (1 : Fin 2)).val; rw [e1]; omega)

end Cert.KernelIdeal.Ring

end
-- ==== Proof.Sched.lean ====
/- The protocol of the two rings: which semaphore cells there are, what each of their rounds hands over, what a device
   owes, and the order in which it may wait.

   Rings `k = 0, 1`; along ring `k` device `c` sends to `nxt c k` and hears from `prv c k`. Block `b`'s send number `u`
   (`u = 0` the first product, `u = t + 1` the sum of step `t`) leaves from slot `u % 2` and lands in slot
   `(u + 1) % 2` of the next device. It may land once the next device has released that slot: before the barrier for the
   first, and with a credit afterwards. Credits are counted, not labelled, so a credit hands over the facts of all
   credits up to it. -/
module

public import proofs.«01_k».proof.Proof.Vals
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Transfers

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A landing slot: device, ring, slot, block. -/
abbrev SK : Type := Dev nD × Fin 2 × Fin 2 × Fin 4
abbrev UB : Type := URounds (GSem nD τ sig) ℕ × (USlots SK × Counters)
abbrev UU : Type := UR sig nD τ × UB

local notation "𝕄" => MT nD τ sig ℕ (Elt F) ℕ UU ℕ

abbrev EP : Emb (UR sig nD τ) (MT nD τ sig ℕ (Elt F) ℕ UU ℕ) := embL
def EB : Emb UB (MT nD τ sig ℕ (Elt F) ℕ UU ℕ) := embR
def ER : Emb (URounds (GSem nD τ sig) ℕ) (MT nD τ sig ℕ (Elt F) ℕ UU ℕ) := (Emb.inl : Emb _ UB).trans EB
def ES : Emb (USlots SK) (MT nD τ sig ℕ (Elt F) ℕ UU ℕ) :=
  (Emb.inl : Emb _ (USlots SK × Counters)).trans ((Emb.inr : Emb _ UB).trans EB)
abbrev EC : UEmb Counters (MT nD τ sig ℕ (Elt F) ℕ UU ℕ) := countersEmb

omit [FloatOps F] in
instance EB_landsIn : (EB (F := F)).LandsIn (upEmb : UEmb _ 𝕄) := by unfold EB; infer_instance
omit [FloatOps F] in
instance ER_landsIn : (ER (F := F)).LandsIn (upEmb : UEmb _ 𝕄) := by unfold ER; infer_instance
omit [FloatOps F] in
instance ES_landsIn : (ES (F := F)).LandsIn (upEmb : UEmb _ 𝕄) := by unfold ES; infer_instance

variable (m : (ℓ : Loc nD τ sig) → Buf (Elt F) ℓ)

/-! ## Cells -/

abbrev barCell (c : Dev nD) : GSem nD τ sig := ((c : Thread nD τ), .reg barSem)
abbrev credCell (c : Dev nD) (k : Fin 2) : GSem nD τ sig := ((c : Thread nD τ), .reg (credSem k))
abbrev sendCell (c : Dev nD) (k s : Fin 2) (b : Fin 4) : GSem nD τ sig := ((c : Thread nD τ), .dma (sendSem k s b))
abbrev recvCell (c : Dev nD) (k s : Fin 2) (b : Fin 4) : GSem nD τ sig := ((c : Thread nD τ), .dma (recvSem k s b))

/-- The kinds of cells of the rings. -/
inductive CK
  | bar
  | cred (k : Fin 2)
  | send (k s : Fin 2) (b : Fin 4)
  | recv (k s : Fin 2) (b : Fin 4)
  deriving DecidableEq

/-- The kind a semaphore has, if it belongs to the rings. -/
def ck : SemLoc sig → Option CK
  | .reg s => if s.val = 0 then some (.cred 0) else if s.val = 1 then some (.cred 1) else some .bar
  | .dma q =>
    if h : 2 ≤ q.val ∧ q.val < 18 then
      some (.send ⟨(q.val - 2) / 8, by omega⟩ ⟨(q.val - 2) % 8 / 4, by omega⟩ ⟨(q.val - 2) % 4, by omega⟩)
    else if h : 18 ≤ q.val ∧ q.val < 34 then
      some (.recv ⟨(q.val - 18) / 8, by omega⟩ ⟨(q.val - 18) % 8 / 4, by omega⟩ ⟨(q.val - 18) % 4, by omega⟩)
    else none

theorem ck_bar : ck (.reg barSem) = some .bar := by decide +kernel
theorem ck_cred : ∀ k, ck (.reg (credSem k)) = some (.cred k) := by decide +kernel
theorem ck_send : ∀ k s b, ck (.dma (sendSem k s b)) = some (.send k s b) := by decide +kernel
theorem ck_recv : ∀ k s b, ck (.dma (recvSem k s b)) = some (.recv k s b) := by decide +kernel
theorem ck_conv : ∀ s, ck (.dma (convSem s)) = none := by decide +kernel
theorem ck_out : ∀ k, ck (.dma (outSem k)) = none := by decide +kernel

/-- The semaphore of a kind. -/
def semOf : CK → SemLoc sig
  | .bar => .reg barSem
  | .cred k => .reg (credSem k)
  | .send k s b => .dma (sendSem k s b)
  | .recv k s b => .dma (recvSem k s b)
theorem ck_semOf (x : CK) : ck (semOf x) = some x := by
  cases x with
  | bar => exact ck_bar
  | cred k => exact ck_cred k
  | send k s b => exact ck_send k s b
  | recv k s b => exact ck_recv k s b

/-! ## Slots -/

/-- Units of a block's copy. -/
def N : ℕ := (vBlk 0 0 0).view.dmaCredit
theorem N_pos : 0 < N := View.dmaCredit_pos _ (by decide)
theorem credit_blk (k s : Fin 2) (b : Fin 4) : (vBlk k s b).view.dmaCredit = N := rfl

/-- Block `b` of slot `s` of ring `k` on device `c`, at a share, holding `f`. -/
def slotP (c : Dev nD) (k s : Fin 2) (b : Fin 4) (q : PosShare TreeShare) (f : Vec F S2x2x1024x4096 .bf16) : sProp 𝕄 :=
  (vBlk k s b).view.loc (c : Thread nD τ) ↦[(vBlk k s b).view.set]{q} f
omit [FloatOps F] in
instance slotP_storable (c : Dev nD) (k s : Fin 2) (b : Fin 4) (q f) : BI.Storable (upEmb : UEmb _ 𝕄) (slotP (F := F) c k s b q f) := by
  unfold slotP; infer_instance

omit [FloatOps F] in
theorem slotP_congr (c : Dev nD) (k s : Fin 2) (b : Fin 4) (q : PosShare TreeShare) {f g : Vec F S2x2x1024x4096 .bf16}
    (h : ∀ i ∈ (vBlk k s b).view.set, f i = g i) : slotP c k s b q f = slotP c k s b q g := pointsTo_congr h
omit [FloatOps F] in
theorem slotP_split (c : Dev nD) (k s : Fin 2) (b : Fin 4) (f : Vec F S2x2x1024x4096 .bf16) :
    slotP c k s b fullShare f ⊣⊢ iprop(slotP c k s b fullShare.left f ∗ slotP c k s b fullShare.right f) :=
  pointsTo_share (PosShare.mem_left_op_right fullShare)

/-- What a landing slot is to its release count: the slot, whatever it holds. -/
def slotS (x : SK) : sProp 𝕄 := iprop(∃ f, slotP x.1 x.2.1 x.2.2.1 x.2.2.2 fullShare f)
omit [FloatOps F] in
instance slotS_storable (x : SK) : BI.Storable (upEmb : UEmb _ 𝕄) (slotS (F := F) x) := by unfold slotS; infer_instance

/-! ## The schedule -/

/-- The next device's slot 1 of every block is released. -/
def barPay (c : Dev nD) (k : Fin 2) : sProp 𝕄 := bigSep Finset.univ fun b : Fin 4 => released ES (nxt c k, k, 1, b) 1
/-- What credit `j` of ring `k` from device `e` says: the slot the next send lands in is released, and its cell has got
    that far. -/
def fact (e : Dev nD) (k : Fin 2) (j : ℕ) : sProp 𝕄 :=
  if j < 20 then iprop(released ES (e, k, par (j / 4), j4 j) ((j / 4 + 1) / 2 + 1) ∗ reached ER (recvCell e k (par (j / 4)) (j4 j)) ((j / 4 + 1) / 2))
  else iprop(emp)
def facts (e : Dev nD) (k : Fin 2) (i : ℕ) : sProp 𝕄 := bigSep (Finset.range i) (fact e k)
def sendPay (c : Dev nD) (k s : Fin 2) (b : Fin 4) (r : ℕ) : sProp 𝕄 := slotP c k s b fullShare.left (slotBuf m c k (2 * r + s.val))
def recvPay (c : Dev nD) (k s : Fin 2) (b : Fin 4) (r : ℕ) : sProp 𝕄 := slotP c k s b fullShare (slotBuf m (prv c k) k (2 * r + (1 - s.val)))

omit [FloatOps F] in
instance fact_persistent (e : Dev nD) (k : Fin 2) (j : ℕ) : BI.Persistent (fact (F := F) e k j) := by
  unfold fact; split <;> infer_instance
omit [FloatOps F] in
instance facts_persistent (e : Dev nD) (k : Fin 2) (j : ℕ) : BI.Persistent (facts (F := F) e k j) := by unfold facts; infer_instance
omit [FloatOps F] in
instance barPay_persistent (c : Dev nD) (k : Fin 2) : BI.Persistent (barPay (F := F) c k) := by unfold barPay; infer_instance
omit [FloatOps F] in
instance fact_storable (e : Dev nD) (k : Fin 2) (j : ℕ) : BI.Storable (upEmb : UEmb _ 𝕄) (fact (F := F) e k j) := by
  unfold fact; split <;> infer_instance
omit [FloatOps F] in
instance facts_storable (e : Dev nD) (k : Fin 2) (j : ℕ) : BI.Storable (upEmb : UEmb _ 𝕄) (facts (F := F) e k j) := by
  unfold facts; infer_instance
omit [FloatOps F] in
instance barPay_storable (c : Dev nD) (k : Fin 2) : BI.Storable (upEmb : UEmb _ 𝕄) (barPay (F := F) c k) := by unfold barPay; infer_instance

def dutiesOf : Option CK → ℕ → Finset ℕ
  | some .bar, r => if r = 0 then {0, 1} else ∅
  | some (.cred _), r => if r = 0 then Finset.range 24 else ∅
  | some (.send ..), r => if r < 3 then {0} else ∅
  | some (.recv ..), r => if r < 3 then {0} else ∅
  | none, _ => ∅
def amountOf : Option CK → ℕ
  | some (.send ..) => N
  | some (.recv ..) => N
  | _ => 1
def payOf (c : Dev nD) : Option CK → ℕ → ℕ → sProp 𝕄
  | some .bar, _, d => barPay c (if d = 0 then 0 else 1)
  | some (.cred k), _, d => facts (nxt c k) k (d + 1)
  | some (.send k s b), r, _ => sendPay m c k s b r
  | some (.recv k s b), r, _ => recvPay m c k s b r
  | none, _, _ => iprop(emp)

def Rd : Rounds.Schedule (GSem nD τ sig) ℕ 𝕄 where
  duties g r := if g.1.2 = .tc then dutiesOf (ck g.2) r else ∅
  unitless _ := False
  amount g _ _ := amountOf (ck g.2)
  payload g r d := payOf m g.1.1 (ck g.2) r d
  amount_pos g r d _ := by
    rcases ck g.2 with _ | x
    · exact Nat.one_pos
    · cases x with
      | bar => exact Nat.one_pos
      | cred => exact Nat.one_pos
      | send => exact N_pos
      | recv => exact N_pos

instance Rd_storable (g : GSem nD τ sig) (r d : ℕ) : BI.Storable (upEmb : UEmb _ 𝕄) ((Rd m).payload g r d) := by
  show BI.Storable upEmb (payOf m g.1.1 (ck g.2) r d)
  rcases ck g.2 with _ | x
  · unfold payOf; infer_instance
  · cases x <;> unfold payOf <;> first | infer_instance | (unfold sendPay; infer_instance) | (unfold recvPay; infer_instance)

theorem duties_of (c : Dev nD) {sm : SemLoc sig} {x : Option CK} (h : ck sm = x) (r : ℕ) :
    (Rd m).duties ((c : Thread nD τ), sm) r = dutiesOf x r := by subst h; dsimp only [Rd]; exact if_pos rfl
theorem amount_of (c : Dev nD) {sm : SemLoc sig} {x : Option CK} (h : ck sm = x) (r d : ℕ) :
    (Rd m).amount ((c : Thread nD τ), sm) r d = amountOf x := by subst h; rfl
theorem payload_of (c : Dev nD) {sm : SemLoc sig} {x : Option CK} (h : ck sm = x) (r d : ℕ) :
    (Rd m).payload ((c : Thread nD τ), sm) r d = payOf m c x r d := by subst h; rfl

section Sched
variable (c : Dev nD) (k s : Fin 2) (b : Fin 4)

theorem duties_bar : (Rd m).duties (barCell c) 0 = {0, 1} := by
  rw [duties_of m c ck_bar]; rfl
theorem duties_cred : (Rd m).duties (credCell c k) 0 = Finset.range 24 := by
  rw [duties_of m c (ck_cred k)]; rfl
theorem duties_send {r : ℕ} (hr : r < 3) : (Rd m).duties (sendCell c k s b) r = {0} := by
  rw [duties_of m c (ck_send k s b)]; exact if_pos hr
theorem duties_recv {r : ℕ} (hr : r < 3) : (Rd m).duties (recvCell c k s b) r = {0} := by
  rw [duties_of m c (ck_recv k s b)]; exact if_pos hr
theorem duties_bar_after : ∀ r, 1 ≤ r → (Rd m).duties (barCell c) r = ∅ := fun r hr => by
  rw [duties_of m c ck_bar]; exact if_neg (by omega)
theorem duties_cred_after : ∀ r, 1 ≤ r → (Rd m).duties (credCell c k) r = ∅ := fun r hr => by
  rw [duties_of m c (ck_cred k)]; exact if_neg (by omega)
theorem duties_send_after : ∀ r, 3 ≤ r → (Rd m).duties (sendCell c k s b) r = ∅ := fun r hr => by
  rw [duties_of m c (ck_send k s b)]; exact if_neg (by omega)
theorem duties_recv_after : ∀ r, 3 ≤ r → (Rd m).duties (recvCell c k s b) r = ∅ := fun r hr => by
  rw [duties_of m c (ck_recv k s b)]; exact if_neg (by omega)

theorem amount_bar (r d : ℕ) : (Rd m).amount (barCell c) r d = 1 := by rw [amount_of m c ck_bar]; rfl
theorem amount_cred (r d : ℕ) : (Rd m).amount (credCell c k) r d = 1 := by rw [amount_of m c (ck_cred k)]; rfl
theorem amount_send (r d : ℕ) : (Rd m).amount (sendCell c k s b) r d = N := by rw [amount_of m c (ck_send k s b)]; rfl
theorem amount_recv (r d : ℕ) : (Rd m).amount (recvCell c k s b) r d = N := by rw [amount_of m c (ck_recv k s b)]; rfl

theorem expect_bar : (Rd m).expect (barCell c) 0 = 2 := by
  unfold Schedule.expect Schedule.amountOf
  rw [duties_bar, Finset.sum_congr rfl fun d _ => amount_bar m c 0 d]; rfl
theorem expect_cred : (Rd m).expect (credCell c k) 0 = 24 := by
  unfold Schedule.expect Schedule.amountOf
  rw [duties_cred, Finset.sum_congr rfl fun d _ => amount_cred m c k 0 d]; rfl
theorem expect_send {r : ℕ} (hr : r < 3) : (Rd m).expect (sendCell c k s b) r = N := by
  unfold Schedule.expect Schedule.amountOf; rw [duties_send m c k s b hr, Finset.sum_singleton, amount_send]
theorem expect_recv {r : ℕ} (hr : r < 3) : (Rd m).expect (recvCell c k s b) r = N := by
  unfold Schedule.expect Schedule.amountOf; rw [duties_recv m c k s b hr, Finset.sum_singleton, amount_recv]

theorem payload_bar (r d : ℕ) : (Rd m).payload (barCell c) r d = barPay c (if d = 0 then 0 else 1) := by
  rw [payload_of m c ck_bar]; rfl
theorem payload_cred (r d : ℕ) : (Rd m).payload (credCell c k) r d = facts (nxt c k) k (d + 1) := by
  rw [payload_of m c (ck_cred k)]; rfl
theorem payload_send (r d : ℕ) : (Rd m).payload (sendCell c k s b) r d = sendPay m c k s b r := by
  rw [payload_of m c (ck_send k s b)]; rfl
theorem payload_recv (r d : ℕ) : (Rd m).payload (recvCell c k s b) r d = recvPay m c k s b r := by
  rw [payload_of m c (ck_recv k s b)]; rfl

end Sched

/-! ## What a device owes; the order of waits

Indices of tallies are the levels: 0 for the waits that depend on nothing owed, 1 for the barrier, `2 * q + 2` for the
block that position `q` of the ring waits for, `2 * q + 3` for the credit of position `q`. -/

abbrev sendTally (c : Dev nD) (q : ℕ) : CellTallies nD τ sig ℕ :=
  tallyAt (recvCell (nxt c (kOf q)) (kOf q) (par (q / 8 + 1)) (bOf q)) (2 * q + 2) N
abbrev credTally (c : Dev nD) (q : ℕ) : CellTallies nD τ sig ℕ :=
  tallyAt (credCell (prv c (kOf q)) (kOf q)) (2 * q + 3) 1
/-- The sends from position `p` on. -/
def owedS (c : Dev nD) (p : ℕ) : CellTallies nD τ sig ℕ := ∑ i ∈ Finset.Ico p 48, sendTally c i
/-- The credits from position `q` on. -/
def owedC (c : Dev nD) (q : ℕ) : CellTallies nD τ sig ℕ := ∑ i ∈ Finset.Ico q 48, credTally c i

theorem sum_first {p n : ℕ} (h : p < n) (f : ℕ → CellTallies nD τ sig ℕ) :
    ∑ i ∈ Finset.Ico p n, f i = ∑ i ∈ Finset.Ico (p + 1) n, f i + f p := by
  have e : Finset.Ico p n = insert p (Finset.Ico (p + 1) n) := by
    ext x; rw [Finset.mem_insert, Finset.mem_Ico, Finset.mem_Ico]; omega
  rw [e, Finset.sum_insert (by rw [Finset.mem_Ico]; omega), add_comm]
theorem owedS_step (c : Dev nD) {p : ℕ} (h : p < 48) : owedS c p = owedS c (p + 1) + sendTally c p :=
  sum_first h _
theorem owedC_step (c : Dev nD) {p : ℕ} (h : p < 48) : owedC c p = owedC c (p + 1) + credTally c p :=
  sum_first h _
theorem owedS_end (c : Dev nD) {p : ℕ} (h : 48 ≤ p) : owedS c p = 0 := by
  unfold owedS; rw [Finset.Ico_eq_empty (by omega)]; rfl
theorem owedC_end (c : Dev nD) {p : ℕ} (h : 48 ≤ p) : owedC c p = 0 := by
  unfold owedC; rw [Finset.Ico_eq_empty (by omega)]; rfl

def barTally (c : Dev nD) (k : Fin 2) : CellTallies nD τ sig ℕ := tallyAt (barCell (nxt c k)) 1 1
/-- What a device owes at launch. -/
def O₀ (c : Dev nD) : CellTallies nD τ sig ℕ := owedS c 0 + owedC c 0 + barTally c 1 + barTally c 0

def L (g : GSem nD τ sig) : Finset ℕ := if g.1.2 = .tc then Finset.range 200 else ∅
def lv (_ : GSem nD τ sig) (ι : ℕ) : ℕ := ι
theorem L_of_ne (g : GSem nD τ sig) (h : g.1.2 ≠ .tc) : L g = ∅ := if_neg h

/-- Everything owed is above `n`. -/
def Above (n : ℕ) (O : CellTallies nD τ sig ℕ) : Prop := ∀ g u, 0 < O g u → g.1.2 = .tc ∧ n < u ∧ u < 200

theorem above_zero (n : ℕ) : Above n 0 := fun g u h => absurd h (Nat.lt_irrefl 0)
theorem above_add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n ι : ℕ} (d : Dev nD) (sm : SemLoc sig) (a : ℕ) (h : n < ι) (h' : ι < 200) :
    Above n (tallyAt ((d : Thread nD τ), sm) ι a) := fun g u hg => by
  rw [tallyAt_apply] at hg
  by_cases e : g = ((d : Thread nD τ), sm) ∧ u = ι
  · rw [e.1, e.2]; exact ⟨rfl, h, h'⟩
  · rw [if_neg e] at hg; exact absurd hg (Nat.lt_irrefl 0)
theorem above_sum {n : ℕ} (s : Finset ℕ) (f : ℕ → CellTallies nD τ sig ℕ) (h : ∀ i ∈ s, Above n (f i)) : Above n (∑ i ∈ s, f i) := by
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))
theorem above_owedS (c : Dev nD) {n p : ℕ} (h : n < 2 * p + 2) : Above n (owedS c p) :=
  above_sum _ _ fun i hi => above_tally _ _ _ (by have := (Finset.mem_Ico.mp hi).1; omega) (by have := (Finset.mem_Ico.mp hi).2; omega)
theorem above_owedC (c : Dev nD) {n p : ℕ} (h : n < 2 * p + 3) : Above n (owedC c p) :=
  above_sum _ _ fun i hi => above_tally _ _ _ (by have := (Finset.mem_Ico.mp hi).1; omega) (by have := (Finset.mem_Ico.mp hi).2; omega)
theorem above_O₀ (c : Dev nD) : Above 0 (O₀ c) :=
  above_add (above_add (above_add (above_owedS c (by omega)) (above_owedC c (by omega))) (above_tally _ _ _ (by omega) (by omega)))
    (above_tally _ _ _ (by omega) (by omega))

omit [FloatOps F] in
theorem mayWait_of (c : Dev nD) (sm : SemLoc sig) {ι : ℕ} (hι : ι < 200) {O : CellTallies nD τ sig ℕ} (h : Above ι O) :
    (levAts L lv : sProp 𝕄) ⊢ MayWait (c : Thread nD τ) sm ι O :=
  MayOwe.of_cut (L := L) (lev := lv) ι
    (fun p hp => by rw [Finset.mem_singleton.mp hp]; unfold L; rw [if_pos rfl]; exact Finset.mem_range.mpr hι)
    (fun g u hg => by unfold L; rw [if_pos (h g u hg).1]; exact Finset.mem_range.mpr (h g u hg).2.2)
    (fun p hp => by rw [Finset.mem_singleton.mp hp]; exact le_refl _)
    (fun g u hg => (h g u hg).2.1)

end Cert.KernelIdeal.Ring

end
-- ==== Proof.Mem.lean ====
/- The steps of the body that touch this device's own memory: products, sums, the conversion of the arguments, the
   tiles of the result. Each is a triple over the buffers it uses. -/
module

public import proofs.«01_k».proof.Proof.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

abbrev 𝒱₀ : Variants := Variants.none

/-- The weakest precondition of a piece of the body on device `c`. -/
abbrev WP (c : Dev nD) {α : Type} (p : Pg F α) (Q : α → sProp (MT nD τ sig ℕ (Elt F) ℕ UU ℕ)) : sProp (MT nD τ sig ℕ (Elt F) ℕ UU ℕ) :=
  wp frame (wpE (defs₀ (F := F)) 𝒱₀ (c : Thread nD τ) none) Set.univ p Q

variable (c : Dev nD)

/-- One piece after another. -/
theorem wp_seq {P R : sProp 𝕄} {p : Pg F PUnit} {k : PUnit → Pg F PUnit} {Q : PUnit → sProp 𝕄}
    (h₁ : P ⊢ WP c p (fun _ => R)) (h₂ : R ⊢ WP c (k ⟨⟩) Q) : P ⊢ WP c (p >>= k) Q := by
  show P ⊢ wp _ _ _ (p >>= k) Q
  rw [wp_bind]
  exact h₁.trans (wp_mono _ _ _ fun _ => h₂)

/-- A piece beside resources it does not use. -/
theorem wp_side {P R : sProp 𝕄} {p : Pg F PUnit} {Q : sProp 𝕄} (h : P ⊢ WP c p (fun _ => Q)) :
    iprop(P ∗ R) ⊢ WP c p (fun _ => iprop(Q ∗ R)) :=
  (sep_mono_left h).trans (wp_frame_r _ _ _)

/-- A loop, by its invariant. -/
theorem wp_seqN (Inv : ℕ → sProp 𝕄) (f : ℕ → Pg F PUnit) : ∀ (n i : ℕ),
    (∀ j, i ≤ j → j < i + n → Inv j ⊢ WP c (f j) (fun _ => Inv (j + 1))) → Inv i ⊢ WP c (seqN n i f) (fun _ => Inv (i + n))
  | 0, i, _ => by
    show Inv i ⊢ wp _ _ _ (Pure.pure PUnit.unit : Pg F PUnit) _
    rw [wp_pure]
    exact fupd_intro (PROP := sProp 𝕄)
  | n + 1, i, h => by
    show Inv i ⊢ WP c (f i >>= fun _ => seqN n (i + 1) f) _
    refine wp_seq c (h i (le_refl _) (by omega)) ?_
    have e : i + (n + 1) = i + 1 + n := by omega
    rw [e]
    exact wp_seqN Inv f n (i + 1) fun j h₁ h₂ => h j (by omega) (by omega)

theorem wp_done {P : sProp 𝕄} : P ⊢ WP c (Pure.pure PUnit.unit : Pg F PUnit) (fun _ => P) := by
  show P ⊢ wp _ _ _ (Pure.pure PUnit.unit : Pg F PUnit) _
  rw [wp_pure]
  exact fupd_intro (PROP := sProp 𝕄)

theorem wp_end {α : Type} {a : α} {Q : α → sProp 𝕄} : Q a ⊢ WP c (.ret a) Q := by
  show Q a ⊢ wp _ _ _ (.ret a : Pg F α) _
  rw [wp_ret]
  exact fupd_intro (PROP := sProp 𝕄)

/-- A piece by its triple, what it leaves going to the rest. -/
theorem wp_step {P R : sProp 𝕄} {p : Pg F PUnit} {k : PUnit → Pg F PUnit} {Q : PUnit → sProp 𝕄} (h : P ⊢ WP c p (fun _ => R)) :
    P ⊢ iprop((R -∗ WP c (k ⟨⟩) Q) -∗ WP c (p >>= k) Q) := by
  show P ⊢ iprop((R -∗ WP c (k ⟨⟩) Q) -∗ wp _ _ _ (p >>= k) Q)
  rw [wp_bind]
  iintro HP Hk
  iapply (wp_wand_r _ _ _ (Q := fun _ => R))
  isplitl [HP]
  · iapply h; iexact HP
  iintro %a HR
  iapply Hk
  iexact HR
/-- The last piece by its triple. -/
theorem wp_last {P R : sProp 𝕄} {p : Pg F PUnit} {Q : PUnit → sProp 𝕄} (h : P ⊢ WP c p (fun _ => R)) :
    P ⊢ iprop((R -∗ Q ⟨⟩) -∗ WP c p Q) := by
  iintro HP Hk
  iapply (wp_wand_r _ _ _ (Q := fun _ => R))
  isplitl [HP]
  · iapply h; iexact HP
  iintro %a HR
  iapply Hk
  iexact HR

/-! ## Buffers held whole -/

def xqP (f : Vec F S4096x1024 .fp8e4m3) : sProp 𝕄 := mXq.view.loc (c : Thread nD τ) ↦[Finset.univ]{fullShare} f
def wqP (f : Vec F S1024x8192 .fp8e5m2) : sProp 𝕄 := mWq.view.loc (c : Thread nD τ) ↦[Finset.univ]{fullShare} f
/-- Output staging `k`. -/
def oP (k : Fin 2) (f : Vec F S2x256x1024 .f32) : sProp 𝕄 := (vO k).view.loc (c : Thread nD τ) ↦[(vO k).view.set]{fullShare} f
/-- Staging slot `s` of the conversion. -/
def cP (s : Fin 2) (f : Vec F S2x512x1024 .f32) : sProp 𝕄 := (vC s).view.loc (c : Thread nD τ) ↦[(vC s).view.set]{fullShare} f

theorem tile_subset (k s : Fin 2) (b j : Fin 4) : (rTile k s b j).set ⊆ (vBlk k s b).view.set := by
  intro i hi
  rw [View.set_reshape]
  rw [View.set_slice_whole]
  rw [Rect.mem_set_unit] at hi ⊢
  intro a
  have h := hi a
  match a with
  | ⟨0, _⟩ => exact h
  | ⟨1, _⟩ => exact h
  | ⟨2, _⟩ => exact h
  | ⟨3, _⟩ =>
    have h3 : j.val * 1024 ≤ (i (3 : Fin 4)).val ∧ (i (3 : Fin 4)).val < j.val * 1024 + 1024 := h
    exact ⟨Nat.zero_le _, by show (i (3 : Fin 4)).val < 0 + 4096; omega⟩

theorem setOn_tile (k s : Fin 2) (b j : Fin 4) : mR.view.setOn (rTile k s b j).set ⊆ (vBlk k s b).view.set := by
  have e : mR.view.setOn (rTile k s b j).set = (mR.access (rTile k s b j)).set := (View.set_slice _ _).symm
  rw [e, View.set_slice_whole]
  exact tile_subset k s b j

variable (m : (ℓ : Loc nD τ sig) → Buf (Elt F) ℓ)

/-- A column tile not yet replaced reads as before. -/
theorem tile_read (k s : Fin 2) (b j : Fin 4) (new old : Vec F S2x2x1024x4096 .bf16) (w : Vec F S1x1x256x1024 .bf16)
    (h : ∀ z, old ((rTile k s b j).emb z) = w z) :
    mR.view.readAt (Elt F) (rTile k s b j).toLoadRect (mixBuf j.val new old) = w := by
  funext z
  rw [← h z]
  show mixBuf j.val new old ((rTile k s b j).emb z) = _
  unfold mixBuf
  have h3 : (((rTile k s b j).emb z) (3 : Fin 4)).val = j.val * 1024 + 1 * (z (3 : Fin 4)).val := rfl
  rw [if_neg (by rw [h3]; omega)]

theorem outT_zero (k : Fin 2) (b j : Fin 4) : outT m c k 0 b j = k0_pay23 (xT m c c.val b) (wT m c k j) := by rw [outT]
theorem outT_acc (k : Fin 2) {t : ℕ} (ht : t ≤ 2) (b j : Fin 4) :
    outT m c k (t + 1) b j = k0_pay157 (outT m (prv c k) k t b j) (xT m c (chunkAt c k (t + 1)) b) (wT m c k j) := by
  rw [outT, if_pos ht]
theorem outT_relay (k : Fin 2) {t : ℕ} (ht : ¬ t ≤ 2) (b j : Fin 4) : outT m c k (t + 1) b j = outT m (prv c k) k t b j := by
  rw [outT, if_neg ht]
theorem slotBuf_relay (k : Fin 2) {t : ℕ} (ht : ¬ t ≤ 2) : slotBuf m c k (t + 1) = slotBuf m (prv c k) k t := by
  funext i; unfold slotBuf; rw [outT_relay c m k ht]

omit [FloatOps F] in
theorem slotP_to (k s : Fin 2) (b : Fin 4) (q : PosShare TreeShare) {f g : Vec F S2x2x1024x4096 .bf16}
    (h : ∀ i ∈ (vBlk k s b).view.set, f i = g i) : slotP c k s b q f ⊢ slotP c k s b q g := by
  rw [slotP_congr c k s b q h]

/-- A load of a column tile. -/
theorem load_tile (k s : Fin 2) (b j : Fin 4) (q : PosShare TreeShare) (f : Vec F S2x2x1024x4096 .bf16) (hl)
    {α : Type} (p : Vec F S1x1x256x1024 .bf16 → Pg F α) (Q : α → sProp 𝕄) :
    slotP c k s b q f ⊢ iprop((slotP c k s b q f -∗ WP c (p (mR.view.readAt (Elt F) (rTile k s b j).toLoadRect f)) Q)
      -∗ WP c (.op (.load mR (rTile k s b j).toLoadRect hl) p) Q) :=
  wp_load 𝒱₀ (c : Thread nD τ) none Set.univ (m := mR) (setOn_tile k s b j)

/-- A store of a column tile. -/
theorem store_tile (k s : Fin 2) (b j : Fin 4) (new old : Vec F S2x2x1024x4096 .bf16) (w : Vec F S1x1x256x1024 .bf16)
    (hw : ∀ z, w z = new ((rTile k s b j).emb z)) (h₁ h₂) {α : Type} (p : PUnit → Pg F α) (Q : α → sProp 𝕄) :
    slotP c k s b fullShare (mixBuf j.val new old) ⊢ iprop((slotP c k s b fullShare (mixBuf (j.val + 1) new old) -∗ WP c (p ⟨⟩) Q)
      -∗ WP c (.op (.store mR (rTile k s b j) w Finset.univ h₁ h₂) p) Q) := by
  have e := slotP_to c k s b fullShare (tile_write k s b j new old w hw)
  unfold slotP at e ⊢
  iintro Hs
  iintro Hk
  iapply (wp_store 𝒱₀ (c : Thread nD τ) none Set.univ (m := mR) (r := rTile k s b j) (Mk := Finset.univ)
    (hS := by rw [View.setOn_univ, View.set_slice_whole]; exact tile_subset k s b j)) $$ Hs
  iintro Hs
  iapply Hk
  iapply e
  iexact Hs

/-- One product tile. -/
theorem dot_tile (k : Fin 2) (b j : Fin 4) (old : Vec F S2x2x1024x4096 .bf16) (fx fw)
    (hx : ∀ i : S4096x1024.Idx, c.val * 1024 ≤ (i (0 : Fin 2)).val → (i (0 : Fin 2)).val < c.val * 1024 + 1024 → fx i = xqFull m c i)
    (hw : ∀ i, fw i = wqFull m c i) :
    iprop(xqP c fx ∗ wqP c fw ∗ slotP c k 0 b fullShare (mixBuf j.val (slotBuf m c k 0) old))
      ⊢ WP c (dotTile c k b j) (fun _ => iprop(xqP c fx ∗ wqP c fw ∗ slotP c k 0 b fullShare (mixBuf (j.val + 1) (slotBuf m c k 0) old))) := by
  unfold xqP wqP
  iintro ⟨Hx, Hw, Hs⟩
  unfold dotTile
  simp only [Prog.lift, Prog.bind_op, Prog.bind_ret]
  iapply (wp_load 𝒱₀ (c : Thread nD τ) none Set.univ (m := mXq) (Finset.subset_univ _)) $$ Hx
  iintro Hx
  iapply (wp_load 𝒱₀ (c : Thread nD τ) none Set.univ (m := mWq) (Finset.subset_univ _)) $$ Hw
  iintro Hw
  iapply (load_tile c k 0 b j) $$ Hs
  iintro Hs
  rw [xq_read m c c.val b fx hx _ (dotOff_eq c b), wq_read m c k j fw hw]
  iapply (store_tile c k 0 b j (slotBuf m c k 0) old _ (fun z => by rw [slotBuf_emb, outT_zero])) $$ Hs
  iintro Hs
  iapply (wp_end c)
  isplitl [Hx]; · iexact Hx
  isplitl [Hw]; · iexact Hw
  iexact Hs

/-- One tile of a sum. -/
theorem acc_tile (k s : Fin 2) (b j : Fin 4) {t : ℕ} (ht : t ≤ 2) (h : ∀ a, accOff c k t b a + S256x1024.size a ≤ S4096x1024.size a) (fx fw)
    (hx : ∀ i : S4096x1024.Idx, chunkAt c k (t + 1) * 1024 ≤ (i (0 : Fin 2)).val → (i (0 : Fin 2)).val < chunkAt c k (t + 1) * 1024 + 1024 → fx i = xqFull m c i)
    (hw : ∀ i, fw i = wqFull m c i) :
    iprop(xqP c fx ∗ wqP c fw ∗ slotP c k s b fullShare (mixBuf j.val (slotBuf m c k (t + 1)) (slotBuf m (prv c k) k t)))
      ⊢ WP c (accTile (accOff c k t b) h k s b j)
          (fun _ => iprop(xqP c fx ∗ wqP c fw ∗ slotP c k s b fullShare (mixBuf (j.val + 1) (slotBuf m c k (t + 1)) (slotBuf m (prv c k) k t)))) := by
  unfold xqP wqP
  iintro ⟨Hx, Hw, Hs⟩
  unfold accTile
  simp only [Prog.lift, Prog.bind_op, Prog.bind_ret]
  iapply (load_tile c k s b j) $$ Hs
  iintro Hs
  iapply (wp_load 𝒱₀ (c : Thread nD τ) none Set.univ (m := mXq) (Finset.subset_univ _)) $$ Hx
  iintro Hx
  iapply (wp_load 𝒱₀ (c : Thread nD τ) none Set.univ (m := mWq) (Finset.subset_univ _)) $$ Hw
  iintro Hw
  iapply (load_tile c k s b j) $$ Hs
  iintro Hs
  rw [xq_read m c (chunkAt c k (t + 1)) b fx hx _ (accOff_eq c k ⟨t, by omega⟩ b) h, wq_read m c k j fw hw,
    tile_read k s b j _ _ (outT m (prv c k) k t b j) (fun z => slotBuf_emb m (prv c k) k t k s b j z)]
  iapply (store_tile c k s b j (slotBuf m c k (t + 1)) (slotBuf m (prv c k) k t) _ (fun z => by rw [slotBuf_emb, outT_acc c m k ht])) $$ Hs
  iintro Hs
  iapply (wp_end c)
  isplitl [Hx]; · iexact Hx
  isplitl [Hw]; · iexact Hw
  iexact Hs

/-- Output staging takes a tile of the sums. -/
theorem out_cast (sc : F .f32) (k s : Fin 2) (b j : Fin 4) (q : PosShare TreeShare) (t : ℕ) (fo : Vec F S2x256x1024 .f32) :
    iprop(slotP c k s b q (slotBuf m c k t) ∗ oP c k fo)
      ⊢ WP c (outCast sc k s b j) (fun _ => iprop(slotP c k s b q (slotBuf m c k t) ∗
          ∃ fo' : Vec F S2x256x1024 .f32, ⌜(vO k).view.read (Elt F) fo' = outRead sc (outT m c k t b j)⌝ ∗ oP c k fo')) := by
  have hs : (mO.access (Rect.unit (s := S2x256x1024) ![k.val, 0, 0] S1x256x1024.size (inbO k))).set = (vO k).view.set := (View.set_reshape _ _).symm
  iintro ⟨Hs, Ho⟩
  unfold outCast
  simp only [Prog.lift, Prog.bind_op, Prog.bind_ret]
  iapply (load_tile c k s b j) $$ Hs
  iintro Hs
  unfold oP
  iapply (wp_load_rect 𝒱₀ (c : Thread nD τ) none Set.univ (m := mO) (hS := hs.subset)) $$ Ho
  iintro Ho
  have e : mR.view.readAt (Elt F) (rTile k s b j).toLoadRect (slotBuf m c k t) = outT m c k t b j :=
    funext fun z => slotBuf_emb m c k t k s b j z
  rw [e]
  iapply (wp_store 𝒱₀ (c : Thread nD τ) none Set.univ (m := mO) (Mk := Finset.univ) (hS := by rw [View.setOn_univ]; exact hs.subset)) $$ Ho
  iintro Ho
  iapply (wp_end c)
  isplitl [Hs]; · iexact Hs
  iexists ((mO.access (Rect.unit (s := S2x256x1024) ![k.val, 0, 0] S1x256x1024.size (inbO k))).write (Elt F) fo (k0_pay160 sc (outT m c k t b j)) Finset.univ)
  isplitr
  · ipureintro; exact o_write sc _ k _
  iexact Ho

end Cert.KernelIdeal.Ring

end
-- ==== Proof.Comm.lean ====
/- The steps of the body that talk to other devices: sends, the waits for blocks, credits and the barrier. -/
module

public import proofs.«01_k».proof.Proof.Mem

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

omit [FloatOps F] in
/-- One conjunct of many. -/
theorem bigSep_at {I : Type} [DecidableEq I] {s : Finset I} {i : I} (h : i ∈ s) {Φ : I → sProp 𝕄} : (bigSep s Φ : sProp 𝕄) ⊢ Φ i :=
  bigSep_elim h
omit [FloatOps F] in
/-- One conjunct of many, the others kept with a way to put it back. -/
theorem bigSep_open {I : Type} [DecidableEq I] {s : Finset I} {i : I} (h : i ∈ s) {Φ Ψ : I → sProp 𝕄} (hΨ : ∀ j ∈ s, j ≠ i → Φ j = Ψ j) :
    (bigSep s Φ : sProp 𝕄) ⊢ iprop(Φ i ∗ (Ψ i -∗ bigSep s Ψ)) := by
  rw [bigSep_erase h, bigSep_erase (Φ := Ψ) h,
    bigSep_congr (s := s.erase i) (Φ := Φ) (Ψ := Ψ) fun j hj => hΨ j (Finset.mem_of_mem_erase hj) (Finset.ne_of_mem_erase hj)]
  show iprop(Φ i ∗ bigSep (s.erase i) Ψ) ⊢ iprop(Φ i ∗ (Ψ i -∗ iprop(Ψ i ∗ bigSep (s.erase i) Ψ)))
  iintro ⟨H, Hr⟩
  isplitl [H]; · iexact H
  iintro H
  isplitl [H]; · iexact H
  iexact Hr
omit [FloatOps F] in
theorem bigSep_join {I : Type} [DecidableEq I] {s t : Finset I} (h : t ⊆ s) {Φ : I → sProp 𝕄} :
    (iprop(bigSep t Φ ∗ bigSep (s \ t) Φ) : sProp 𝕄) ⊢ bigSep s Φ := by
  rw [bigSep_sdiff_split (Φ := Φ) h]
  exact Entails.refl _
omit [FloatOps F] in
/-- The first conjunct of an interval. -/
theorem bigSep_first {p n : ℕ} (h : p < n) (Φ : ℕ → sProp 𝕄) :
    (bigSep (Finset.Ico p n) Φ : sProp 𝕄) = iprop(Φ p ∗ bigSep (Finset.Ico (p + 1) n) Φ) := by
  have e : Finset.Ico p n = insert p (Finset.Ico (p + 1) n) := by
    ext x; rw [Finset.mem_insert, Finset.mem_Ico, Finset.mem_Ico]; omega
  rw [e, bigSep_insert (by rw [Finset.mem_Ico]; omega)]; rfl

/-! ## What every device knows -/

def allCK : List CK :=
  [.bar] ++ (List.finRange 2).map .cred
    ++ (List.finRange 2).flatMap (fun k => (List.finRange 2).flatMap fun s => (List.finRange 4).map fun b => .send k s b)
    ++ (List.finRange 2).flatMap (fun k => (List.finRange 2).flatMap fun s => (List.finRange 4).map fun b => .recv k s b)
theorem mem_allCK (x : CK) : x ∈ allCK := by
  cases x with
  | bar => decide
  | cred k => revert k; decide
  | send k s b => revert k s b; decide
  | recv k s b => revert k s b; decide
instance : Fintype CK := ⟨allCK.toFinset, fun x => List.mem_toFinset.mpr (mem_allCK x)⟩

abbrev cellX (x : Dev nD × CK) : GSem nD τ sig := ((x.1 : Thread nD τ), semOf x.2)

variable (m : (ℓ : Loc nD τ sig) → Buf (Elt F) ℓ) (κ : GSem nD τ sig → ℕ) (ν : SK → ℕ)

/-- The invariants of all cells and slots, and the order of waits. -/
def recs : sProp 𝕄 :=
  iprop((bigSep Finset.univ fun x : Dev nD × CK => iprop(cellInv ER (Rd m) (κ (cellX x)) (cellX x) ∗ reached ER (cellX x) 0))
    ∗ (bigSep Finset.univ fun x : SK => slotInv ES (ν x) x (slotS x)) ∗ levAts L lv)

instance recs_persistent : BI.Persistent (recs m κ ν) := by unfold recs; infer_instance

theorem recs_cell (x : Dev nD × CK) : recs m κ ν ⊢ iprop(cellInv ER (Rd m) (κ (cellX x)) (cellX x) ∗ reached ER (cellX x) 0) := by
  unfold recs
  iintro ⟨H, -⟩
  iapply (bigSep_at (Finset.mem_univ x)) $$ H
theorem recs_slot (x : SK) : recs m κ ν ⊢ slotInv ES (ν x) x (slotS x) := by
  unfold recs
  iintro ⟨-, H, -⟩
  iapply (bigSep_at (Finset.mem_univ x)) $$ H
theorem recs_lev : recs m κ ν ⊢ levAts L lv := by
  unfold recs
  iintro ⟨-, -, H⟩
  iexact H

variable (c : Dev nD)

/-- What the device owes, whatever it has waited for so far. -/
def Ow (O : CellTallies nD τ sig ℕ) : sProp 𝕄 := iprop(∃ W : Waits sig ℕ, owes (c : Thread nD τ) O W)

theorem recs_mayWait (sm : SemLoc sig) {ι : ℕ} (hι : ι < 200) {O : CellTallies nD τ sig ℕ} (h : Above ι O) :
    recs m κ ν ⊢ MayWait (c : Thread nD τ) sm ι O := (recs_lev m κ ν).trans (mayWait_of c sm hι h)

def posS (k s : Fin 2) (b : Fin 4) (r : ℕ) : sProp 𝕄 := iprop(atPos ER (sendCell c k s b) r ∅ 0 ∗ reached ER (sendCell c k s b) r)
def posR (k s : Fin 2) (b : Fin 4) (r : ℕ) : sProp 𝕄 := iprop(atPos ER (recvCell c k s b) r ∅ 0 ∗ reached ER (recvCell c k s b) r)

theorem pay_send (k s : Fin 2) (b : Fin 4) {r : ℕ} (hr : r < 3) :
    bigSep ((Rd m).duties (sendCell c k s b) r \ ∅) (fun d => (Rd m).payload (sendCell c k s b) r d) = sendPay m c k s b r := by
  rw [duties_send m c k s b hr, Finset.sdiff_empty, bigSep_singleton, payload_send]
theorem pay_recv (k s : Fin 2) (b : Fin 4) {r : ℕ} (hr : r < 3) :
    bigSep ((Rd m).duties (recvCell c k s b) r \ ∅) (fun d => (Rd m).payload (recvCell c k s b) r d) = recvPay m c k s b r := by
  rw [duties_recv m c k s b hr, Finset.sdiff_empty, bigSep_singleton, payload_recv]

/-- Waiting for a block from the previous device. -/
theorem recv_wait (k s s' : Fin 2) (b : Fin 4) {r ι : ℕ} (hr : r < 3) (hι : ι < 200) {O : CellTallies nD τ sig ℕ} (hO : Above ι O) :
    iprop(recs m κ ν ∗ cred (tallyAt (recvCell c k s' b) ι N) ∗ Ow c O ∗ posR c k s' b r)
      ⊢ WP c (recvWait k s s' b) (fun _ => iprop(Ow c O ∗ posR c k s' b (r + 1) ∗ recvPay m c k s' b r)) := by
  unfold Ow posR
  iintro ⟨#Hr, Hc, ⟨%W, HO⟩, Hat, -⟩
  unfold recvWait
  simp only [Prog.lift]
  iapply (Rounds.wp_wait_rest_token 𝒱₀ ER (Rd m) (c : Thread nD τ) none (κ := κ (recvCell c k s' b))
    (wpE_waitDma2_eq 𝒱₀ (c : Thread nD τ) none Set.univ) (Set.mem_univ _) ι (O := O) (W := W) (R := r) (m := 0) (T := ∅)
    (by rw [expect_recv m c k s' b hr, Nat.zero_add]; rfl)) $$ [Hc HO Hat]
  · isplitr
    · ihave Hx := (recs_cell m κ ν (c, .recv k s' b)) $$ Hr
      icases Hx with ⟨Hx, -⟩
      iexact Hx
    isplitl [Hc]; · iexact Hc
    isplitl [HO]; · iexact HO
    isplitr
    · iapply (recs_mayWait m κ ν c _ hι hO); iexact Hr
    iexact Hat
  rw [pay_recv m c k s' b hr]
  iintro ⟨HO, Hat, #Hre, Hp⟩
  iapply (wp_end c)
  isplitl [HO]; · iexists _; iexact HO
  isplitl [Hat]
  · isplitl [Hat]; · iexact Hat
    iexact Hre
  iexact Hp

/-- Waiting until a block's source may be used again. -/
theorem send_wait (k s s' : Fin 2) (b : Fin 4) {r : ℕ} (hr : r < 3) {O : CellTallies nD τ sig ℕ} (hO : Above 0 O) :
    iprop(recs m κ ν ∗ cred (tallyAt (sendCell c k s b) 0 N) ∗ Ow c O ∗ posS c k s b r)
      ⊢ WP c (sendWait k s s' b) (fun _ => iprop(Ow c O ∗ posS c k s b (r + 1) ∗ sendPay m c k s b r)) := by
  unfold Ow posS
  iintro ⟨#Hr, Hc, ⟨%W, HO⟩, Hat, -⟩
  unfold sendWait
  simp only [Prog.lift]
  iapply (Rounds.wp_wait_rest_token 𝒱₀ ER (Rd m) (c : Thread nD τ) none (κ := κ (sendCell c k s b))
    (wpE_waitDma2_eq 𝒱₀ (c : Thread nD τ) none Set.univ) (Set.mem_univ _) 0 (O := O) (W := W) (R := r) (m := 0) (T := ∅)
    (by rw [expect_send m c k s b hr, Nat.zero_add]; rfl)) $$ [Hc HO Hat]
  · isplitr
    · ihave Hx := (recs_cell m κ ν (c, .send k s b)) $$ Hr
      icases Hx with ⟨Hx, -⟩
      iexact Hx
    isplitl [Hc]; · iexact Hc
    isplitl [HO]; · iexact HO
    isplitr
    · iapply (recs_mayWait m κ ν c _ (by omega) hO); iexact Hr
    iexact Hat
  rw [pay_send m c k s b hr]
  iintro ⟨HO, Hat, #Hre, Hp⟩
  iapply (wp_end c)
  isplitl [HO]; · iexists _; iexact HO
  isplitl [Hat]
  · isplitl [Hat]; · iexact Hat
    iexact Hre
  iexact Hp

theorem nxt_prv : ∀ (c : Dev nD) (k : Fin 2), nxt (prv c k) k = c := by decide
theorem prv_nxt : ∀ (c : Dev nD) (k : Fin 2), prv (nxt c k) k = c := by decide

/-- What the `u`-th send of a block uses up. -/
def sendTok (k : Fin 2) (b : Fin 4) (u : ℕ) : sProp 𝕄 :=
  iprop(dutyTok ER (sendCell c k (par u) b) (u / 2) 0 ∗ dutyTok ER (recvCell (nxt c k) k (par (u + 1)) b) (u / 2) 0
    ∗ writeTok ES (nxt c k, k, par (u + 1), b) (u / 2 + 1))

theorem send_op (k s s' : Fin 2) (b : Fin 4) {u ι : ℕ} (hu : u < 6) (hs : s = par u) (hs' : s' = par (u + 1)) (n : Dev nD) (hn : n = nxt c k)
    {O₁ O : CellTallies nD τ sig ℕ} (hO : O₁ = O + tallyAt (recvCell (nxt c k) k s' b) ι N) (h₁ h₂ h₃) :
    iprop(recs m κ ν ∗ Ow c O₁ ∗ slotP c k s b fullShare (slotBuf m c k u) ∗ sendTok c k b u ∗ reached ER (sendCell c k s b) (u / 2)
        ∗ reached ER (recvCell (nxt c k) k s' b) (u / 2) ∗ released ES (nxt c k, k, s', b) (u / 2 + 1))
      ⊢ WP c (.op (.enqueueDma (vBlk k s b) (.remote (Dev.tc n) (vBlk k s' b) (.dma (sendSem k s b))) (.dma (recvSem k s' b)) h₁ h₂ h₃) .ret)
          (fun _ => iprop(Ow c O ∗ slotP c k s b fullShare.right (slotBuf m c k u) ∗ cred (tallyAt (sendCell c k s b) 0 N))) := by
  subst hn hs hs'
  unfold Ow sendTok
  iintro ⟨#Hr, ⟨%W, HO⟩, Hs, ⟨Ht₁, Ht₂, Hw⟩, #Hr₁, #Hr₂, #Hrel⟩
  ihave Hs := (slotP_split c k (par u) b (slotBuf m c k u)).1 $$ Hs
  icases Hs with ⟨Hl, Hs⟩
  imod (slot_take ES (ι := ν (nxt c k, k, par (u + 1), b)) (Es := Set.univ) (k := (nxt c k, k, par (u + 1), b)) (S := slotS (nxt c k, k, par (u + 1), b))
    (Set.mem_univ _) (u / 2 + 1)) $$ [Hw] with Hd
  · isplitr
    · iapply (recs_slot m κ ν _); iexact Hr
    isplitr
    · iexact Hrel
    iexact Hw
  unfold slotS
  icases Hd with ⟨%fd, Hd⟩
  unfold slotP
  iapply (Rounds.wp_send_pointsTo 𝒱₀ ER (Rd m) (c : Thread nD τ) none (c' := (nxt c k : Thread nD τ)) (src := vBlk k (par u) b) (dst := vBlk k (par (u + 1)) b)
    (sS := .dma (sendSem k (par u) b)) (sem := .dma (recvSem k (par (u + 1)) b))
    (κ₁ := κ (sendCell c k (par u) b)) (κ₂ := κ (recvCell (nxt c k) k (par (u + 1)) b)) (r₁ := u / 2) (r₂ := u / 2) (d₁ := 0) (d₂ := 0)
    (fs := slotBuf m c k u) (fd := fd)
    (by rw [duties_send m c k (par u) b (by omega)]; exact Finset.mem_singleton_self _)
    (by rw [duties_recv m (nxt c k) k (par (u + 1)) b (by omega)]; exact Finset.mem_singleton_self _)
    ι 0 N rfl (amount_send m c k _ b _ _) (amount_recv m (nxt c k) k _ b _ _) O hO (W := W)
    (by
      rw [payload_send]; unfold sendPay slotP
      have e : 2 * (u / 2) + (par u).val = u := by show 2 * (u / 2) + u % 2 = u; omega
      rw [e])
    (by
      rw [payload_recv]; unfold recvPay slotP
      have e : 2 * (u / 2) + (1 - (par (u + 1)).val) = u := by show 2 * (u / 2) + (1 - (u + 1) % 2) = u; omega
      rw [e, prv_nxt]
      exact Entails.of_eq (pointsTo_congr (land_write m c k u k (par u) (par (u + 1)) b fd)))) $$ [Hl Hd HO Ht₁ Ht₂]
  · isplitr
    · ihave Hx := (recs_cell m κ ν (c, .send k (par u) b)) $$ Hr
      icases Hx with ⟨Hx, -⟩
      iexact Hx
    isplitr
    · ihave Hx := (recs_cell m κ ν (nxt c k, .recv k (par (u + 1)) b)) $$ Hr
      icases Hx with ⟨Hx, -⟩
      iexact Hx
    isplitl [Hl]; · iexact Hl
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply (wp_end c)
  isplitl [HO]; · iexists _; iexact HO
  isplitl [Hs]; · iexact Hs
  iexact Hc

/-- The `u`-th send of a block. -/
theorem send_blk (k s s' : Fin 2) (b : Fin 4) {u ι : ℕ} (hu : u < 6) (hs : s = par u) (hs' : s' = par (u + 1))
    {O₁ O : CellTallies nD τ sig ℕ} (hO : O₁ = O + tallyAt (recvCell (nxt c k) k s' b) ι N) :
    iprop(recs m κ ν ∗ Ow c O₁ ∗ slotP c k s b fullShare (slotBuf m c k u) ∗ sendTok c k b u ∗ reached ER (sendCell c k s b) (u / 2)
        ∗ reached ER (recvCell (nxt c k) k s' b) (u / 2) ∗ released ES (nxt c k, k, s', b) (u / 2 + 1))
      ⊢ WP c (sendBlk c k s s' b)
          (fun _ => iprop(Ow c O ∗ slotP c k s b fullShare.right (slotBuf m c k u) ∗ cred (tallyAt (sendCell c k s b) 0 N))) :=
  send_op m κ ν c k s s' b hu hs hs' (sendDev c k) (sendDev_eq c k) hO _ _ _

/-! ## Credits -/

omit [FloatOps F] in
theorem facts_mono (e : Dev nD) (k : Fin 2) {i j : ℕ} (h : i ≤ j) : facts (F := F) e k j ⊢ facts e k i :=
  bigSep_subset (Finset.range_mono h)
omit [FloatOps F] in
theorem facts_at (e : Dev nD) (k : Fin 2) {i j : ℕ} (h : i < j) : facts (F := F) e k j ⊢ fact e k i :=
  bigSep_at (Finset.mem_range.mpr h)
omit [FloatOps F] in
theorem facts_succ (e : Dev nD) (k : Fin 2) (i : ℕ) : facts (F := F) e k (i + 1) = iprop(fact e k i ∗ facts e k i) := by
  unfold facts; rw [Finset.range_add_one, bigSep_insert Finset.notMem_range_self]; rfl

/-- `n` credits of ring `k` taken. -/
def credPos (k : Fin 2) (n : ℕ) : sProp 𝕄 :=
  iprop(∃ T : Finset ℕ, ⌜T ⊆ Finset.range 24⌝ ∗ atPos ER (credCell c k) 0 T n ∗ bigSep T fun d => facts (nxt c k) k (d + 1))
omit [FloatOps F] in
theorem credPos_zero (k : Fin 2) : atPos ER (credCell c k) 0 ∅ 0 ⊢ credPos (F := F) c k 0 := by
  unfold credPos
  iintro H
  iexists ∅
  isplitr; · ipureintro; exact Finset.empty_subset _
  isplitl [H]; · iexact H
  rw [bigSep_empty]
  iempintro

theorem cred_op (k : Fin 2) {i ι : ℕ} (hi : i < 24) (n : Dev nD) (hn : n = prv c k)
    {O₁ O : CellTallies nD τ sig ℕ} (hO : O₁ = O + tallyAt (credCell (prv c k) k) ι 1) :
    iprop(recs m κ ν ∗ Ow c O₁ ∗ dutyTok ER (credCell (prv c k) k) 0 i ∗ facts c k (i + 1))
      ⊢ WP c (semSignalWord n (credSem k) 1#32) (fun _ => Ow c O) := by
  subst hn
  unfold Ow
  iintro ⟨#Hr, ⟨%W, HO⟩, Ht, Hf⟩
  simp only [semSignalWord, Prog.lift]
  iapply (Rounds.wp_signal 𝒱₀ ER (Rd m) (c : Thread nD τ) none (dst := (prv c k : Thread nD τ)) (κ := κ (credCell (prv c k) k)) (r := 0) (d := i)
    (by rw [duties_cred]; exact Finset.mem_range.mpr hi) ((amount_cred m (prv c k) k 0 i).trans (by decide)) ι O hO) $$ [HO Ht Hf]
  · isplitr
    · ihave Hx := (recs_cell m κ ν (prv c k, .cred k)) $$ Hr
      icases Hx with ⟨Hx, -⟩
      iexact Hx
    isplitl [HO]; · iexact HO
    isplitl [Ht]; · iexact Ht
    isplitl [Hf]
    · rw [payload_cred, nxt_prv]; iexact Hf
    ihave Hx := (recs_cell m κ ν (prv c k, .cred k)) $$ Hr
    icases Hx with ⟨-, Hx⟩
    iexact Hx
  iintro HO
  iapply (wp_end c)
  iexists _; iexact HO

/-- Giving a credit to the previous device. -/
theorem cred_signal (k : Fin 2) {i ι : ℕ} (hi : i < 24)
    {O₁ O : CellTallies nD τ sig ℕ} (hO : O₁ = O + tallyAt (credCell (prv c k) k) ι 1) :
    iprop(recs m κ ν ∗ Ow c O₁ ∗ dutyTok ER (credCell (prv c k) k) 0 i ∗ facts c k (i + 1))
      ⊢ WP c (semSignalWord (credDev c k) (credSem k) 1#32) (fun _ => Ow c O) :=
  cred_op m κ ν c k hi (credDev c k) (credDev_eq c k) hO

/-- Among any `n + 1` credits of 24 there is one that says all that the first `n + 1` say. -/
theorem late_credit {n : ℕ} {S : Finset ℕ} (hS : S ⊆ Finset.range 24) (hc : n + 1 + (Finset.range 24 \ S).card ≤ 24) : ∃ d ∈ S, n ≤ d := by
  by_contra h
  have h' : S ⊆ Finset.range n := fun d hd => by
    rw [Finset.mem_range]; by_contra hn; exact h ⟨d, hd, by omega⟩
  have h1 := Finset.card_le_card h'
  have h2 := Finset.card_sdiff_add_card_eq_card hS
  rw [Finset.card_range] at h1 h2
  omega

theorem pay_cred (k : Fin 2) (S : Finset ℕ) :
    (bigSep S fun d => (Rd m).payload (credCell c k) 0 d) ⊢ (bigSep S fun d => facts (F := F) (nxt c k) k (d + 1) : sProp 𝕄) :=
  Entails.of_eq (bigSep_congr fun d _ => payload_cred m c k 0 d)

/-- Waiting for one credit. -/
theorem cred_wait (k : Fin 2) {n ι : ℕ} (hι : ι < 200) {O : CellTallies nD τ sig ℕ} (hO : Above ι O) :
    iprop(recs m κ ν ∗ cred (tallyAt (credCell c k) ι 1) ∗ Ow c O ∗ credPos c k n)
      ⊢ WP c (semWaitWord (credSem k) 1#32) (fun _ => iprop(Ow c O ∗ credPos c k (n + 1) ∗ facts (nxt c k) k (n + 1))) := by
  unfold Ow credPos
  iintro ⟨#Hr, Hc, ⟨%W, HO⟩, ⟨%T, %hT, Hat, #HT⟩⟩
  simp only [semWaitWord, Prog.lift]
  iapply (Rounds.wp_wait 𝒱₀ ER (Rd m) (c : Thread nD τ) none (κ := κ (credCell c k)) (k' := 1) (sm := .reg (credSem k))
    (wpE_semWait_eq 𝒱₀ (c : Thread nD τ) none Set.univ) (Set.mem_univ _) (cr := Finsupp.single ι 1) (O := O) (W := W)
    {((SemLoc.reg (credSem k) : SemLoc sig), ι)} (R := 0) (m := n) (T := T)
    (by rw [Util.total_single]) (image_single_subset _ ι 1)) $$ [Hc HO Hat]
  · isplitr
    · ihave Hx := (recs_cell m κ ν (c, .cred k)) $$ Hr
      icases Hx with ⟨Hx, -⟩
      iexact Hx
    isplitl [Hc]; · iexact Hc
    isplitl [HO]; · iexact HO
    isplitr
    · iapply (recs_mayWait m κ ν c (.reg (credSem k)) hι hO); iexact Hr
    iexact Hat
  rw [duties_cred, expect_cred]
  iintro %S ⟨%hS, HO, Hat, Hp⟩
  iapply (wp_end c)
  isplitl [HO]; · iexists _; iexact HO
  ihave Hp := (pay_cred m c k (S \ T)) $$ Hp
  icases Hp with #Hp
  ihave HS := (bigSep_join hS.1 (Φ := fun d => facts (F := F) (nxt c k) k (d + 1))) $$ [HT Hp]
  · isplitl [HT]; · iexact HT
    iexact Hp
  icases HS with #HS
  obtain ⟨d, hd, hn⟩ := late_credit hS.2.1 hS.2.2
  isplitl [Hat]
  · iexists S
    isplitr; · ipureintro; exact hS.2.1
    isplitl [Hat]; · iexact Hat
    iexact HS
  iapply (facts_mono (nxt c k) k (i := n + 1) (j := d + 1) (by omega))
  iapply (bigSep_at hd (Φ := fun d => facts (F := F) (nxt c k) k (d + 1))) $$ HS

/-- Waiting for the last four credits. -/
theorem cred_wait_last (k : Fin 2) {ι₀ ι₁ ι₂ ι₃ : ℕ} :
    iprop(recs m κ ν ∗ (cred (tallyAt (credCell c k) ι₀ 1) ∗ cred (tallyAt (credCell c k) ι₁ 1) ∗ cred (tallyAt (credCell c k) ι₂ 1)
          ∗ cred (tallyAt (credCell c k) ι₃ 1)) ∗ Ow c 0 ∗ credPos c k 20)
      ⊢ WP c (semWaitWord (credSem k) 4#32) (fun _ => iprop(Ow c 0 ∗ atPos ER (credCell c k) 1 ∅ 0)) := by
  unfold Ow credPos
  iintro ⟨#Hr, ⟨H₀, H₁, H₂, H₃⟩, ⟨%W, HO⟩, ⟨%T, %hT, Hat, -⟩⟩
  simp only [semWaitWord, Prog.lift]
  iapply (Rounds.wp_wait_rest 𝒱₀ ER (Rd m) (c : Thread nD τ) none (κ := κ (credCell c k)) (k' := 4) (sm := .reg (credSem k))
    (wpE_semWait_eq 𝒱₀ (c : Thread nD τ) none Set.univ) (Set.mem_univ _)
    (cr := Finsupp.single ι₀ 1 + (Finsupp.single ι₁ 1 + (Finsupp.single ι₂ 1 + Finsupp.single ι₃ 1))) (O := 0) (W := W)
    _ (R := 0) (m := 20) (T := T)
    (by rw [expect_cred]) (by simp only [Util.total_add, Util.total_single]) (Finset.Subset.refl _)) $$ [H₀ H₁ H₂ H₃ HO Hat]
  · isplitr
    · ihave Hx := (recs_cell m κ ν (c, .cred k)) $$ Hr
      icases Hx with ⟨Hx, -⟩
      iexact Hx
    isplitl [H₀ H₁ H₂ H₃]
    · rw [tallyOn_add, tallyOn_add, tallyOn_add]
      iapply (cred_add _ _).2
      isplitl [H₀]; · iexact H₀
      iapply (cred_add _ _).2
      isplitl [H₁]; · iexact H₁
      iapply (cred_add _ _).2
      isplitl [H₂]; · iexact H₂
      iexact H₃
    isplitl [HO]; · iexact HO
    isplitr
    · rw [MayOwe_zero]; iempintro
    iexact Hat
  iintro ⟨HO, Hat, -, -⟩
  iapply (wp_end c)
  isplitl [HO]; · iexists _; iexact HO
  iexact Hat

/-! ## The barrier -/

theorem nxt_other : ∀ (c : Dev nD) (k : Fin 2), nxt (nxt c k) (flip k) = c := by decide

theorem bar_op (k : Fin 2) (n : Dev nD) (hn : n = nxt c k) {O : CellTallies nD τ sig ℕ} :
    iprop(recs m κ ν ∗ Ow c (O + barTally c k) ∗ dutyTok ER (barCell (nxt c k)) 0 (1 - k.val)
        ∗ bigSep Finset.univ fun b : Fin 4 => released ES (c, flip k, 1, b) 1)
      ⊢ WP c (semSignalWord n barSem 1#32) (fun _ => Ow c O) := by
  subst hn
  unfold Ow
  iintro ⟨#Hr, ⟨%W, HO⟩, Ht, Hf⟩
  simp only [semSignalWord, Prog.lift]
  iapply (Rounds.wp_signal 𝒱₀ ER (Rd m) (c : Thread nD τ) none (dst := (nxt c k : Thread nD τ)) (κ := κ (barCell (nxt c k))) (r := 0) (d := 1 - k.val)
    (by rw [duties_bar]; revert k; decide) ((amount_bar m (nxt c k) 0 _).trans (by decide)) 1 O rfl) $$ [HO Ht Hf]
  · isplitr
    · ihave Hx := (recs_cell m κ ν (nxt c k, .bar)) $$ Hr
      icases Hx with ⟨Hx, -⟩
      iexact Hx
    isplitl [HO]; · iexact HO
    isplitl [Ht]; · iexact Ht
    isplitl [Hf]
    · rw [payload_bar]
      have e : (if 1 - k.val = 0 then (0 : Fin 2) else 1) = flip k := by revert k; decide
      rw [e]; unfold barPay; rw [nxt_other]; iexact Hf
    ihave Hx := (recs_cell m κ ν (nxt c k, .bar)) $$ Hr
    icases Hx with ⟨-, Hx⟩
    iexact Hx
  iintro HO
  iapply (wp_end c)
  iexists _; iexact HO

/-- Waiting at the barrier. -/
theorem bar_wait {O : CellTallies nD τ sig ℕ} (hO : Above 1 O) :
    iprop(recs m κ ν ∗ cred (tallyAt (barCell c) 1 2) ∗ Ow c O ∗ atPos ER (barCell c) 0 ∅ 0)
      ⊢ WP c (semWaitWord barSem 2#32) (fun _ => iprop(Ow c O ∗ atPos ER (barCell c) 1 ∅ 0 ∗ barPay c 0 ∗ barPay c 1)) := by
  unfold Ow
  iintro ⟨#Hr, Hc, ⟨%W, HO⟩, Hat⟩
  simp only [semWaitWord, Prog.lift]
  iapply (Rounds.wp_wait_rest_token 𝒱₀ ER (Rd m) (c : Thread nD τ) none (κ := κ (barCell c)) (k' := 2) (sm := .reg barSem)
    (wpE_semWait_eq 𝒱₀ (c : Thread nD τ) none Set.univ) (Set.mem_univ _) 1 (O := O) (W := W) (R := 0) (m := 0) (T := ∅)
    (by rw [expect_bar])) $$ [Hc HO Hat]
  · isplitr
    · ihave Hx := (recs_cell m κ ν (c, .bar)) $$ Hr
      icases Hx with ⟨Hx, -⟩
      iexact Hx
    isplitl [Hc]; · iexact Hc
    isplitl [HO]; · iexact HO
    isplitr
    · iapply (recs_mayWait m κ ν c (.reg barSem) (by omega) hO); iexact Hr
    iexact Hat
  have e : bigSep ((Rd m).duties (barCell c) 0 \ ∅) (fun d => (Rd m).payload (barCell c) 0 d) = iprop(barPay (F := F) c 0 ∗ barPay c 1) := by
    rw [duties_bar, Finset.sdiff_empty, bigSep_insert (by decide), bigSep_singleton, payload_bar, payload_bar]; rfl
  rw [e]
  iintro ⟨HO, Hat, -, Hp⟩
  iapply (wp_end c)
  isplitl [HO]; · iexists _; iexact HO
  isplitl [Hat]; · iexact Hat
  iexact Hp

end Cert.KernelIdeal.Ring

end
-- ==== Proof.Conv.lean ====
/- The conversion of the arguments to their 8-bit copies, tile by tile through two staging slots. -/
module

public import proofs.«01_k».proof.Proof.Comm

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ) (ν : SK → ℕ) (c : Dev nD)

/-- Units of a staged tile's copy. -/
def NC : ℕ := (vC 0).view.dmaCredit
theorem NC_pos : 0 < NC := View.dmaCredit_pos _ (by decide)

/-- The share of the arguments a staging slot reads with. -/
def sh (s : Fin 2) : PosShare TreeShare := if s.val = 0 then fullShare.left else fullShare.right

abbrev vXt (q : Fin 8) : Memref sig .tc .hbm S512x1024 .f32 := vX (xOff c q) (xOff_inb c q)

def xSrc (s : Fin 2) : sProp 𝕄 := mX.view.loc (c : Thread nD τ) ↦[Finset.univ]{sh s} xArg m c
def wSrc (s : Fin 2) : sProp 𝕄 := mW.view.loc (c : Thread nD τ) ↦[Finset.univ]{sh s} wArg m c

/-- The part of the arguments a tile is, and the rest. -/
def tileReg (s : Fin 2) : Tile → sProp 𝕄
  | .x q => (vXt c q).view.loc (c : Thread nD τ) ↦[(vXt c q).view.set]{sh s} xArg m c
  | .w n => (vW n).view.loc (c : Thread nD τ) ↦[(vW n).view.set]{sh s} wArg m c
def tileRest (s : Fin 2) : Tile → sProp 𝕄
  | .x q => iprop((mX.view.loc (c : Thread nD τ) ↦[Finset.univ \ (vXt c q).view.set]{sh s} xArg m c) ∗ wSrc m c s)
  | .w n => iprop((mW.view.loc (c : Thread nD τ) ↦[Finset.univ \ (vW n).view.set]{sh s} wArg m c) ∗ xSrc m c s)

theorem src_split (s : Fin 2) (t : Tile) : iprop(xSrc m c s ∗ wSrc m c s) ⊢ iprop(tileReg m c s t ∗ tileRest m c s t) := by
  cases t with
  | x q =>
    unfold tileReg tileRest
    iintro ⟨Hx, Hw⟩
    unfold xSrc
    ihave Hx := (pointsTo_split_subset (Finset.subset_univ (vXt c q).view.set)).1 $$ Hx
    icases Hx with ⟨H₁, H₂⟩
    isplitl [H₁]; · iexact H₁
    isplitl [H₂]; · iexact H₂
    iexact Hw
  | w n =>
    unfold tileReg tileRest
    iintro ⟨Hx, Hw⟩
    unfold wSrc
    ihave Hw := (pointsTo_split_subset (Finset.subset_univ (vW n).view.set)).1 $$ Hw
    icases Hw with ⟨H₁, H₂⟩
    isplitl [H₁]; · iexact H₁
    isplitl [H₂]; · iexact H₂
    iexact Hx
theorem src_join (s : Fin 2) (t : Tile) : iprop(tileReg m c s t ∗ tileRest m c s t) ⊢ iprop(xSrc m c s ∗ wSrc m c s) := by
  cases t with
  | x q =>
    unfold tileReg tileRest
    iintro ⟨H₁, H₂, Hw⟩
    isplitr [Hw]
    · unfold xSrc
      iapply (pointsTo_split_subset (Finset.subset_univ (vXt c q).view.set)).2
      isplitl [H₁]; · iexact H₁
      iexact H₂
    iexact Hw
  | w n =>
    unfold tileReg tileRest
    iintro ⟨H₁, H₂, Hx⟩
    isplitl [Hx]; · iexact Hx
    unfold wSrc
    iapply (pointsTo_split_subset (Finset.subset_univ (vW n).view.set)).2
    isplitl [H₁]; · iexact H₁
    iexact H₂

def stageHas (s : Fin 2) (t : Tile) : sProp 𝕄 := iprop(∃ fc, ⌜(vC s).view.read (Elt F) fc = tileRead m c t⌝ ∗ cP c s fc)
abbrev convV (s : Fin 2) : sProp 𝕄 := semVal ((c : Thread nD τ), .dma (convSem s)) 0
/-- Staging slot `s` free, a tile on its way into it, and the tile in it. -/
def idle (s : Fin 2) : sProp 𝕄 := iprop((xSrc m c s ∗ wSrc m c s) ∗ (∃ fc, cP c s fc) ∗ convV c s)
def busy (s : Fin 2) (t : Tile) : sProp 𝕄 :=
  iprop(Flight EC (c : Thread nD τ) (.dma (convSem s)) 0 NC iprop(stageHas m c s t ∗ tileReg m c s t) ∗ tileRest m c s t)
def full (s : Fin 2) (t : Tile) : sProp 𝕄 := iprop((xSrc m c s ∗ wSrc m c s) ∗ stageHas m c s t ∗ convV c s)

theorem stage_lands (s : Fin 2) (t : Tile) (f : Vec F S2x512x1024 .f32) :
    ((vC s).view.loc (c : Thread nD τ) ↦[(vC s).view.set]{fullShare} ((vC s).view.write (Elt F) f (tileRead m c t) Finset.univ) : sProp 𝕄)
      ⊢ stageHas m c s t := by
  unfold stageHas cP
  iintro H
  iexists ((vC s).view.write (Elt F) f (tileRead m c t) Finset.univ)
  isplitr
  · ipureintro; exact (vC s).view.read_write_univ f _
  iexact H

theorem conv_start (s : Fin 2) (t : Tile) : idle m c s ⊢ WP c (tStart c s t) (fun _ => busy m c s t) := by
  unfold idle
  iintro ⟨Hsrc, ⟨%fc, Hc⟩, Hv⟩
  ihave Hsrc := (src_split m c s t) $$ Hsrc
  icases Hsrc with ⟨Hreg, Hrest⟩
  have hl := stage_lands m c s t fc
  unfold busy cP
  cases t with
  | x q =>
    unfold tStart xStart
    simp only [Prog.lift]
    unfold tileReg
    iapply (Transfers.wp_dmaLocal EC 𝒱₀ (c : Thread nD τ) none (src := vXt c q) (dst := vC s) (sm := .dma (convSem s)) (fs := xArg m c) (fd := fc)
      (Sd := (vC s).view.set) 0 NC rfl NC_pos (Finset.Subset.refl _)) $$ [Hreg Hc Hv]
    · isplitl [Hreg]; · iexact Hreg
      isplitl [Hc]; · iexact Hc
      iexact Hv
    iintro Hf
    iapply (wp_end c)
    isplitl [Hf]
    · iapply (Flight_mono EC (c : Thread nD τ) ?_) $$ Hf
      iintro ⟨H₁, H₂⟩
      isplitl [H₁]
      · iapply hl; iexact H₁
      iexact H₂
    iexact Hrest
  | w n =>
    unfold tStart wStart
    simp only [Prog.lift]
    unfold tileReg
    iapply (Transfers.wp_dmaLocal EC 𝒱₀ (c : Thread nD τ) none (src := vW n) (dst := vC s) (sm := .dma (convSem s)) (fs := wArg m c) (fd := fc)
      (Sd := (vC s).view.set) 0 NC rfl NC_pos (Finset.Subset.refl _)) $$ [Hreg Hc Hv]
    · isplitl [Hreg]; · iexact Hreg
      isplitl [Hc]; · iexact Hc
      iexact Hv
    iintro Hf
    iapply (wp_end c)
    isplitl [Hf]
    · iapply (Flight_mono EC (c : Thread nD τ) ?_) $$ Hf
      iintro ⟨H₁, H₂⟩
      isplitl [H₁]
      · iapply hl; iexact H₁
      iexact H₂
    iexact Hrest

theorem conv_wait (s : Fin 2) (t : Tile) {O : CellTallies nD τ sig ℕ} (hO : Above 0 O) :
    iprop(recs m κ ν ∗ Ow c O ∗ busy m c s t) ⊢ WP c (tWait c s t) (fun _ => iprop(Ow c O ∗ full m c s t)) := by
  have hj := src_join m c s t
  unfold Ow busy full
  iintro ⟨#Hr, ⟨%W, HO⟩, Hf, Hrest⟩
  cases t with
  | x q =>
    unfold tWait xWait
    simp only [Prog.lift]
    iapply (Transfers.wp_waitLocalO EC 𝒱₀ (c : Thread nD τ) none (srcw := vXt c q) (dstw := vC s) 0 (N := NC) rfl (O := O) (W := W)) $$ [HO Hf]
    · isplitl [Hf]; · iexact Hf
      isplitl [HO]; · iexact HO
      iapply (recs_mayWait m κ ν c _ (by omega) hO); iexact Hr
    iintro ⟨⟨Hs, Hreg⟩, Hv, HO⟩
    iapply (wp_end c)
    isplitl [HO]; · iexists _; iexact HO
    isplitl [Hreg Hrest]
    · iapply hj
      isplitl [Hreg]; · iexact Hreg
      iexact Hrest
    isplitl [Hs]; · iexact Hs
    iexact Hv
  | w n =>
    unfold tWait wWait
    simp only [Prog.lift]
    iapply (Transfers.wp_waitLocalO EC 𝒱₀ (c : Thread nD τ) none (srcw := vW n) (dstw := vC s) 0 (N := NC) rfl (O := O) (W := W)) $$ [HO Hf]
    · isplitl [Hf]; · iexact Hf
      isplitl [HO]; · iexact HO
      iapply (recs_mayWait m κ ν c _ (by omega) hO); iexact Hr
    iintro ⟨⟨Hs, Hreg⟩, Hv, HO⟩
    iapply (wp_end c)
    isplitl [HO]; · iexists _; iexact HO
    isplitl [Hreg Hrest]
    · iapply hj
      isplitl [Hreg]; · iexact Hreg
      iexact Hrest
    isplitl [Hs]; · iexact Hs
    iexact Hv

/-- The 8-bit copies with the tiles `ts` in them. -/
def xw (ts : List Tile) : sProp 𝕄 := iprop(∃ fx fw, ⌜∀ t ∈ ts, okT m c fx fw t⌝ ∗ xqP c fx ∗ wqP c fw)

theorem xw_mono {ts us : List Tile} (h : ∀ t ∈ us, t ∈ ts) : xw m c ts ⊢ xw m c us := by
  unfold xw
  iintro ⟨%fx, %fw, %hok, Hx, Hw⟩
  iexists fx; iexists fw
  isplitr; · ipureintro; exact fun t ht => hok t (h t ht)
  isplitl [Hx]; · iexact Hx
  iexact Hw

theorem okT_x (q : Fin 8) (ts : List Tile) {fx fx' : Vec F S4096x1024 .fp8e4m3} {fw : Vec F S1024x8192 .fp8e5m2} (hok : ∀ t ∈ ts, okT m c fx fw t)
    (hx : ∀ i : S4096x1024.Idx, (xChunk c q * 1024 + q.val % 2 * 512 ≤ (i (0 : Fin 2)).val ∧ (i (0 : Fin 2)).val < xChunk c q * 1024 + q.val % 2 * 512 + 512)
      ∨ fx i = xqFull m c i → fx' i = xqFull m c i) : ∀ t ∈ Tile.x q :: ts, okT m c fx' fw t := by
  intro t ht
  rcases List.mem_cons.mp ht with rfl | ht
  · exact fun i h₁ h₂ => hx i (.inl ⟨h₁, h₂⟩)
  · have h := hok t ht
    cases t with
    | x q' => exact fun i h₁ h₂ => hx i (.inr (h i h₁ h₂))
    | w n => exact fun i h₁ h₂ h₃ h₄ => h i h₁ h₂ h₃ h₄
theorem okT_w (n : Fin 16) (ts : List Tile) {fx : Vec F S4096x1024 .fp8e4m3} {fw fw' : Vec F S1024x8192 .fp8e5m2} (hok : ∀ t ∈ ts, okT m c fx fw t)
    (hw : ∀ i : S1024x8192.Idx, ((n.val % 2 * 512 ≤ (i (0 : Fin 2)).val ∧ (i (0 : Fin 2)).val < n.val % 2 * 512 + 512) ∧
        n.val / 2 * 1024 ≤ (i (1 : Fin 2)).val ∧ (i (1 : Fin 2)).val < n.val / 2 * 1024 + 1024) ∨ fw i = wqFull m c i → fw' i = wqFull m c i) :
    ∀ t ∈ Tile.w n :: ts, okT m c fx fw' t := by
  intro t ht
  rcases List.mem_cons.mp ht with rfl | ht
  · exact fun i h₁ h₂ h₃ h₄ => hw i (.inl ⟨⟨h₁, h₂⟩, h₃, h₄⟩)
  · have h := hok t ht
    cases t with
    | x q' => exact fun i h₁ h₂ => h i h₁ h₂
    | w n => exact fun i h₁ h₂ h₃ h₄ => hw i (.inr (h i h₁ h₂ h₃ h₄))

theorem conv_cast (s : Fin 2) (t : Tile) (ts : List Tile) :
    iprop(full m c s t ∗ xw m c ts) ⊢ WP c (tCast c s t) (fun _ => iprop(idle m c s ∗ xw m c (t :: ts))) := by
  have hs : (mC.access (Rect.unit (s := S2x512x1024) ![s.val, 0, 0] S1x512x1024.size (inbC s))).set = (vC s).view.set := (View.set_reshape _ _).symm
  unfold full stageHas xw idle xqP wqP
  iintro ⟨⟨Hsrc, ⟨%fc, %hfc, Hc⟩, Hv⟩, ⟨%fx, %fw, %hok, Hx, Hw⟩⟩
  unfold cP
  cases t with
  | x q =>
    unfold tCast xCast
    simp only [Prog.lift, Prog.bind_op, Prog.bind_ret]
    iapply (wp_load_rect 𝒱₀ (c : Thread nD τ) none Set.univ (m := mC) (hS := hs.subset)) $$ Hc
    iintro Hc
    iapply (wp_load 𝒱₀ (c : Thread nD τ) none Set.univ (m := mXq) (Finset.subset_univ _)) $$ Hx
    iintro Hx
    iapply (wp_store 𝒱₀ (c : Thread nD τ) none Set.univ (m := mXq) (r := Rect.unit (s := S4096x1024) (xqOff c q) S512x1024.size (xqOff_inb c q)) (Mk := Finset.univ) (hS := Finset.subset_univ _)) $$ Hx
    iintro Hx
    iapply (wp_end c)
    isplitl [Hsrc Hc Hv]
    · isplitl [Hsrc]; · iexact Hsrc
      isplitl [Hc]; · iexists fc; iexact Hc
      iexact Hv
    iexists _; iexists fw
    isplitr
    rotate_left
    · isplitl [Hx]; · iexact Hx
      iexact Hw
    ipureintro
    exact okT_x m c q ts hok (x_write m c q s fc fx hfc)
  | w n =>
    unfold tCast wCast
    simp only [Prog.lift, Prog.bind_op, Prog.bind_ret]
    iapply (wp_load_rect 𝒱₀ (c : Thread nD τ) none Set.univ (m := mC) (hS := hs.subset)) $$ Hc
    iintro Hc
    iapply (wp_load 𝒱₀ (c : Thread nD τ) none Set.univ (m := mWq) (Finset.subset_univ _)) $$ Hw
    iintro Hw
    iapply (wp_store 𝒱₀ (c : Thread nD τ) none Set.univ (m := mWq) (r := Rect.unit (s := S1024x8192) ![n.val % 2 * 512, n.val / 2 * 1024] S512x1024.size (inbW n)) (Mk := Finset.univ) (hS := Finset.subset_univ _)) $$ Hw
    iintro Hw
    iapply (wp_end c)
    isplitl [Hsrc Hc Hv]
    · isplitl [Hsrc]; · iexact Hsrc
      isplitl [Hc]; · iexists fc; iexact Hc
      iexact Hv
    iexists fx; iexists _
    isplitr
    rotate_left
    · isplitl [Hx]; · iexact Hx
      iexact Hw
    ipureintro
    exact okT_w m c n ts hok (w_write m c n s fc fw hfc)

/-! ## The loop -/

theorem idle_both (s : Fin 2) : iprop(idle m c s ∗ idle m c (flip s)) ⊢ iprop(idle m c 0 ∗ idle m c 1) := by
  match s with
  | ⟨0, _⟩ => exact Entails.refl _
  | ⟨1, _⟩ => exact sep_comm.1

theorem flip_flip (s : Fin 2) : flip (flip s) = s := by revert s; decide

/-- Waiting for a staged tile and casting it. -/
theorem conv_one (s : Fin 2) (t : Tile) (ts : List Tile) {O : CellTallies nD τ sig ℕ} (hO : Above 0 O) (p : Pg F PUnit) (Q : PUnit → sProp 𝕄) :
    iprop(recs m κ ν ∗ Ow c O ∗ busy m c s t ∗ xw m c ts)
      ⊢ iprop((iprop(Ow c O ∗ idle m c s ∗ xw m c (t :: ts)) -∗ WP c p Q) -∗ WP c (tWait c s t >>= fun _ => tCast c s t >>= fun _ => p) Q) := by
  iintro ⟨#Hr, HO, Hb, Hxw⟩
  iintro Hk
  iapply (wp_step c (conv_wait m κ ν c s t hO)) $$ [HO Hb]
  · isplitr; · iexact Hr
    isplitl [HO]; · iexact HO
    iexact Hb
  iintro ⟨HO, Hf⟩
  iapply (wp_step c (conv_cast m c s t ts)) $$ [Hf Hxw]
  · isplitl [Hf]; · iexact Hf
    iexact Hxw
  iintro ⟨Hi, Hxw⟩
  iapply Hk
  isplitl [HO]; · iexact HO
  isplitl [Hi]; · iexact Hi
  iexact Hxw

theorem conv_go {O : CellTallies nD τ sig ℕ} (hO : Above 0 O) : ∀ (cs : List Tile) (s : Fin 2) (a b : Tile) (ts : List Tile),
    iprop(recs m κ ν ∗ Ow c O ∗ busy m c s a ∗ busy m c (flip s) b ∗ xw m c ts)
      ⊢ WP c (convGo c s (a :: b :: cs) cs) (fun _ => iprop(Ow c O ∗ (idle m c 0 ∗ idle m c 1) ∗ xw m c ((a :: b :: cs) ++ ts)))
  | [], s, a, b, ts => by
    iintro ⟨#Hr, HO, Ha, Hb, Hxw⟩
    unfold convGo
    iapply (conv_one m κ ν c s a ts hO) $$ [HO Ha Hxw]
    · isplitr; · iexact Hr
      isplitl [HO]; · iexact HO
      isplitl [Ha]; · iexact Ha
      iexact Hxw
    iintro ⟨HO, Ha, Hxw⟩
    unfold convGo
    iapply (conv_one m κ ν c (flip s) b (a :: ts) hO) $$ [HO Hb Hxw]
    · isplitr; · iexact Hr
      isplitl [HO]; · iexact HO
      isplitl [Hb]; · iexact Hb
      iexact Hxw
    iintro ⟨HO, Hb, Hxw⟩
    unfold convGo
    iapply (wp_done c)
    isplitl [HO]; · iexact HO
    isplitl [Ha Hb]
    · iapply (idle_both m c s)
      isplitl [Ha]; · iexact Ha
      iexact Hb
    iapply (xw_mono m c (ts := b :: a :: ts) (by intro t ht; simp only [List.mem_append, List.mem_cons, List.cons_append, List.nil_append] at ht ⊢; tauto))
    iexact Hxw
  | d :: cs, s, a, b, ts => by
    iintro ⟨#Hr, HO, Ha, Hb, Hxw⟩
    unfold convGo
    iapply (conv_one m κ ν c s a ts hO) $$ [HO Ha Hxw]
    · isplitr; · iexact Hr
      isplitl [HO]; · iexact HO
      isplitl [Ha]; · iexact Ha
      iexact Hxw
    iintro ⟨HO, Ha, Hxw⟩
    iapply (wp_step c (conv_start m c s d)) $$ Ha
    iintro Hd
    iapply (wp_last c (conv_go hO cs (flip s) b d (a :: ts))) $$ [HO Hb Hd Hxw]
    · isplitr; · iexact Hr
      isplitl [HO]; · iexact HO
      isplitl [Hb]; · iexact Hb
      isplitl [Hd]; · rw [flip_flip]; iexact Hd
      iexact Hxw
    iintro ⟨HO, Hi, Hxw⟩
    isplitl [HO]; · iexact HO
    isplitl [Hi]; · iexact Hi
    iapply (xw_mono m c (ts := (b :: d :: cs) ++ a :: ts) (by intro t ht; simp only [List.mem_append, List.mem_cons, List.cons_append] at ht ⊢; tauto))
    iexact Hxw

/-- A conversion. -/
theorem conv_all {O : CellTallies nD τ sig ℕ} (hO : Above 0 O) (a b : Tile) (cs ts : List Tile) :
    iprop(recs m κ ν ∗ Ow c O ∗ (idle m c 0 ∗ idle m c 1) ∗ xw m c ts)
      ⊢ WP c (conv c a b cs) (fun _ => iprop(Ow c O ∗ (idle m c 0 ∗ idle m c 1) ∗ xw m c ((a :: b :: cs) ++ ts))) := by
  iintro ⟨#Hr, HO, ⟨Ha, Hb⟩, Hxw⟩
  unfold conv
  iapply (wp_step c (conv_start m c 0 a)) $$ Ha
  iintro Ha
  iapply (wp_step c (conv_start m c 1 b)) $$ Hb
  iintro Hb
  iapply (conv_go m κ ν c hO cs 0 a b ts)
  isplitr; · iexact Hr
  isplitl [HO]; · iexact HO
  isplitl [Ha]; · iexact Ha
  isplitl [Hb]; · iexact Hb
  iexact Hxw

end Cert.KernelIdeal.Ring

end
-- ==== Proof.Out.lean ====
/- The result: tiles go out through a staging buffer per ring, one copy in flight at a time. -/
module

public import proofs.«01_k».proof.Proof.Comm

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ) (ν : SK → ℕ) (c : Dev nD)

abbrev vTile (k : Fin 2) (e : ℕ) : Memref sig .tc .hbm S256x1024 .f32 := vOut (eOff c k e) (outOff_inb c k _ _ _)
/-- Units of an output tile's copy. -/
def NO : ℕ := (vTile 0 0 0).view.dmaCredit
theorem NO_pos : 0 < NO := View.dmaCredit_pos _ (by decide)

/-- Output tile `e` of ring `k`. -/
def tileP (k : Fin 2) (e : ℕ) (f : Vec F S4096x8192 .f32) : sProp 𝕄 :=
  (vTile c k e).view.loc (c : Thread nD τ) ↦[(vTile c k e).view.set]{fullShare} f
/-- What the copy of tile `e` gives back: the tile written, the staging buffer free. -/
def outDone (sc : F .f32) (k : Fin 2) (e : ℕ) : sProp 𝕄 := iprop(tileP c k e (outFull m sc c) ∗ ∃ fo, oP c k fo)
def outFly (sc : F .f32) (k : Fin 2) (e : ℕ) : sProp 𝕄 := Flight EC (c : Thread nD τ) (.dma (outSem k)) 0 NO (outDone m c sc k e)
def outFree (k : Fin 2) : sProp 𝕄 := iprop((∃ fo, oP c k fo) ∗ semVal ((c : Thread nD τ), .dma (outSem k)) 0)

theorem out_start (sc : F .f32) (k : Fin 2) {e : ℕ} (he : e < 64) (fo : Vec F S2x256x1024 .f32)
    (ho : (vO k).view.read (Elt F) fo = outRead sc (outT m c k (eT e + 1) (eB e) (j4 e))) (f : Vec F S4096x8192 .f32) :
    iprop(oP c k fo ∗ tileP c k e f ∗ semVal ((c : Thread nD τ), .dma (outSem k)) 0)
      ⊢ WP c (outStart (eOff c k e) (outOff_inb c k _ _ _) k) (fun _ => outFly m c sc k e) := by
  have hw : ∀ i ∈ (vTile c k e).view.set, (vTile c k e).view.write (Elt F) f ((vO k).view.read (Elt F) fo) Finset.univ i = outFull m sc c i := by
    rw [ho]
    exact out_write m sc c k ⟨eT e, by show 2 + e / 16 < 6; omega⟩ (by show 2 ≤ 2 + e / 16; omega) (eB e) (j4 e) f (outOff_inb c k _ _ _)
  have hd : ((vTile c k e).view.loc (c : Thread nD τ) ↦[(vTile c k e).view.set]{fullShare}
      ((vTile c k e).view.write (Elt F) f ((vO k).view.read (Elt F) fo) Finset.univ) : sProp 𝕄) ⊢ tileP c k e (outFull m sc c) :=
    Entails.of_eq (pointsTo_congr hw)
  iintro ⟨Ho, Ht, Hv⟩
  unfold outStart
  simp only [Prog.lift]
  iapply (Transfers.wp_dmaLocal EC 𝒱₀ (c : Thread nD τ) none (src := vO k) (dst := vTile c k e) (sm := .dma (outSem k)) (fs := fo) (fd := f)
    (Sd := (vTile c k e).view.set) 0 NO rfl NO_pos (Finset.Subset.refl _)) $$ [Ho Ht Hv]
  · unfold oP tileP
    isplitl [Ho]; · iexact Ho
    isplitl [Ht]; · iexact Ht
    iexact Hv
  iintro Hf
  iapply (wp_end c)
  unfold outFly
  iapply (Flight_mono EC (c : Thread nD τ) (D' := outDone m c sc k e) ?_) $$ Hf
  unfold outDone
  iintro ⟨H₁, H₂⟩
  isplitl [H₁]
  · iapply hd; iexact H₁
  iexists fo
  unfold oP
  iexact H₂

theorem out_wait (sc : F .f32) (k : Fin 2) (e : ℕ) {O : CellTallies nD τ sig ℕ} (hO : Above 0 O) :
    iprop(recs m κ ν ∗ Ow c O ∗ outFly m c sc k e)
      ⊢ WP c (outWait (eOff c k e) (outOff_inb c k _ _ _) k)
          (fun _ => iprop(Ow c O ∗ outDone m c sc k e ∗ semVal ((c : Thread nD τ), .dma (outSem k)) 0)) := by
  unfold Ow outFly
  iintro ⟨#Hr, ⟨%W, HO⟩, Hf⟩
  unfold outWait
  simp only [Prog.lift]
  iapply (Transfers.wp_waitLocalO EC 𝒱₀ (c : Thread nD τ) none (srcw := vO k) (dstw := vTile c k e) 0 (N := NO) rfl (O := O) (W := W)) $$ [HO Hf]
  · isplitl [Hf]; · iexact Hf
    isplitl [HO]; · iexact HO
    iapply (recs_mayWait m κ ν c _ (by omega) hO); iexact Hr
  iintro ⟨HD, Hv, HO⟩
  iapply (wp_end c)
  isplitl [HO]; · iexists _; iexact HO
  isplitl [HD]; · iexact HD
  iexact Hv

def tilesDone (sc : F .f32) (k : Fin 2) (e : ℕ) : sProp 𝕄 := bigSep (Finset.range e) fun i => tileP c k i (outFull m sc c)
def tilesTodo (k : Fin 2) (e : ℕ) : sProp 𝕄 := bigSep (Finset.Ico e 64) fun i => iprop(∃ f, tileP c k i f)

/-- The first `e` output tiles of ring `k` started. -/
def outS (sc : F .f32) (k : Fin 2) : ℕ → sProp 𝕄
  | 0 => iprop(outFree c k ∗ tilesTodo c k 0)
  | e + 1 => iprop(outFly m c sc k e ∗ tilesDone m c sc k e ∗ tilesTodo c k (e + 1))

theorem tilesDone_succ (sc : F .f32) (k : Fin 2) (e : ℕ) :
    tilesDone m c sc k (e + 1) = iprop(tileP c k e (outFull m sc c) ∗ tilesDone m c sc k e) := by
  unfold tilesDone; rw [Finset.range_add_one, bigSep_insert Finset.notMem_range_self]; rfl

/-- Computing and starting tile `e`, the staging buffer free. -/
theorem out_go (sc : F .f32) (k : Fin 2) {e : ℕ} (he : e < 64) (q : PosShare TreeShare) :
    iprop(slotP c k (par (eT e + 1)) (eB e) q (slotBuf m c k (eT e + 1)) ∗ outFree c k ∗ tilesTodo c k e)
      ⊢ WP c (outCast sc k (par (eT e + 1)) (eB e) (j4 e) >>= fun _ => outStart (eOff c k e) (outOff_inb c k _ _ _) k)
          (fun _ => iprop(slotP c k (par (eT e + 1)) (eB e) q (slotBuf m c k (eT e + 1)) ∗ outFly m c sc k e ∗ tilesTodo c k (e + 1))) := by
  unfold outFree tilesTodo
  rw [bigSep_first he]
  iintro ⟨Hs, ⟨⟨%fo, Ho⟩, Hv⟩, ⟨%f, Ht⟩, Hto⟩
  iapply (wp_step c (out_cast c m sc k (par (eT e + 1)) (eB e) (j4 e) q (eT e + 1) fo)) $$ [Hs Ho]
  · isplitl [Hs]; · iexact Hs
    iexact Ho
  iintro ⟨Hs, ⟨%fo', %ho, Ho⟩⟩
  iapply (wp_last c (out_start m c sc k he fo' ho f)) $$ [Ho Ht Hv]
  · isplitl [Ho]; · iexact Ho
    isplitl [Ht]; · iexact Ht
    iexact Hv
  iintro Hf
  isplitl [Hs]; · iexact Hs
  isplitl [Hf]; · iexact Hf
  iexact Hto

end Cert.KernelIdeal.Ring

end
-- ==== Proof.Parts.lean ====
/- A position of the ring: what a block's lane and a ring's credits hold before and after it. -/
module

public import proofs.«01_k».proof.Proof.Conv
public import proofs.«01_k».proof.Proof.Out

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ) (ν : SK → ℕ) (c : Dev nD)

/-! ## The 8-bit copies in use -/

theorem fw_ok {fx : Vec F S4096x1024 .fp8e4m3} {fw : Vec F S1024x8192 .fp8e5m2} (h : ∀ n, okT m c fx fw (.w n)) (i : S1024x8192.Idx) :
    fw i = wqFull m c i := by
  have h0 : (i (0 : Fin 2)).val < 1024 := (i (0 : Fin 2)).isLt
  have h1 : (i (1 : Fin 2)).val < 8192 := (i (1 : Fin 2)).isLt
  have hn := h ⟨(i (1 : Fin 2)).val / 1024 * 2 + (i (0 : Fin 2)).val / 512, by omega⟩ i
  dsimp only at hn
  exact hn (by omega) (by omega) (by omega) (by omega)
theorem xChunk_pair : ∀ (c : Dev nD) (ch : Fin 4), ∃ q q' : Fin 8, xChunk c q = ch.val ∧ xChunk c q' = ch.val ∧ q.val % 2 = 0 ∧ q'.val % 2 = 1 := by
  decide +kernel
theorem fx_ok {fx : Vec F S4096x1024 .fp8e4m3} {fw : Vec F S1024x8192 .fp8e5m2} {q q' : Fin 8} {ch : ℕ} (hq : xChunk c q = ch) (hq' : xChunk c q' = ch)
    (e : q.val % 2 = 0) (e' : q'.val % 2 = 1) (h : okT m c fx fw (.x q)) (h' : okT m c fx fw (.x q')) (i : S4096x1024.Idx)
    (h₁ : ch * 1024 ≤ (i (0 : Fin 2)).val) (h₂ : (i (0 : Fin 2)).val < ch * 1024 + 1024) : fx i = xqFull m c i := by
  have a := h i
  have a' := h' i
  rw [hq, e] at a
  rw [hq', e'] at a'
  by_cases hh : (i (0 : Fin 2)).val < ch * 1024 + 512
  · exact a (by omega) (by omega)
  · exact a' (by omega) (by omega)
theorem fx_all {fx : Vec F S4096x1024 .fp8e4m3} {fw : Vec F S1024x8192 .fp8e5m2} (h : ∀ q, okT m c fx fw (.x q)) {ch : ℕ} (hc : ch < 4)
    (i : S4096x1024.Idx) (h₁ : ch * 1024 ≤ (i (0 : Fin 2)).val) (h₂ : (i (0 : Fin 2)).val < ch * 1024 + 1024) : fx i = xqFull m c i := by
  obtain ⟨q, q', e₁, e₂, e₃, e₄⟩ := xChunk_pair c ⟨ch, hc⟩
  exact fx_ok m c e₁ e₂ e₃ e₄ (h q) (h q') i h₁ h₂
theorem xChunk_own : ∀ c : Dev nD, xChunk c 0 = c.val ∧ xChunk c 1 = c.val := by decide

/-- The first product of a block. -/
theorem dots (ts : List Tile) (h0 : Tile.x 0 ∈ ts) (h1 : Tile.x 1 ∈ ts) (hw : ∀ n, Tile.w n ∈ ts) (k : Fin 2) (b : Fin 4) (f : Vec F S2x2x1024x4096 .bf16) :
    iprop(xw m c ts ∗ slotP c k 0 b fullShare f)
      ⊢ WP c (seqN 4 0 (fun j => dotTile c k b (j4 j))) (fun _ => iprop(xw m c ts ∗ slotP c k 0 b fullShare (slotBuf m c k 0))) := by
  unfold xw
  iintro ⟨⟨%fx, %fw, %hok, Hx, Hw⟩, Hs⟩
  have hfx := fx_ok m c (fw := fw) (xChunk_own c).1 (xChunk_own c).2 rfl rfl (hok _ h0) (hok _ h1)
  have hfw := fw_ok m c (fx := fx) (fun n => hok _ (hw n))
  have H := wp_seqN c (fun j => iprop(xqP c fx ∗ wqP c fw ∗ slotP c k 0 b fullShare (mixBuf j (slotBuf m c k 0) f)))
    (fun j => dotTile c k b (j4 j)) 4 0 (fun j _ hj => by
      have h := dot_tile c m k b (j4 j) f fx fw hfx hfw
      have e : (j4 j).val = j := Nat.mod_eq_of_lt (by omega)
      rw [e] at h
      exact h)
  rw [mixBuf_zero] at H
  iapply (wp_last c H) $$ [Hx Hw Hs]
  · isplitl [Hx]; · iexact Hx
    isplitl [Hw]; · iexact Hw
    iexact Hs
  have e4 : mixBuf (0 + 4) (slotBuf m c k 0) f = slotBuf m c k 0 := mixBuf_four _ _
  rw [e4]
  iintro ⟨Hx, Hw, Hs⟩
  isplitr [Hs]
  · iexists fx; iexists fw
    isplitr; · ipureintro; exact hok
    isplitl [Hx]; · iexact Hx
    iexact Hw
  iexact Hs

/-- The sum of a step. -/
theorem accs (ts : List Tile) (hx : ∀ q, Tile.x q ∈ ts) (hw : ∀ n, Tile.w n ∈ ts) (k s : Fin 2) (b : Fin 4) (t : ℕ) (h) :
    iprop(xw m c ts ∗ slotP c k s b fullShare (slotBuf m (prv c k) k t))
      ⊢ WP c (if t ≤ 2 then seqN 4 0 (fun j => accTile (accOff c k t b) h k s b (j4 j)) else Pure.pure PUnit.unit)
          (fun _ => iprop(xw m c ts ∗ slotP c k s b fullShare (slotBuf m c k (t + 1)))) := by
  by_cases ht : t ≤ 2
  · rw [if_pos ht]
    unfold xw
    iintro ⟨⟨%fx, %fw, %hok, Hx, Hw⟩, Hs⟩
    have hc : chunkAt c k (t + 1) < 4 := Nat.mod_lt _ (by decide)
    have hfx := fx_all m c (fw := fw) (fun q => hok _ (hx q)) hc
    have hfw := fw_ok m c (fx := fx) (fun n => hok _ (hw n))
    have H := wp_seqN c (fun j => iprop(xqP c fx ∗ wqP c fw ∗ slotP c k s b fullShare (mixBuf j (slotBuf m c k (t + 1)) (slotBuf m (prv c k) k t))))
      (fun j => accTile (accOff c k t b) h k s b (j4 j)) 4 0 (fun j _ hj => by
        have h := acc_tile c m k s b (j4 j) ht h fx fw hfx hfw
        have e : (j4 j).val = j := Nat.mod_eq_of_lt (by omega)
        rw [e] at h
        exact h)
    rw [mixBuf_zero] at H
    iapply (wp_last c H) $$ [Hx Hw Hs]
    · isplitl [Hx]; · iexact Hx
      isplitl [Hw]; · iexact Hw
      iexact Hs
    have e4 : mixBuf (0 + 4) (slotBuf m c k (t + 1)) (slotBuf m (prv c k) k t) = slotBuf m c k (t + 1) := mixBuf_four _ _
    rw [e4]
    iintro ⟨Hx, Hw, Hs⟩
    isplitr [Hs]
    · iexists fx; iexists fw
      isplitr; · ipureintro; exact hok
      isplitl [Hx]; · iexact Hx
      iexact Hw
    iexact Hs
  · rw [if_neg ht, slotBuf_relay c m k ht]
    exact wp_done c

/-! ## The output tiles of a position -/

theorem out_tile (sc : F .f32) (k : Fin 2) {e : ℕ} (he : e < 64) (q : PosShare TreeShare) {O : CellTallies nD τ sig ℕ} (hO : Above 0 O) :
    iprop(recs m κ ν ∗ Ow c O ∗ slotP c k (par (eT e + 1)) (eB e) q (slotBuf m c k (eT e + 1)) ∗ outS m c sc k e)
      ⊢ WP c (outTile c sc k e) (fun _ => iprop(recs m κ ν ∗ Ow c O ∗ slotP c k (par (eT e + 1)) (eB e) q (slotBuf m c k (eT e + 1)) ∗ outS m c sc k (e + 1))) := by
  match e, he with
  | 0, he =>
    iintro ⟨#Hr, HO, Hs, Hout⟩
    unfold outS outTile
    icases Hout with ⟨Hf, Hto⟩
    iapply (wp_last c (out_go m c sc k he q)) $$ [Hs Hf Hto]
    · isplitl [Hs]; · iexact Hs
      isplitl [Hf]; · iexact Hf
      iexact Hto
    iintro ⟨Hs, Hf, Hto⟩
    isplitr; · iexact Hr
    isplitl [HO]; · iexact HO
    isplitl [Hs]; · iexact Hs
    isplitl [Hf]; · iexact Hf
    isplitr
    · unfold tilesDone; rw [Finset.range_zero, bigSep_empty]; iempintro
    iexact Hto
  | e + 1, he =>
    iintro ⟨#Hr, HO, Hs, Hout⟩
    unfold outS outTile
    icases Hout with ⟨Hf, Hd, Hto⟩
    iapply (wp_step c (out_wait m κ ν c sc k e hO)) $$ [HO Hf]
    · isplitr; · iexact Hr
      isplitl [HO]; · iexact HO
      iexact Hf
    iintro ⟨HO, Hod, Hv⟩
    unfold outDone
    icases Hod with ⟨Ht, Ho⟩
    iapply (wp_last c (out_go m c sc k he q)) $$ [Hs Ho Hv Hto]
    · isplitl [Hs]; · iexact Hs
      isplitl [Ho Hv]
      · unfold outFree
        isplitl [Ho]; · iexact Ho
        iexact Hv
      iexact Hto
    iintro ⟨Hs, Hf, Hto⟩
    isplitr; · iexact Hr
    isplitl [HO]; · iexact HO
    isplitl [Hs]; · iexact Hs
    isplitl [Hf]; · iexact Hf
    rw [tilesDone_succ]
    isplitr [Hto]
    · isplitl [Ht]; · iexact Ht
      iexact Hd
    iexact Hto

theorem out_tiles (sc : F .f32) (k : Fin 2) (b : Fin 4) {t : ℕ} (ht : t < 6) (q : PosShare TreeShare) {O : CellTallies nD τ sig ℕ} (hO : Above 0 O) :
    iprop(recs m κ ν ∗ Ow c O ∗ slotP c k (par (t + 1)) b q (slotBuf m c k (t + 1)) ∗ outS m c sc k (4 * (4 * t + b.val - 8)))
      ⊢ WP c (if 2 ≤ t then seqN 4 ((t - 2) * 16 + b.val * 4) (outTile c sc k) else Pure.pure PUnit.unit)
          (fun _ => iprop(recs m κ ν ∗ Ow c O ∗ slotP c k (par (t + 1)) b q (slotBuf m c k (t + 1)) ∗ outS m c sc k (4 * (4 * t + b.val + 1 - 8)))) := by
  by_cases h : 2 ≤ t
  · rw [if_pos h]
    have H := wp_seqN c (fun e => iprop(recs m κ ν ∗ Ow c O ∗ slotP c k (par (t + 1)) b q (slotBuf m c k (t + 1)) ∗ outS m c sc k e))
      (outTile c sc k) 4 ((t - 2) * 16 + b.val * 4) (fun e h₁ h₂ => by
        have hh := out_tile m κ ν c sc k (e := e) (by omega) q hO
        have e₁ : eT e = t := by show 2 + e / 16 = t; omega
        have e₂ : eB e = b := Fin.ext (by show e % 16 / 4 = b.val; omega)
        rw [e₁, e₂] at hh
        exact hh)
    have e₁ : 4 * (4 * t + b.val - 8) = (t - 2) * 16 + b.val * 4 := by omega
    have e₂ : 4 * (4 * t + b.val + 1 - 8) = (t - 2) * 16 + b.val * 4 + 4 := by omega
    rw [e₁, e₂]
    exact H
  · rw [if_neg h]
    have e : 4 * (4 * t + b.val - 8) = 4 * (4 * t + b.val + 1 - 8) := by omega
    rw [e]
    exact wp_done c

end Cert.KernelIdeal.Ring

end
-- ==== Proof.Lane.lean ====
/- One position of the ring: the lane of its block and the credits of its ring before and after it. -/
module

public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ) (ν : SK → ℕ) (c : Dev nD)

/-- The credit of the `u`-th block to come in. -/
def recvCred (k : Fin 2) (b : Fin 4) (u : ℕ) : sProp 𝕄 :=
  cred (tallyAt (recvCell c k (par (u + 1)) b) (2 * (8 * u + 2 * b.val + k.val) + 2) N)
/-- The credit of the `i`-th credit to come in. -/
def credCred (k : Fin 2) (i : ℕ) : sProp 𝕄 := cred (tallyAt (credCell c k) (2 * (2 * i + k.val) + 3) 1)

/-- Block `b` of ring `k` between its send `t` and its position at step `t`. -/
def lane (k : Fin 2) (b : Fin 4) (t : ℕ) : sProp 𝕄 :=
  iprop((bigSep (Finset.Ico (t + 1) 6) (sendTok c k b)) ∗ (bigSep (Finset.Ico t 6) (recvCred c k b))
    ∗ posS c k (par t) b (t / 2) ∗ posS c k (par (t + 1)) b ((t + 1) / 2)
    ∗ posR c k (par (t + 1)) b (t / 2) ∗ posR c k (par t) b ((t + 1) / 2)
    ∗ readerAt ES (c, k, par t, b) ((t + 1) / 2) ∗ readerAt ES (c, k, par (t + 1), b) ((t + 2) / 2)
    ∗ slotP c k (par t) b fullShare.right (slotBuf m c k t) ∗ cred (tallyAt (sendCell c k (par t) b) 0 N))
theorem lane_zero (k : Fin 2) (b : Fin 4) : lane m c k b 0 =
    iprop((bigSep (Finset.Ico 1 6) (sendTok c k b)) ∗ (bigSep (Finset.Ico 0 6) (recvCred c k b))
    ∗ posS c k 0 b 0 ∗ posS c k 1 b 0 ∗ posR c k 1 b 0 ∗ posR c k 0 b 0
    ∗ readerAt ES (c, k, 0, b) 0 ∗ readerAt ES (c, k, 1, b) 1
    ∗ slotP c k 0 b fullShare.right (slotBuf m c k 0) ∗ cred (tallyAt (sendCell c k 0 b) 0 N)) := by
  have e : par 0 = 0 := rfl
  have e' : par (0 + 1) = 1 := rfl
  unfold lane
  rw [e, e']
/-- Before its first send. -/
def lanePre (k : Fin 2) (b : Fin 4) : sProp 𝕄 :=
  iprop((bigSep (Finset.Ico 0 6) (sendTok c k b)) ∗ (bigSep (Finset.Ico 0 6) (recvCred c k b))
    ∗ posS c k 0 b 0 ∗ posS c k 1 b 0 ∗ posR c k 1 b 0 ∗ posR c k 0 b 0
    ∗ readerAt ES (c, k, 0, b) 0 ∗ readerAt ES (c, k, 1, b) 1 ∗ ∃ f, slotP c k 0 b fullShare f)
/-- After its last position. -/
def laneEnd (k : Fin 2) (b : Fin 4) : sProp 𝕄 :=
  iprop((∃ f, slotP c k 0 b fullShare f) ∗ (∃ f, slotP c k 1 b fullShare f)
    ∗ posS c k 0 b 3 ∗ posS c k 1 b 3 ∗ posR c k 0 b 3 ∗ posR c k 1 b 3)
def laneAt (k : Fin 2) (b : Fin 4) (t : ℕ) : sProp 𝕄 := if t < 6 then lane m c k b t else laneEnd c k b

/-- Ring `k`'s credits and output after `i` of its positions. -/
def ringAt (sc : F .f32) (k : Fin 2) (i : ℕ) : sProp 𝕄 :=
  iprop(credPos c k (min i 20) ∗ (bigSep (Finset.Ico i 24) (dutyTok ER (credCell (prv c k) k) 0)) ∗ (bigSep (Finset.Ico (min i 20) 24) (credCred c k))
    ∗ facts c k i ∗ outS m c sc k (4 * (i - 8)))

/-- A block's first product and send. -/
theorem first_step (ts : List Tile) (h0 : Tile.x 0 ∈ ts) (h1 : Tile.x 1 ∈ ts) (hw : ∀ n, Tile.w n ∈ ts) {q : ℕ} (hq : q < 8) {O : CellTallies nD τ sig ℕ} :
    iprop(recs m κ ν ∗ xw m c ts ∗ Ow c (owedS c q + O) ∗ lanePre c (kOf q) (bOf q) ∗ released ES (nxt c (kOf q), kOf q, 1, bOf q) 1)
      ⊢ WP c (firstStep c q) (fun _ => iprop(xw m c ts ∗ Ow c (owedS c (q + 1) + O) ∗ lane m c (kOf q) (bOf q) 0)) := by
  have hO : owedS c q + O = (owedS c (q + 1) + O) + tallyAt (recvCell (nxt c (kOf q)) (kOf q) 1 (bOf q)) (2 * q + 2) N := by
    rw [owedS_step c (by omega : q < 48), add_right_comm]
    unfold sendTally
    have e : par (q / 8 + 1) = 1 := Fin.ext (by show (q / 8 + 1) % 2 = 1; omega)
    rw [e]
  unfold firstStep
  generalize kOf q = k at *
  generalize bOf q = b at *
  unfold lanePre
  rw [bigSep_first (by omega : 0 < 6) (sendTok c k b)]
  iintro ⟨#Hr, Hxw, HO, ⟨⟨Ht, Hts⟩, Hrc, HS0, HS1, HR1, HR0, Hra0, Hra1, ⟨%f, Hs⟩⟩, #Hrel⟩
  iapply (wp_step c (dots m c ts h0 h1 hw k b f)) $$ [Hxw Hs]
  · isplitl [Hxw]; · iexact Hxw
    iexact Hs
  iintro ⟨Hxw, Hs⟩
  unfold posS
  icases HS0 with ⟨HS0, #HS0r⟩
  iapply (wp_last c (send_blk m κ ν c k 0 1 b (u := 0) (by omega) rfl rfl hO)) $$ [HO Hs Ht]
  · isplitr; · iexact Hr
    isplitl [HO]; · iexact HO
    isplitl [Hs]; · iexact Hs
    isplitl [Ht]; · iexact Ht
    isplitr; · iexact HS0r
    isplitr
    · ihave Hx := (recs_cell m κ ν (nxt c k, .recv k 1 b)) $$ Hr
      icases Hx with ⟨-, Hx⟩
      iexact Hx
    iexact Hrel
  iintro ⟨HO, Hs, Hc⟩
  isplitl [Hxw]; · iexact Hxw
  isplitl [HO]; · iexact HO
  rw [lane_zero]
  unfold posS
  isplitl [Hts]; · iexact Hts
  isplitl [Hrc]; · iexact Hrc
  isplitl [HS0]
  · isplitl [HS0]; · iexact HS0
    iexact HS0r
  isplitl [HS1]; · iexact HS1
  isplitl [HR1]; · iexact HR1
  isplitl [HR0]; · iexact HR0
  isplitl [Hra0]; · iexact Hra0
  isplitl [Hra1]; · iexact Hra1
  isplitl [Hs]; · iexact Hs
  iexact Hc

/-! ## A position -/

/-- The text of a position, its step, block and ring named. -/
def ringBody (d : Dev nD) (sc : F .f32) (k : Fin 2) (t : ℕ) (b : Fin 4) : Pg F PUnit :=
  recvWait k (par t) (par (t + 1)) b >>= fun _ =>
  (if t ≤ 2 then seqN 4 0 (fun j => accTile (accOff d k t b) (accOff_inb d _ _ _) k (par (t + 1)) b (j4 j)) else pure ⟨⟩) >>= fun _ =>
  sendWait k (par t) (par (t + 1)) b >>= fun _ =>
  semSignalWord (credDev d k) (credSem k) 1#32 >>= fun _ =>
  (if t < 5 then semWaitWord (credSem k) 1#32 >>= fun _ => sendBlk d k (par (t + 1)) (par t) b else pure ⟨⟩) >>= fun _ =>
  (if 2 ≤ t then seqN 4 ((t - 2) * 16 + b.val * 4) (outTile d sc k) else pure ⟨⟩)
theorem ringStep_eq (d : Dev nD) (sc : F .f32) (q : ℕ) : ringStep d sc q = ringBody d sc (kOf q) (q / 8) (bOf q) := rfl

theorem par_two (t : ℕ) : par (t + 1 + 1) = par t := Fin.ext (by show (t + 1 + 1) % 2 = t % 2; omega)
theorem par_ne (t : ℕ) : 2 * (t / 2) + (1 - (par (t + 1)).val) = t := by show 2 * (t / 2) + (1 - (t + 1) % 2) = t; omega
theorem par_eq (t : ℕ) : 2 * (t / 2) + (par t).val = t := by show 2 * (t / 2) + t % 2 = t; omega

omit [FloatOps F] in
theorem fact_mk (k : Fin 2) (b : Fin 4) {t : ℕ} (ht : t < 5) :
    iprop(released ES (c, k, par t, b) ((t + 1) / 2 + 1) ∗ reached ER (recvCell c k (par t) b) ((t + 1) / 2)) ⊢ fact (F := F) c k (4 * t + b.val) := by
  unfold fact
  have e₁ : (4 * t + b.val) / 4 = t := by omega
  have e₂ : j4 (4 * t + b.val) = b := Fin.ext (by show (4 * t + b.val) % 4 = b.val; omega)
  rw [if_pos (by omega), e₁, e₂]
omit [FloatOps F] in
theorem fact_get (e : Dev nD) (k : Fin 2) (b : Fin 4) {t : ℕ} (ht : t < 5) :
    fact (F := F) e k (4 * t + b.val) ⊢ iprop(released ES (e, k, par t, b) ((t + 1) / 2 + 1) ∗ reached ER (recvCell e k (par t) b) ((t + 1) / 2)) := by
  unfold fact
  have e₁ : (4 * t + b.val) / 4 = t := by omega
  have e₂ : j4 (4 * t + b.val) = b := Fin.ext (by show (4 * t + b.val) % 4 = b.val; omega)
  rw [if_pos (by omega), e₁, e₂]
omit [FloatOps F] in
theorem fact_none (e : Dev nD) (k : Fin 2) {j : ℕ} (hj : 20 ≤ j) : ⊢ fact (F := F) e k j := by
  unfold fact
  rw [if_neg (by omega)]
  iempintro

omit [FloatOps F] in
theorem slot_excl (x : SK) : iprop(slotS (F := F) x ∗ slotS x) ⊢ (False : sProp 𝕄) := by
  unfold slotS slotP
  iintro ⟨⟨%f, H⟩, ⟨%g, H'⟩⟩
  obtain ⟨i, hi⟩ := (vBlk x.2.1 x.2.2.1 x.2.2.2).view.set_nonempty (by decide)
  iapply (pointsTo_overlap_false (ℓ := (vBlk x.2.1 x.2.2.1 x.2.2.2).view.loc (x.1 : Thread nD τ)) (q := fullShare) (f := f) (g := g) hi hi)
  isplitl [H] <;> iassumption

/-- The first half of a position: the block of the previous device comes in and is summed, the block sent before
    comes back. -/
theorem ring_first (sc : F .f32) (ts : List Tile) (hx : ∀ q, Tile.x q ∈ ts) (hw : ∀ n, Tile.w n ∈ ts) (k : Fin 2) (b : Fin 4) {t : ℕ} (ht : t < 6)
    {O : CellTallies nD τ sig ℕ} (hO : Above (2 * (8 * t + 2 * b.val + k.val) + 2) O) (p : Pg F PUnit) (Q : PUnit → sProp 𝕄) :
    iprop(recs m κ ν ∗ xw m c ts ∗ Ow c O ∗ recvCred c k b t ∗ posR c k (par (t + 1)) b (t / 2) ∗ posS c k (par t) b (t / 2)
        ∗ slotP c k (par t) b fullShare.right (slotBuf m c k t) ∗ cred (tallyAt (sendCell c k (par t) b) 0 N))
      ⊢ iprop((iprop(xw m c ts ∗ Ow c O ∗ posR c k (par (t + 1)) b (t / 2 + 1) ∗ posS c k (par t) b (t / 2 + 1)
          ∗ slotP c k (par t) b fullShare (slotBuf m c k t) ∗ slotP c k (par (t + 1)) b fullShare (slotBuf m c k (t + 1))) -∗ WP c p Q)
        -∗ WP c (recvWait k (par t) (par (t + 1)) b >>= fun _ =>
            (if t ≤ 2 then seqN 4 0 (fun j => accTile (accOff c k t b) (accOff_inb c _ _ _) k (par (t + 1)) b (j4 j)) else pure ⟨⟩) >>= fun _ =>
            sendWait k (par t) (par (t + 1)) b >>= fun _ => p) Q) := by
  have hO0 : Above 0 O := fun g u h => ⟨(hO g u h).1, by have := (hO g u h).2.1; omega, (hO g u h).2.2⟩
  iintro ⟨#Hr, Hxw, HO, Hrc, HR, HS, Hs, Hc⟩
  iintro Hk
  unfold recvCred
  iapply (wp_step c (recv_wait m κ ν c k (par t) (par (t + 1)) b (r := t / 2) (by omega) (by omega) hO)) $$ [HO Hrc HR]
  · isplitr; · iexact Hr
    isplitl [Hrc]; · iexact Hrc
    isplitl [HO]; · iexact HO
    iexact HR
  unfold recvPay
  rw [par_ne]
  iintro ⟨HO, HR, Hin⟩
  iapply (wp_step c (accs m c ts hx hw k (par (t + 1)) b t (accOff_inb c k t b))) $$ [Hxw Hin]
  · isplitl [Hxw]; · iexact Hxw
    iexact Hin
  iintro ⟨Hxw, Hin⟩
  iapply (wp_step c (send_wait m κ ν c k (par t) (par (t + 1)) b (r := t / 2) (by omega) hO0)) $$ [HO Hc HS]
  · isplitr; · iexact Hr
    isplitl [Hc]; · iexact Hc
    isplitl [HO]; · iexact HO
    iexact HS
  unfold sendPay
  rw [par_eq]
  iintro ⟨HO, HS, Hl⟩
  iapply Hk
  isplitl [Hxw]; · iexact Hxw
  isplitl [HO]; · iexact HO
  isplitl [HR]; · iexact HR
  isplitl [HS]; · iexact HS
  isplitl [Hl Hs]
  · iapply (slotP_split c k (par t) b (slotBuf m c k t)).2
    isplitl [Hl]; · iexact Hl
    iexact Hs
  iexact Hin

theorem lane_succ (k : Fin 2) (b : Fin 4) (t : ℕ) : lane m c k b (t + 1) =
    iprop((bigSep (Finset.Ico (t + 1 + 1) 6) (sendTok c k b)) ∗ (bigSep (Finset.Ico (t + 1) 6) (recvCred c k b))
    ∗ posS c k (par (t + 1)) b ((t + 1) / 2) ∗ posS c k (par t) b (t / 2 + 1)
    ∗ posR c k (par t) b ((t + 1) / 2) ∗ posR c k (par (t + 1)) b (t / 2 + 1)
    ∗ readerAt ES (c, k, par (t + 1), b) ((t + 2) / 2) ∗ readerAt ES (c, k, par t, b) ((t + 1) / 2 + 1)
    ∗ slotP c k (par (t + 1)) b fullShare.right (slotBuf m c k (t + 1)) ∗ cred (tallyAt (sendCell c k (par (t + 1)) b) 0 N)) := by
  have e₁ : (t + 1 + 1) / 2 = t / 2 + 1 := by omega
  have e₂ : (t + 1 + 2) / 2 = (t + 1) / 2 + 1 := by omega
  unfold lane
  rw [par_two, e₁, e₂]

/-- The second half of a position before the last step: the block's old slot goes back, its new one is sent. -/
theorem ring_mid (sc : F .f32) (k : Fin 2) (b : Fin 4) {t : ℕ} (ht : t < 5)
    {O O₁ O₂ : CellTallies nD τ sig ℕ} (hO₂ : O₂ = O₁ + tallyAt (credCell (prv c k) k) (2 * (2 * (4 * t + b.val) + k.val) + 3) 1)
    (hO₁ : O₁ = O + tallyAt (recvCell (nxt c k) k (par t) b) (2 * (8 * t + 2 * b.val + k.val + 8) + 2) N)
    (hA : Above (2 * (2 * (4 * t + b.val) + k.val) + 3) O₁) :
    iprop(recs m κ ν ∗ Ow c O₂ ∗ posS c k (par (t + 1)) b ((t + 1) / 2) ∗ posR c k (par t) b ((t + 1) / 2)
        ∗ readerAt ES (c, k, par t, b) ((t + 1) / 2) ∗ sendTok c k b (t + 1)
        ∗ slotP c k (par t) b fullShare (slotBuf m c k t) ∗ slotP c k (par (t + 1)) b fullShare (slotBuf m c k (t + 1)) ∗ ringAt m c sc k (4 * t + b.val))
      ⊢ WP c (semSignalWord (credDev c k) (credSem k) 1#32 >>= fun _ =>
          (if t < 5 then semWaitWord (credSem k) 1#32 >>= fun _ => sendBlk c k (par (t + 1)) (par t) b else pure ⟨⟩) >>= fun _ =>
          (if 2 ≤ t then seqN 4 ((t - 2) * 16 + b.val * 4) (outTile c sc k) else pure ⟨⟩))
        (fun _ => iprop(Ow c O ∗ posS c k (par (t + 1)) b ((t + 1) / 2) ∗ posR c k (par t) b ((t + 1) / 2)
        ∗ readerAt ES (c, k, par t, b) ((t + 1) / 2 + 1)
        ∗ slotP c k (par (t + 1)) b fullShare.right (slotBuf m c k (t + 1)) ∗ cred (tallyAt (sendCell c k (par (t + 1)) b) 0 N)
        ∗ ringAt m c sc k (4 * t + b.val + 1))) := by
  have hAO : Above 0 O := fun g u h => by
    have := hA g u (by rw [hO₁, Pi.add_apply, Finsupp.add_apply]; omega)
    exact ⟨this.1, by omega, this.2.2⟩
  rw [if_pos ht]
  unfold ringAt
  rw [bigSep_first (by omega : 4 * t + b.val < 24), min_eq_left (by omega : 4 * t + b.val ≤ 20), min_eq_left (by omega : 4 * t + b.val + 1 ≤ 20),
    bigSep_first (by omega : 4 * t + b.val < 24), facts_succ]
  iintro ⟨#Hr, HO, HS, HR, Hra, Htok, Hs0, Hs1, Hcp, ⟨Hd, Hds⟩, ⟨Hc, Hcs⟩, #Hf, Hout⟩
  unfold posS posR
  icases HS with ⟨HS, #HSr⟩
  icases HR with ⟨HR, #HRr⟩
  ihave #Hsl := (recs_slot m κ ν (c, k, par t, b)) $$ Hr
  imod (slot_release ES (Set.mem_univ (ν (c, k, par t, b))) (slot_excl (c, k, par t, b)) ((t + 1) / 2)) $$ [Hra Hs0] with ⟨Hra, #Hrel⟩
  · isplitr; · iexact Hsl
    isplitl [Hra]; · iexact Hra
    unfold slotS
    iexists (slotBuf m c k t)
    iexact Hs0
  ihave #Hfi := (fact_mk c k b ht) $$ [Hrel HRr]
  · isplitr; · iexact Hrel
    iexact HRr
  iapply (wp_step c (cred_signal m κ ν c k (i := 4 * t + b.val) (by omega) hO₂)) $$ [HO Hd]
  · isplitr; · iexact Hr
    isplitl [HO]; · iexact HO
    isplitl [Hd]; · iexact Hd
    rw [facts_succ]
    isplitr; · iexact Hfi
    iexact Hf
  iintro HO
  iapply (wp_step c (p := semWaitWord (credSem k) 1#32 >>= fun _ => sendBlk c k (par (t + 1)) (par t) b)
    (R := iprop(Ow c O ∗ credPos c k (4 * t + b.val + 1) ∗ slotP c k (par (t + 1)) b fullShare.right (slotBuf m c k (t + 1)) ∗ cred (tallyAt (sendCell c k (par (t + 1)) b) 0 N)))
    (P := iprop(recs m κ ν ∗ Ow c O₁ ∗ credCred c k (4 * t + b.val) ∗ credPos c k (4 * t + b.val) ∗ sendTok c k b (t + 1)
      ∗ slotP c k (par (t + 1)) b fullShare (slotBuf m c k (t + 1)) ∗ reached ER (sendCell c k (par (t + 1)) b) ((t + 1) / 2))) ?_) $$ [HO Hc Hcp Htok Hs1]
  · iintro ⟨#Hr, HO, Hc, Hcp, Htok, Hs1, #HSr⟩
    unfold credCred
    iapply (wp_step c (cred_wait m κ ν c k (n := 4 * t + b.val) (by omega) hA)) $$ [HO Hc Hcp]
    · isplitr; · iexact Hr
      isplitl [Hc]; · iexact Hc
      isplitl [HO]; · iexact HO
      iexact Hcp
    iintro ⟨HO, Hcp, Hfs⟩
    ihave Hfi := (facts_at (nxt c k) k (Nat.lt_succ_self (4 * t + b.val))) $$ Hfs
    ihave Hfi := (fact_get (nxt c k) k b ht) $$ Hfi
    icases Hfi with ⟨Hrel, Hrea⟩
    iapply (wp_last c (send_blk m κ ν c k (par (t + 1)) (par t) b (u := t + 1) (by omega) rfl (par_two t).symm hO₁)) $$ [HO Hs1 Htok Hrel Hrea]
    · isplitr; · iexact Hr
      isplitl [HO]; · iexact HO
      isplitl [Hs1]; · iexact Hs1
      isplitl [Htok]; · iexact Htok
      isplitr; · iexact HSr
      isplitl [Hrea]; · iexact Hrea
      iexact Hrel
    iintro ⟨HO, Hs1, Hc⟩
    isplitl [HO]; · iexact HO
    isplitl [Hcp]; · iexact Hcp
    isplitl [Hs1]; · iexact Hs1
    iexact Hc
  · isplitr; · iexact Hr
    isplitl [HO]; · iexact HO
    isplitl [Hc]; · iexact Hc
    isplitl [Hcp]; · iexact Hcp
    isplitl [Htok]; · iexact Htok
    isplitl [Hs1]; · iexact Hs1
    iexact HSr
  iintro ⟨HO, Hcp, Hs1, Hc⟩
  iapply (wp_last c (out_tiles m κ ν c sc k b (t := t) (by omega) fullShare.right hAO)) $$ [HO Hs1 Hout]
  · isplitr; · iexact Hr
    isplitl [HO]; · iexact HO
    isplitl [Hs1]; · iexact Hs1
    iexact Hout
  iintro ⟨-, HO, Hs1, Hout⟩
  isplitl [HO]; · iexact HO
  isplitl [HS]
  · isplitl [HS]; · iexact HS
    iexact HSr
  isplitl [HR]
  · isplitl [HR]; · iexact HR
    iexact HRr
  isplitl [Hra]; · iexact Hra
  isplitl [Hs1]; · iexact Hs1
  isplitl [Hc]; · iexact Hc
  isplitl [Hcp]; · iexact Hcp
  isplitl [Hds]; · iexact Hds
  isplitl [Hcs]; · iexact Hcs
  isplitr
  · isplitr; · iexact Hfi
    iexact Hf
  iexact Hout

/-- The second half of a position of the last step. -/
theorem ring_fin (sc : F .f32) (k : Fin 2) (b : Fin 4)
    {O O₂ : CellTallies nD τ sig ℕ} (hO₂ : O₂ = O + tallyAt (credCell (prv c k) k) (2 * (2 * (4 * 5 + b.val) + k.val) + 3) 1) (hA : Above 0 O) :
    iprop(recs m κ ν ∗ Ow c O₂
        ∗ slotP c k (par (5 + 1)) b fullShare (slotBuf m c k (5 + 1)) ∗ ringAt m c sc k (4 * 5 + b.val))
      ⊢ WP c (semSignalWord (credDev c k) (credSem k) 1#32 >>= fun _ =>
          (if 5 < 5 then semWaitWord (credSem k) 1#32 >>= fun _ => sendBlk c k (par (5 + 1)) (par 5) b else pure ⟨⟩) >>= fun _ =>
          (if 2 ≤ 5 then seqN 4 ((5 - 2) * 16 + b.val * 4) (outTile c sc k) else pure ⟨⟩))
        (fun _ => iprop(Ow c O ∗ slotP c k (par (5 + 1)) b fullShare (slotBuf m c k (5 + 1)) ∗ ringAt m c sc k (4 * 5 + b.val + 1))) := by
  rw [if_neg (by omega)]
  unfold ringAt
  rw [bigSep_first (by omega : 4 * 5 + b.val < 24), min_eq_right (by omega : 20 ≤ 4 * 5 + b.val), min_eq_right (by omega : 20 ≤ 4 * 5 + b.val + 1), facts_succ]
  iintro ⟨#Hr, HO, Hs1, Hcp, ⟨Hd, Hds⟩, Hcs, #Hf, Hout⟩
  ihave #Hfi := (fact_none (F := F) c k (by omega : 20 ≤ 4 * 5 + b.val))
  iapply (wp_step c (cred_signal m κ ν c k (i := 4 * 5 + b.val) (by omega) hO₂)) $$ [HO Hd]
  · isplitr; · iexact Hr
    isplitl [HO]; · iexact HO
    isplitl [Hd]; · iexact Hd
    rw [facts_succ]
    isplitr; · iexact Hfi
    iexact Hf
  iintro HO
  iapply (wp_step c (p := pure PUnit.unit) (wp_done c (P := Ow c O))) $$ [HO]
  · iexact HO
  iintro HO
  iapply (wp_last c (out_tiles m κ ν c sc k b (t := 5) (by omega) fullShare hA)) $$ [HO Hs1 Hout]
  · isplitr; · iexact Hr
    isplitl [HO]; · iexact HO
    isplitl [Hs1]; · iexact Hs1
    iexact Hout
  iintro ⟨-, HO, Hs1, Hout⟩
  isplitl [HO]; · iexact HO
  isplitl [Hs1]; · iexact Hs1
  isplitl [Hcp]; · iexact Hcp
  isplitl [Hds]; · iexact Hds
  isplitl [Hcs]; · iexact Hcs
  isplitr
  · isplitr; · iexact Hfi
    iexact Hf
  iexact Hout

omit [FloatOps F] in
theorem above_mono {n n' : ℕ} {O : CellTallies nD τ sig ℕ} (h : n ≤ n') (hO : Above n' O) : Above n O :=
  fun g u hg => ⟨(hO g u hg).1, by have := (hO g u hg).2.1; omega, (hO g u hg).2.2⟩

theorem lane_end (k : Fin 2) (b : Fin 4) (f g : Vec F S2x2x1024x4096 .bf16) :
    iprop(slotP c k 1 b fullShare f ∗ slotP c k 0 b fullShare g ∗ posS c k 0 b 3 ∗ posS c k 1 b 3 ∗ posR c k 0 b 3 ∗ posR c k 1 b 3)
      ⊢ laneEnd c k b := by
  unfold laneEnd
  iintro ⟨H1, H0, A, B, C, D⟩
  isplitl [H0]; · iexists g; iexact H0
  isplitl [H1]; · iexists f; iexact H1
  isplitl [A]; · iexact A
  isplitl [B]; · iexact B
  isplitl [C]; · iexact C
  iexact D

theorem ring_body (sc : F .f32) (ts : List Tile) (hx : ∀ q, Tile.x q ∈ ts) (hw : ∀ n, Tile.w n ∈ ts) (k : Fin 2) (b : Fin 4) {t : ℕ} (ht : t < 6)
    {O O₁ O₂ : CellTallies nD τ sig ℕ} (hO₂ : O₂ = O₁ + tallyAt (credCell (prv c k) k) (2 * (2 * (4 * t + b.val) + k.val) + 3) 1)
    (hO₁ : t < 5 → O₁ = O + tallyAt (recvCell (nxt c k) k (par t) b) (2 * (8 * t + 2 * b.val + k.val + 8) + 2) N)
    (hO₁' : ¬ t < 5 → O₁ = O)
    (hA : Above (2 * (2 * (4 * t + b.val) + k.val) + 3) O₁) :
    iprop(recs m κ ν ∗ xw m c ts ∗ Ow c O₂ ∗ lane m c k b t ∗ ringAt m c sc k (4 * t + b.val))
      ⊢ WP c (ringBody c sc k t b) (fun _ => iprop(xw m c ts ∗ Ow c O ∗ laneAt m c k b (t + 1) ∗ ringAt m c sc k (4 * t + b.val + 1))) := by
  have hA₂ : Above (2 * (8 * t + 2 * b.val + k.val) + 2) O₂ := by
    rw [hO₂]
    exact above_add (above_mono (by omega) hA) (above_tally _ _ _ (by omega) (by omega))
  unfold ringBody
  by_cases h5 : t < 5
  · unfold laneAt
    rw [if_pos (by omega : t + 1 < 6), lane_succ]
    unfold lane
    rw [bigSep_first (by omega : t + 1 < 6) (sendTok c k b), bigSep_first ht (recvCred c k b)]
    iintro ⟨#Hr, Hxw, HO, ⟨⟨Ht, Hts⟩, ⟨Hrc, Hrcs⟩, HS0, HS1, HR1, HR0, Hra0, Hra1, Hs, Hc⟩, Hring⟩
    iapply (ring_first m κ ν c sc ts hx hw k b ht hA₂) $$ [Hxw HO Hrc HR1 HS0 Hs Hc]
    · isplitr; · iexact Hr
      isplitl [Hxw]; · iexact Hxw
      isplitl [HO]; · iexact HO
      isplitl [Hrc]; · iexact Hrc
      isplitl [HR1]; · iexact HR1
      isplitl [HS0]; · iexact HS0
      isplitl [Hs]; · iexact Hs
      iexact Hc
    iintro ⟨Hxw, HO, HR1, HS0, Hs0, Hs1⟩
    iapply (wp_last c (ring_mid m κ ν c sc k b h5 hO₂ (hO₁ h5) hA)) $$ [HO HS1 HR0 Hra0 Ht Hs0 Hs1 Hring]
    · isplitr; · iexact Hr
      isplitl [HO]; · iexact HO
      isplitl [HS1]; · iexact HS1
      isplitl [HR0]; · iexact HR0
      isplitl [Hra0]; · iexact Hra0
      isplitl [Ht]; · iexact Ht
      isplitl [Hs0]; · iexact Hs0
      isplitl [Hs1]; · iexact Hs1
      iexact Hring
    iintro ⟨HO, HS1, HR0, Hra0, Hs1, Hc, Hring⟩
    isplitl [Hxw]; · iexact Hxw
    isplitl [HO]; · iexact HO
    isplitr [Hring]
    · isplitl [Hts]; · iexact Hts
      isplitl [Hrcs]; · iexact Hrcs
      isplitl [HS1]; · iexact HS1
      isplitl [HS0]; · iexact HS0
      isplitl [HR0]; · iexact HR0
      isplitl [HR1]; · iexact HR1
      isplitl [Hra1]; · iexact Hra1
      isplitl [Hra0]; · iexact Hra0
      isplitl [Hs1]; · iexact Hs1
      iexact Hc
    iexact Hring
  · obtain rfl : t = 5 := by omega
    cases hO₁' h5
    unfold laneAt
    rw [if_neg (by omega : ¬ 5 + 1 < 6)]
    unfold lane
    rw [bigSep_first ht (recvCred c k b)]
    iintro ⟨#Hr, Hxw, HO, ⟨-, ⟨Hrc, -⟩, HS0, HS1, HR1, HR0, -, -, Hs, Hc⟩, Hring⟩
    iapply (ring_first m κ ν c sc ts hx hw k b ht hA₂) $$ [Hxw HO Hrc HR1 HS0 Hs Hc]
    · isplitr; · iexact Hr
      isplitl [Hxw]; · iexact Hxw
      isplitl [HO]; · iexact HO
      isplitl [Hrc]; · iexact Hrc
      isplitl [HR1]; · iexact HR1
      isplitl [HS0]; · iexact HS0
      isplitl [Hs]; · iexact Hs
      iexact Hc
    iintro ⟨Hxw, HO, HR1, HS0, Hs0, Hs1⟩
    iapply (wp_last c (ring_fin m κ ν c sc k b hO₂ (above_mono (by omega) hA))) $$ [HO Hs1 Hring]
    · isplitr; · iexact Hr
      isplitl [HO]; · iexact HO
      isplitl [Hs1]; · iexact Hs1
      iexact Hring
    iintro ⟨HO, Hs1, Hring⟩
    isplitl [Hxw]; · iexact Hxw
    isplitl [HO]; · iexact HO
    isplitr [Hring]
    · iapply (lane_end c k b (slotBuf m c k 5) (slotBuf m c k (5 + 1)))
      isplitl [Hs0]; · iexact Hs0
      isplitl [Hs1]; · iexact Hs1
      isplitl [HS1]; · iexact HS1
      isplitl [HS0]; · iexact HS0
      isplitl [HR1]; · iexact HR1
      iexact HR0
    iexact Hring

/-- Position `q` of the ring. -/
theorem ring_step (sc : F .f32) (ts : List Tile) (hx : ∀ q, Tile.x q ∈ ts) (hw : ∀ n, Tile.w n ∈ ts) {q : ℕ} (hq : q < 48) :
    iprop(recs m κ ν ∗ xw m c ts ∗ Ow c (owedS c (q + 8) + owedC c q) ∗ lane m c (kOf q) (bOf q) (q / 8) ∗ ringAt m c sc (kOf q) (q / 2))
      ⊢ WP c (ringStep c sc q) (fun _ => iprop(xw m c ts ∗ Ow c (owedS c (q + 9) + owedC c (q + 1)) ∗ laneAt m c (kOf q) (bOf q) (q / 8 + 1)
        ∗ ringAt m c sc (kOf q) (q / 2 + 1))) := by
  have ei : 4 * (q / 8) + (bOf q).val = q / 2 := by show 4 * (q / 8) + q % 8 / 2 = q / 2; omega
  have ek : 2 * (4 * (q / 8) + (bOf q).val) + (kOf q).val = q := by show 2 * (4 * (q / 8) + q % 8 / 2) + q % 2 = q; omega
  have ep : 8 * (q / 8) + 2 * (bOf q).val + (kOf q).val = q := by show 8 * (q / 8) + 2 * (q % 8 / 2) + q % 2 = q; omega
  rw [ringStep_eq]
  have H := ring_body m κ ν c sc ts hx hw (kOf q) (bOf q) (t := q / 8) (by omega)
    (O := owedS c (q + 9) + owedC c (q + 1)) (O₁ := owedS c (q + 8) + owedC c (q + 1)) (O₂ := owedS c (q + 8) + owedC c q)
    (by rw [ek, owedC_step c hq, ← add_assoc])
    (fun h => by
      have e₁ : (q + 8) / 8 = q / 8 + 1 := by omega
      have e₂ : kOf (q + 8) = kOf q := Fin.ext (by show (q + 8) % 2 = q % 2; omega)
      have e₃ : bOf (q + 8) = bOf q := Fin.ext (by show (q + 8) % 8 / 2 = q % 8 / 2; omega)
      rw [owedS_step c (by omega : q + 8 < 48), add_right_comm]
      unfold sendTally
      rw [e₁, e₂, e₃, par_two, ep])
    (fun h => by rw [owedS_end c (by omega : 48 ≤ q + 8), owedS_end c (by omega : 48 ≤ q + 9)])
    (by rw [ek]; exact above_add (above_owedS c (by omega)) (above_owedC c (by omega)))
  rw [ei] at H
  exact H

end Cert.KernelIdeal.Ring

end
-- ==== Proof.Body.lean ====
module

public import proofs.«01_k».proof.Proof.Lane

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! # The body of a device -/

variable (m : (ℓ : Loc nD τ sig) → Buf (Elt F) ℓ) (κ : GSem nD τ sig → ℕ) (ν : SK → ℕ) (c : Dev nD)

/-- A ring and a block. -/
abbrev KB : Type := Fin 2 × Fin 4
abbrev kbOf (q : ℕ) : KB := (kOf q, bOf q)

/-- What lies in wait for a block at launch. -/
def laneIn (x : KB) : sProp 𝕄 :=
  iprop((bigSep (Finset.Ico 0 6) (sendTok c x.1 x.2)) ∗ (bigSep (Finset.Ico 0 6) (recvCred c x.1 x.2))
    ∗ posS c x.1 0 x.2 0 ∗ posS c x.1 1 x.2 0 ∗ posR c x.1 1 x.2 0 ∗ posR c x.1 0 x.2 0
    ∗ readerAt ES (c, x.1, 0, x.2) 0 ∗ readerAt ES (c, x.1, 1, x.2) 0 ∗ slotS (c, x.1, 0, x.2) ∗ slotS (c, x.1, 1, x.2))
/-- And for a ring. -/
def ringIn (k : Fin 2) : sProp 𝕄 :=
  iprop(credPos c k 0 ∗ (bigSep (Finset.Ico 0 24) (dutyTok ER (credCell (prv c k) k) 0)) ∗ (bigSep (Finset.Ico 0 24) (credCred c k))
    ∗ outFree c k ∗ tilesTodo c k 0)
def barIn : sProp 𝕄 :=
  iprop(dutyTok ER (barCell (nxt c 0)) 0 1 ∗ dutyTok ER (barCell (nxt c 1)) 0 0 ∗ cred (tallyAt (barCell c) 1 2) ∗ atPos ER (barCell c) 0 ∅ 0)
/-- What a ring leaves. -/
def ringEnd (sc : F .f32) (k : Fin 2) : sProp 𝕄 :=
  iprop(atPos ER (credCell c k) 1 ∅ 0 ∗ outFree c k ∗ tilesDone m c sc k 64)

def start : sProp 𝕄 :=
  iprop(barIn c ∗ (idle m c 0 ∗ idle m c 1) ∗ xw m c [] ∗ (bigSep Finset.univ (laneIn c)) ∗ bigSep Finset.univ (ringIn c))
def finish (sc : F .f32) : sProp 𝕄 :=
  iprop(atPos ER (barCell c) 1 ∅ 0 ∗ (idle m c 0 ∗ idle m c 1) ∗ xw m c [] ∗ (bigSep Finset.univ fun x : KB => laneEnd c x.1 x.2)
    ∗ bigSep Finset.univ (ringEnd m c sc))

/-! ## Entry -/

theorem lane_enter (x : KB) : iprop(recs m κ ν ∗ laneIn c x) ⊢ |={Set.univ}=> iprop(lanePre c x.1 x.2 ∗ released ES (c, x.1, 1, x.2) 1) := by
  unfold laneIn lanePre
  iintro ⟨#Hr, Ht, Hc, H₁, H₂, H₃, H₄, Hr0, Hr1, Hs0, Hs1⟩
  ihave #Hsl := (recs_slot m κ ν (c, x.1, 1, x.2)) $$ Hr
  imod (slot_release ES (Set.mem_univ (ν (c, x.1, 1, x.2))) (slot_excl (c, x.1, 1, x.2)) 0) $$ [Hr1 Hs1] with ⟨Hr1, Hrel⟩
  · isplitr; · iexact Hsl
    isplitl [Hr1]; · iexact Hr1
    iexact Hs1
  imodintro
  isplitr [Hrel]
  · isplitl [Ht]; · iexact Ht
    isplitl [Hc]; · iexact Hc
    isplitl [H₁]; · iexact H₁
    isplitl [H₂]; · iexact H₂
    isplitl [H₃]; · iexact H₃
    isplitl [H₄]; · iexact H₄
    isplitl [Hr0]; · iexact Hr0
    isplitl [Hr1]; · iexact Hr1
    unfold slotS
    iexact Hs0
  iexact Hrel

theorem lanes_enter : iprop(recs m κ ν ∗ bigSep Finset.univ (laneIn c))
    ⊢ |={Set.univ}=> iprop((bigSep Finset.univ fun x : KB => lanePre c x.1 x.2) ∗ bigSep Finset.univ fun x : KB => released ES (c, x.1, 1, x.2) 1) := by
  have h : iprop(recs m κ ν ∗ bigSep Finset.univ (laneIn (F := F) c))
      ⊢ bigSep Finset.univ fun x : KB => iprop(|={Set.univ}=> iprop(lanePre c x.1 x.2 ∗ released ES (c, x.1, 1, x.2) 1)) :=
    (sep_mono_left (BI.bigSep_of_persistent Finset.univ (recs m κ ν))).trans
      ((Entails.of_eq (bigSep_sep' _ _ _).symm).trans (bigSep_mono fun x _ => lane_enter m κ ν c x))
  refine h.trans ((bigSep_fupd _ _).trans (BI.fupd_mono ?_))
  rw [bigSep_sep']

omit [FloatOps F] in
theorem rel_row (k : Fin 2) : (bigSep Finset.univ fun x : KB => released ES (c, x.1, 1, x.2) 1 : sProp 𝕄)
    ⊢ bigSep Finset.univ fun b : Fin 4 => released ES (c, flip k, 1, b) 1 := by
  iintro #H
  have h : (bigSep Finset.univ fun x : KB => released ES (c, x.1, 1, x.2) 1 : sProp 𝕄) ⊢ bigSep Finset.univ fun b : Fin 4 => released ES (c, flip k, 1, b) 1 :=
    (BI.bigSep_of_persistent Finset.univ _).trans (bigSep_mono fun b _ => bigSep_at (Finset.mem_univ ((flip k, b) : KB)))
  iapply h
  iexact H

/-! ## Loops -/

/-- The blocks when the first `n` are sent. -/
def lanesPre (n : ℕ) : sProp 𝕄 := bigSep Finset.univ fun x : KB => if 2 * x.2.val + x.1.val < n then lane m c x.1 x.2 0 else lanePre c x.1 x.2
/-- The blocks after `q` positions. -/
def lanesAt (q : ℕ) : sProp 𝕄 := bigSep Finset.univ fun x : KB => laneAt m c x.1 x.2 ((q + 7 - (2 * x.2.val + x.1.val)) / 8)
def ringsAt (sc : F .f32) (q : ℕ) : sProp 𝕄 := bigSep Finset.univ fun k : Fin 2 => ringAt m c sc k ((q + 1 - k.val) / 2)

theorem kb_other {q : ℕ} {x : KB} (h : x ≠ kbOf q) : 2 * x.2.val + x.1.val ≠ q % 8 := fun e => h (Prod.ext
  (Fin.ext (by show x.1.val = q % 2; omega)) (Fin.ext (by show x.2.val = q % 8 / 2; omega)))
theorem kb_pos (q : ℕ) : 2 * (bOf q).val + (kOf q).val = q % 8 := by show 2 * (q % 8 / 2) + q % 2 = q % 8; omega
theorem k_other {q : ℕ} {k : Fin 2} (h : k ≠ kOf q) : k.val ≠ q % 2 := fun e => h (Fin.ext e)

theorem lanesPre_step {q : ℕ} (hq : q < 8) :
    lanesPre m c q ⊢ iprop(lanePre c (kOf q) (bOf q) ∗ (lane m c (kOf q) (bOf q) 0 -∗ lanesPre m c (q + 1))) := by
  have h := bigSep_open (F := F) (Finset.mem_univ (kbOf q))
    (Φ := fun x : KB => if 2 * x.2.val + x.1.val < q then lane m c x.1 x.2 0 else lanePre c x.1 x.2)
    (Ψ := fun x : KB => if 2 * x.2.val + x.1.val < q + 1 then lane m c x.1 x.2 0 else lanePre c x.1 x.2)
    (fun x _ hx => by
      have := kb_other hx
      by_cases h : 2 * x.2.val + x.1.val < q
      · simp only [if_pos h, if_pos (show 2 * x.2.val + x.1.val < q + 1 by omega)]
      · simp only [if_neg h, if_neg (show ¬ 2 * x.2.val + x.1.val < q + 1 by omega)])
  have := kb_pos q
  simp only [if_neg (show ¬ 2 * (bOf q).val + (kOf q).val < q by omega), if_pos (show 2 * (bOf q).val + (kOf q).val < q + 1 by omega)] at h
  exact h

theorem lanesAt_step {q : ℕ} (hq : q < 48) :
    lanesAt m c q ⊢ iprop(lane m c (kOf q) (bOf q) (q / 8) ∗ (laneAt m c (kOf q) (bOf q) (q / 8 + 1) -∗ lanesAt m c (q + 1))) := by
  have h := bigSep_open (F := F) (Finset.mem_univ (kbOf q))
    (Φ := fun x : KB => laneAt m c x.1 x.2 ((q + 7 - (2 * x.2.val + x.1.val)) / 8))
    (Ψ := fun x : KB => laneAt m c x.1 x.2 ((q + 1 + 7 - (2 * x.2.val + x.1.val)) / 8))
    (fun x _ hx => by
      have := kb_other hx
      have e : (q + 7 - (2 * x.2.val + x.1.val)) / 8 = (q + 1 + 7 - (2 * x.2.val + x.1.val)) / 8 := by omega
      simp only [e])
  have := kb_pos q
  have e₁ : (q + 7 - (2 * (bOf q).val + (kOf q).val)) / 8 = q / 8 := by omega
  have e₂ : (q + 1 + 7 - (2 * (bOf q).val + (kOf q).val)) / 8 = q / 8 + 1 := by omega
  have e₃ : laneAt m c (kOf q) (bOf q) (q / 8) = lane m c (kOf q) (bOf q) (q / 8) := if_pos (by omega)
  simp only [e₁, e₂, e₃] at h
  exact h

theorem ringsAt_step (sc : F .f32) (q : ℕ) :
    ringsAt m c sc q ⊢ iprop(ringAt m c sc (kOf q) (q / 2) ∗ (ringAt m c sc (kOf q) (q / 2 + 1) -∗ ringsAt m c sc (q + 1))) := by
  have h := bigSep_open (F := F) (Finset.mem_univ (kOf q))
    (Φ := fun k : Fin 2 => ringAt m c sc k ((q + 1 - k.val) / 2))
    (Ψ := fun k : Fin 2 => ringAt m c sc k ((q + 1 + 1 - k.val) / 2))
    (fun k _ hk => by
      have := k_other hk
      have e : (q + 1 - k.val) / 2 = (q + 1 + 1 - k.val) / 2 := by omega
      simp only [e])
  have e₁ : (q + 1 - (kOf q).val) / 2 = q / 2 := by show (q + 1 - q % 2) / 2 = q / 2; omega
  have e₂ : (q + 1 + 1 - (kOf q).val) / 2 = q / 2 + 1 := by show (q + 1 + 1 - q % 2) / 2 = q / 2 + 1; omega
  simp only [e₁, e₂] at h
  exact h

theorem first_loop (ts : List Tile) (h0 : Tile.x 0 ∈ ts) (h1 : Tile.x 1 ∈ ts) (hw : ∀ n, Tile.w n ∈ ts) (O : CellTallies nD τ sig ℕ) :
    iprop(recs m κ ν ∗ (barPay c 0 ∗ barPay c 1) ∗ xw m c ts ∗ Ow c (owedS c 0 + O) ∗ lanesPre m c 0)
      ⊢ WP c (seqN 8 0 (firstStep c)) (fun _ => iprop(recs m κ ν ∗ (barPay c 0 ∗ barPay c 1) ∗ xw m c ts ∗ Ow c (owedS c 8 + O) ∗ lanesPre m c 8)) :=
  wp_seqN c (fun q => iprop(recs m κ ν ∗ (barPay c 0 ∗ barPay c 1) ∗ xw m c ts ∗ Ow c (owedS c q + O) ∗ lanesPre m c q)) (firstStep c) 8 0
    fun q _ hq => by
      have hb : iprop(barPay (F := F) c 0 ∗ barPay c 1) ⊢ released ES (nxt c (kOf q), kOf q, 1, bOf q) 1 := by
        have h : ∀ k : Fin 2, iprop(barPay (F := F) c 0 ∗ barPay c 1) ⊢ barPay c k := fun k => by
          match k with
          | ⟨0, _⟩ => iintro ⟨H, -⟩; iexact H
          | ⟨1, _⟩ => iintro ⟨-, H⟩; iexact H
        exact (h (kOf q)).trans (bigSep_at (Finset.mem_univ (bOf q)))
      iintro ⟨#Hr, #Hb, Hxw, HO, HL⟩
      ihave HL := (lanesPre_step m c (q := q) (by omega)) $$ HL
      icases HL with ⟨HL, Hk⟩
      iapply (wp_last c (first_step m κ ν c ts h0 h1 hw (q := q) (by omega) (O := O))) $$ [Hxw HO HL]
      · isplitr; · iexact Hr
        isplitl [Hxw]; · iexact Hxw
        isplitl [HO]; · iexact HO
        isplitl [HL]; · iexact HL
        iapply hb; iexact Hb
      iintro ⟨Hxw, HO, HL⟩
      isplitr; · iexact Hr
      isplitr; · iexact Hb
      isplitl [Hxw]; · iexact Hxw
      isplitl [HO]; · iexact HO
      iapply Hk; iexact HL

/-- The positions' invariant. -/
def ringInv (sc : F .f32) (ts : List Tile) (q : ℕ) : sProp 𝕄 :=
  iprop(recs m κ ν ∗ xw m c ts ∗ Ow c (owedS c (q + 8) + owedC c q) ∗ lanesAt m c q ∗ ringsAt m c sc q)

theorem ring_loop (sc : F .f32) (ts : List Tile) (hx : ∀ q, Tile.x q ∈ ts) (hw : ∀ n, Tile.w n ∈ ts) (n : ℕ) (hn : n ≤ 48) :
    ringInv m κ ν c sc ts 0 ⊢ WP c (seqN n 0 (ringStep c sc)) (fun _ => ringInv m κ ν c sc ts (0 + n)) :=
  wp_seqN c (ringInv m κ ν c sc ts) (ringStep c sc) n 0
    fun q _ hq => by
      unfold ringInv
      iintro ⟨#Hr, Hxw, HO, HL, HR⟩
      ihave HL := (lanesAt_step m c (q := q) (by omega)) $$ HL
      icases HL with ⟨HL, Hk⟩
      ihave HR := (ringsAt_step m c sc q) $$ HR
      icases HR with ⟨HR, Hk'⟩
      iapply (wp_last c (ring_step m κ ν c sc ts hx hw (q := q) (by omega))) $$ [Hxw HO HL HR]
      · isplitr; · iexact Hr
        isplitl [Hxw]; · iexact Hxw
        isplitl [HO]; · iexact HO
        isplitl [HL]; · iexact HL
        iexact HR
      iintro ⟨Hxw, HO, HL, HR⟩
      isplitr; · iexact Hr
      isplitl [Hxw]; · iexact Hxw
      isplitl [HO]; · iexact HO
      isplitl [Hk HL]
      · iapply Hk; iexact HL
      iapply Hk'; iexact HR

/-! ## The last waits of a ring -/

theorem last_step (sc : F .f32) (k : Fin 2) :
    iprop(recs m κ ν ∗ Ow c 0 ∗ ringAt m c sc k 24) ⊢ WP c (lastStep c k) (fun _ => iprop(Ow c 0 ∗ ringEnd m c sc k)) := by
  unfold ringAt ringEnd lastStep
  rw [min_eq_right (by omega : 20 ≤ 24), bigSep_first (by omega : 20 < 24) (credCred c k), bigSep_first (by omega : 20 + 1 < 24) (credCred c k),
    bigSep_first (by omega : 20 + 1 + 1 < 24) (credCred c k), bigSep_first (by omega : 20 + 1 + 1 + 1 < 24) (credCred c k)]
  show iprop(recs m κ ν ∗ Ow c 0 ∗ _ ∗ _ ∗ _ ∗ _ ∗ (outFly m c sc k 63 ∗ tilesDone m c sc k 63 ∗ tilesTodo c k 64)) ⊢ _
  iintro ⟨#Hr, HO, Hcp, -, ⟨H₀, H₁, H₂, H₃, -⟩, -, ⟨Hf, Hd, -⟩⟩
  iapply (wp_step c (out_wait m κ ν c sc k 63 (above_zero 0))) $$ [HO Hf]
  · isplitr; · iexact Hr
    isplitl [HO]; · iexact HO
    iexact Hf
  iintro ⟨HO, Ho, Hv⟩
  unfold credCred
  iapply (wp_last c (cred_wait_last m κ ν c k)) $$ [HO Hcp H₀ H₁ H₂ H₃]
  · isplitr; · iexact Hr
    isplitl [H₀ H₁ H₂ H₃]
    · isplitl [H₀]; · iexact H₀
      isplitl [H₁]; · iexact H₁
      isplitl [H₂]; · iexact H₂
      iexact H₃
    isplitl [HO]; · iexact HO
    iexact Hcp
  iintro ⟨HO, Hcp⟩
  isplitl [HO]; · iexact HO
  isplitl [Hcp]; · iexact Hcp
  unfold outDone outFree
  have hd : iprop(tileP c k 63 (outFull m sc c) ∗ tilesDone m c sc k 63) ⊢ tilesDone m c sc k 64 := Entails.of_eq (tilesDone_succ m c sc k 63).symm
  icases Ho with ⟨Ht, Ho⟩
  isplitl [Ho Hv]
  · isplitl [Ho]; · iexact Ho
    iexact Hv
  iapply hd
  isplitl [Ht]; · iexact Ht
  iexact Hd

end Cert.KernelIdeal.Ring

end
-- ==== Proof.Whole.lean ====
module

public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! # The body from start to finish -/

variable (m : (ℓ : Loc nD τ sig) → Buf (Elt F) ℓ) (κ : GSem nD τ sig → ℕ) (ν : SK → ℕ) (c : Dev nD)

/-! ## The scales -/

abbrev sRect : Rect S1 := Rect.unit (s := S1) ![0] S1.size inb_S1_S1_0
/-- The scale a scalar buffer holds. -/
def sVal (M : Memref sig .tc .smem S1 .f32) (f : Buf (Elt F) (M.view.loc (c : Thread nD τ))) : F .f32 :=
  (M.access sRect).read (Elt F) f (Shape.Idx.first (numel1_S1.symm ▸ Nat.one_pos))

theorem s_load {α : Type} (M : Memref sig .tc .smem S1 .f32) (f : Buf (Elt F) (M.view.loc (c : Thread nD τ))) (k : F .f32 → Pg F α) (Q : α → sProp 𝕄) :
    (M.view.loc (c : Thread nD τ) ↦[Finset.univ]{fullShare} f : sProp 𝕄)
      ⊢ iprop(((M.view.loc (c : Thread nD τ) ↦[Finset.univ]{fullShare} f) -∗ WP c (k (sVal c M f)) Q) -∗ WP c (sLoad M >>= k) Q) := by
  show _ ⊢ iprop(_ -∗ wp _ _ _ (sLoad M >>= k) Q)
  rw [wp_bind]
  unfold sLoad smemLoad
  iintro H Hk
  iapply (wp_smemLoadElt 𝒱₀ (c : Thread nD τ) none Set.univ (m := M) (r := sRect) (S := Finset.univ) (q := fullShare) (f := f) (Finset.subset_univ _)) $$ [H]
  · iexact H
  iintro H
  iapply (wp_end c)
  iapply Hk
  iexact H

theorem dev_step {α : Type} (k : Dev nD → Pg F α) (Q : α → sProp 𝕄) : WP c (k c) Q ⊢ WP c (Prog.lift .deviceId >>= k) Q := by
  show _ ⊢ wp _ _ _ (Prog.lift .deviceId >>= k) Q
  rw [wp_bind]
  simp only [Prog.lift, wp_deviceId]
  exact wp_end c (a := c) (Q := fun d => wp _ _ _ (k d) Q)

/-! ## Pairs -/

omit [FloatOps F] in
theorem both (Φ : Fin 2 → sProp 𝕄) : bigSep Finset.univ Φ = iprop(Φ 0 ∗ Φ 1) := by
  have e : (Finset.univ : Finset (Fin 2)) = insert 0 {1} := by decide
  rw [e, bigSep_insert (by decide), bigSep_singleton]
  rfl

theorem lanesPre_zero : lanesPre m c 0 = bigSep Finset.univ fun x : KB => lanePre c x.1 x.2 := by
  unfold lanesPre
  exact bigSep_congr fun x _ => if_neg (by omega)
theorem lanesPre_all : lanesPre m c 8 = lanesAt m c 0 := by
  unfold lanesPre lanesAt
  refine bigSep_congr fun x _ => ?_
  have e : (0 + 7 - (2 * x.2.val + x.1.val)) / 8 = 0 := by omega
  rw [if_pos (by omega), e]
  exact (if_pos (by omega)).symm
theorem lanesAt_end : lanesAt m c 48 = bigSep Finset.univ fun x : KB => laneEnd c x.1 x.2 := by
  unfold lanesAt
  refine bigSep_congr fun x _ => ?_
  have e : (48 + 7 - (2 * x.2.val + x.1.val)) / 8 = 6 := by omega
  rw [e]
  exact if_neg (by omega)
theorem ring_enter (sc : F .f32) (k : Fin 2) : ringIn c k ⊢ ringAt m c sc k 0 := by
  unfold ringIn ringAt
  show _ ⊢ iprop(credPos c k 0 ∗ _ ∗ bigSep (Finset.Ico 0 24) (credCred c k) ∗ facts c k 0 ∗ (outFree c k ∗ tilesTodo c k 0))
  iintro ⟨H₁, H₂, H₃, H₄, H₅⟩
  isplitl [H₁]; · iexact H₁
  isplitl [H₂]; · iexact H₂
  isplitl [H₃]; · iexact H₃
  isplitr
  · unfold facts
    rw [Finset.range_zero, bigSep_empty]
    iempintro
  isplitl [H₄]; · iexact H₄
  iexact H₅
theorem rings_enter (sc : F .f32) : bigSep Finset.univ (ringIn (F := F) c) ⊢ ringsAt m c sc 0 := by
  unfold ringsAt
  refine bigSep_mono fun k _ => ?_
  have e : (0 + 1 - k.val) / 2 = 0 := by omega
  rw [e]
  exact ring_enter m c sc k
theorem rings_exit (sc : F .f32) : ringsAt m c sc 48 = iprop(ringAt m c sc 0 24 ∗ ringAt m c sc 1 24) := by
  unfold ringsAt
  exact both _

def ts₀ : List Tile :=
  Tile.x 0 :: Tile.x 1 :: [.w 0, .w 1, .w 2, .w 3, .w 4, .w 5, .w 6, .w 7, .w 8, .w 9, .w 10, .w 11, .w 12, .w 13, .w 14, .w 15] ++ []
def ts₁ : List Tile := (Tile.x 2 :: Tile.x 3 :: [.x 4, .x 5, .x 6, .x 7]) ++ ts₀

theorem x_mem (q : Fin 8) : Tile.x q ∈ ts₁ := by unfold ts₁ ts₀; fin_cases q <;> simp
theorem w_mem₀ (n : Fin 16) : Tile.w n ∈ ts₀ := by unfold ts₀; fin_cases n <;> simp
theorem w_mem (n : Fin 16) : Tile.w n ∈ ts₁ := List.mem_append_right _ (w_mem₀ n)

/-! ## The body -/

variable (fx : Buf (Elt F) (mSx.view.loc (c : Thread nD τ))) (fw : Buf (Elt F) (mSw.view.loc (c : Thread nD τ)))
abbrev scal : F .f32 := k0_pay1 (sVal c mSx fx) (sVal c mSw fw)
def scalP : sProp 𝕄 :=
  iprop((mSx.view.loc (c : Thread nD τ) ↦[Finset.univ]{fullShare} fx) ∗ (mSw.view.loc (c : Thread nD τ) ↦[Finset.univ]{fullShare} fw))

/-- After the barrier. -/
theorem tail_wp (sc : F .f32) :
    iprop(recs m κ ν ∗ (barPay c 0 ∗ barPay c 1) ∗ Ow c (owedS c 0 + owedC c 0) ∗ (idle m c 0 ∗ idle m c 1) ∗ xw m c ts₀ ∗ lanesPre m c 0 ∗ ringsAt m c sc 0)
      ⊢ WP c (seqN 8 0 (firstStep c) >>= fun _ => conv c (.x 2) (.x 3) [.x 4, .x 5, .x 6, .x 7] >>= fun _ =>
          seqN 48 0 (ringStep c sc) >>= fun _ => lastStep c 0 >>= fun _ => lastStep c 1)
        (fun _ => iprop(Ow c 0 ∗ (idle m c 0 ∗ idle m c 1) ∗ xw m c [] ∗ (bigSep Finset.univ fun x : KB => laneEnd c x.1 x.2)
          ∗ bigSep Finset.univ (ringEnd m c sc))) := by
  have hA : Above 0 (owedS c 8 + owedC c 0) := above_add (above_owedS c (by omega)) (above_owedC c (by omega))
  have hloop := ring_loop m κ ν c sc ts₁ x_mem w_mem 48 (by omega)
  rw [Nat.zero_add] at hloop
  have h₀ : iprop(recs m κ ν ∗ xw m c ts₁ ∗ Ow c (owedS c 8 + owedC c 0) ∗ lanesAt m c 0 ∗ ringsAt m c sc 0) ⊢ ringInv m κ ν c sc ts₁ 0 := Entails.refl _
  have h₁ : ringInv m κ ν c sc ts₁ 48
      ⊢ iprop(recs m κ ν ∗ xw m c ts₁ ∗ Ow c 0 ∗ (bigSep Finset.univ fun x : KB => laneEnd c x.1 x.2) ∗ ringAt m c sc 0 24 ∗ ringAt m c sc 1 24) := by
    unfold ringInv
    rw [owedS_end c (by omega), owedC_end c (by omega), add_zero, lanesAt_end, rings_exit]
  iintro ⟨#Hr, #Hb, HO, Hi, Hxw, HL, HR⟩
  iapply (wp_step c (first_loop m κ ν c ts₀ (by unfold ts₀; simp) (by unfold ts₀; simp) w_mem₀ (owedC c 0))) $$ [Hxw HO HL]
  · isplitr; · iexact Hr
    isplitr; · iexact Hb
    isplitl [Hxw]; · iexact Hxw
    isplitl [HO]; · iexact HO
    iexact HL
  rw [lanesPre_all]
  iintro ⟨-, -, Hxw, HO, HL⟩
  iapply (wp_step c (conv_all m κ ν c hA (.x 2) (.x 3) [.x 4, .x 5, .x 6, .x 7] ts₀)) $$ [HO Hi Hxw]
  · isplitr; · iexact Hr
    isplitl [HO]; · iexact HO
    isplitl [Hi]; · iexact Hi
    iexact Hxw
  iintro ⟨HO, Hi, Hxw⟩
  iapply (wp_step c hloop) $$ [HO Hxw HL HR]
  · iapply h₀
    isplitr; · iexact Hr
    isplitl [Hxw]; · iexact Hxw
    isplitl [HO]; · iexact HO
    isplitl [HL]; · iexact HL
    iexact HR
  iintro H
  ihave H := h₁ $$ H
  icases H with ⟨-, Hxw, HO, HL, HR0, HR1⟩
  iapply (wp_step c (last_step m κ ν c sc 0)) $$ [HO HR0]
  · isplitr; · iexact Hr
    isplitl [HO]; · iexact HO
    iexact HR0
  iintro ⟨HO, HR0⟩
  iapply (wp_last c (last_step m κ ν c sc 1)) $$ [HO HR1]
  · isplitr; · iexact Hr
    isplitl [HO]; · iexact HO
    iexact HR1
  iintro ⟨HO, HR1⟩
  rw [both]
  isplitl [HO]; · iexact HO
  isplitl [Hi]; · iexact Hi
  isplitl [Hxw]
  · iapply (xw_mono m c (ts := ts₁) (us := []) (fun t ht => absurd ht List.not_mem_nil))
    iexact Hxw
  isplitl [HL]; · iexact HL
  isplitl [HR0]; · iexact HR0
  iexact HR1

theorem body_wp :
    iprop(recs m κ ν ∗ Ow c (O₀ c) ∗ start m c ∗ scalP c fx fw)
      ⊢ WP c (bodyS mSx mSw) (fun _ => iprop(Ow c 0 ∗ finish m c (scal c fx fw) ∗ scalP c fx fw)) := by
  unfold start barIn finish scalP
  iintro ⟨#Hr, HO, ⟨⟨Ht₁, Ht₀, Hbc, Hbp⟩, Hi, Hxw, HL, HR⟩, Hsx, Hsw⟩
  unfold bodyS
  iapply (dev_step c)
  iapply (s_load c mSx fx) $$ Hsx
  iintro Hsx
  iapply (s_load c mSw fw) $$ Hsw
  iintro Hsw
  imod (lanes_enter m κ ν c) $$ [HL] with ⟨HL, #Hrel⟩
  · isplitr; · iexact Hr
    iexact HL
  ihave HR := (rings_enter m c (scal c fx fw)) $$ HR
  iapply (wp_step c (conv_all m κ ν c (above_O₀ c) (.x 0) (.x 1) _ [])) $$ [HO Hi Hxw]
  · isplitr; · iexact Hr
    isplitl [HO]; · iexact HO
    isplitl [Hi]; · iexact Hi
    iexact Hxw
  iintro ⟨HO, Hi, Hxw⟩
  iapply (wp_step c (bar_op m κ ν c 0 _ (bar1_eq c) (O := owedS c 0 + owedC c 0 + barTally c 1))) $$ [HO Ht₁]
  · isplitr; · iexact Hr
    isplitl [HO]; · iexact HO
    isplitl [Ht₁]; · iexact Ht₁
    iapply (rel_row c 0); iexact Hrel
  iintro HO
  iapply (wp_step c (bar_op m κ ν c 1 _ (bar2_eq c) (O := owedS c 0 + owedC c 0))) $$ [HO Ht₀]
  · isplitr; · iexact Hr
    isplitl [HO]; · iexact HO
    isplitl [Ht₀]; · iexact Ht₀
    iapply (rel_row c 1); iexact Hrel
  iintro HO
  iapply (wp_step c (bar_wait m κ ν c (O := owedS c 0 + owedC c 0) (above_add (above_owedS c (by omega)) (above_owedC c (by omega))))) $$ [HO Hbc Hbp]
  · isplitr; · iexact Hr
    isplitl [Hbc]; · iexact Hbc
    isplitl [HO]; · iexact HO
    iexact Hbp
  iintro ⟨HO, Hbp, Hpay⟩
  iapply (wp_last c (tail_wp m κ ν c (scal c fx fw))) $$ [Hpay HO Hi Hxw HL HR]
  · isplitr; · iexact Hr
    isplitl [Hpay]; · iexact Hpay
    isplitl [HO]; · iexact HO
    isplitl [Hi]; · iexact Hi
    isplitl [Hxw]; · iexact Hxw
    isplitl [HL]
    · rw [lanesPre_zero]; iexact HL
    iexact HR
  iintro ⟨HO, Hi, Hxw, HL, HR⟩
  isplitl [HO]; · iexact HO
  isplitr [Hsx Hsw]
  · isplitl [Hbp]; · iexact Hbp
    isplitl [Hi]; · iexact Hi
    isplitl [Hxw]; · iexact Hxw
    isplitl [HL]; · iexact HL
    iexact HR
  isplitl [Hsx]; · iexact Hsx
  iexact Hsw

end Cert.KernelIdeal.Ring

end
-- ==== Proof.Deal.lean ====
/- How the launch's tokens are dealt: every device gets what its own sends, credits and barrier signals use up, which
   stand for cells of its neighbours. -/
module

public import proofs.«01_k».proof.Proof.Whole
public import Idealize.ShloMosaic.Lib.SparseCore.Launch

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

omit [FloatOps F]

/-- Ring, slot, block. -/
abbrev KSB : Type := Fin 2 × Fin 2 × Fin 4

def ckEquiv : Unit ⊕ (Fin 2 ⊕ (KSB ⊕ KSB)) ≃ CK where
  toFun
    | .inl _ => .bar
    | .inr (.inl k) => .cred k
    | .inr (.inr (.inl x)) => .send x.1 x.2.1 x.2.2
    | .inr (.inr (.inr x)) => .recv x.1 x.2.1 x.2.2
  invFun
    | .bar => .inl ()
    | .cred k => .inr (.inl k)
    | .send k s b => .inr (.inr (.inl (k, s, b)))
    | .recv k s b => .inr (.inr (.inr (k, s, b)))
  left_inv := by rintro (_ | _ | _ | _) <;> rfl
  right_inv := by rintro (_ | _ | _ | _) <;> rfl

/-- Over all kinds of cells, kind by kind. -/
theorem ck_split (Φ : CK → sProp 𝕄) : (bigSep Finset.univ Φ : sProp 𝕄) = iprop(Φ .bar ∗ (bigSep Finset.univ fun k => Φ (.cred k))
    ∗ (bigSep Finset.univ fun x : KSB => Φ (.send x.1 x.2.1 x.2.2)) ∗ bigSep Finset.univ fun x : KSB => Φ (.recv x.1 x.2.1 x.2.2)) := by
  rw [bigSep_univ_equiv ckEquiv, bigSep_univ_sum, bigSep_univ_sum, bigSep_univ_sum, Finset.univ_unique, bigSep_singleton]
  rfl

/-- Over all slots, block by block. -/
theorem ksb_split (Φ : KSB → sProp 𝕄) : (bigSep Finset.univ Φ : sProp 𝕄)
    = bigSep Finset.univ fun x : KB => iprop(Φ (x.1, 0, x.2) ∗ Φ (x.1, 1, x.2)) := by
  rw [bigSep_univ_prod, bigSep_univ_prod]
  refine bigSep_congr fun k _ => ?_
  rw [bigSep_univ_prod, both]
  exact (bigSep_sep' (s := Finset.univ) (Φ := fun b : Fin 4 => Φ (k, 0, b)) (Ψ := fun b : Fin 4 => Φ (k, 1, b))).symm

/-- Three rounds of two slots are six sends. -/
theorem six (T : Fin 2 → ℕ → sProp 𝕄) : iprop((bigSep (Finset.range 3) (T 0)) ∗ bigSep (Finset.range 3) (T 1))
    ⊢ bigSep (Finset.Ico 0 6) fun u => T (par u) (u / 2) := by
  have h3 : ∀ S : ℕ → sProp 𝕄, (bigSep (Finset.range 3) S : sProp 𝕄) = iprop(S 0 ∗ S 1 ∗ S 2 ∗ emp) := fun S => by
    rw [Finset.range_eq_Ico, bigSep_first (by decide), bigSep_first (by decide), bigSep_first (by decide), Finset.Ico_eq_empty (by decide)]; rfl
  have h6 : (bigSep (Finset.Ico 0 6) fun u => T (par u) (u / 2) : sProp 𝕄) = iprop(T 0 0 ∗ T 1 0 ∗ T 0 1 ∗ T 1 1 ∗ T 0 2 ∗ T 1 2 ∗ emp) := by
    rw [bigSep_first (by decide), bigSep_first (by decide), bigSep_first (by decide), bigSep_first (by decide), bigSep_first (by decide),
      bigSep_first (by decide), Finset.Ico_eq_empty (by decide)]; rfl
  rw [h3, h3, h6]
  iintro ⟨⟨A0, A1, A2, -⟩, B0, B1, B2, He⟩
  isplitl [A0]; · iexact A0
  isplitl [B0]; · iexact B0
  isplitl [A1]; · iexact A1
  isplitl [B1]; · iexact B1
  isplitl [A2]; · iexact A2
  isplitl [B2]; · iexact B2
  iexact He

/-- The same with the slots the other way round. -/
theorem six' (T : Fin 2 → ℕ → sProp 𝕄) : iprop((bigSep (Finset.range 3) (T 0)) ∗ bigSep (Finset.range 3) (T 1))
    ⊢ bigSep (Finset.Ico 0 6) fun u => T (par (u + 1)) (u / 2) := by
  have e : (bigSep (Finset.Ico 0 6) fun u => T (par (u + 1)) (u / 2) : sProp 𝕄) = bigSep (Finset.Ico 0 6) fun u => T (flip (par u)) (u / 2) :=
    bigSep_congr fun u _ => by rw [show par (u + 1) = flip (par u) from Fin.ext (by show (u + 1) % 2 = 1 - u % 2; omega)]
  rw [e]
  refine BIBase.Entails.trans ?_ (six fun s r => T (flip s) r)
  show iprop((bigSep (Finset.range 3) (T 0)) ∗ bigSep (Finset.range 3) (T 1)) ⊢ iprop((bigSep (Finset.range 3) (T 1)) ∗ bigSep (Finset.range 3) (T 0))
  iintro ⟨H, H'⟩
  isplitl [H']; · iexact H'
  iexact H

def nxtEquiv (k : Fin 2) : Dev nD ≃ Dev nD := ⟨fun c => nxt c k, fun c => prv c k, fun c => prv_nxt c k, fun c => nxt_prv c k⟩

/-- What stands for a device, dealt to the device before it along each ring. -/
theorem around {J : Type} [Fintype J] [DecidableEq J] (r : J → Fin 2) (X : Dev nD → J → sProp 𝕄) :
    (bigSep Finset.univ fun c => bigSep Finset.univ fun x => X c x : sProp 𝕄)
      = bigSep Finset.univ fun c => bigSep Finset.univ fun x => X (nxt c (r x)) x := by
  rw [bigSep_univ_comm, bigSep_univ_comm (fun c x => X (nxt c (r x)) x)]
  exact bigSep_congr fun x _ => bigSep_univ_equiv (nxtEquiv (r x)) fun c => X c x
/-- And to the device after it. -/
theorem back {J : Type} [Fintype J] [DecidableEq J] (r : J → Fin 2) (X : Dev nD → J → sProp 𝕄) :
    (bigSep Finset.univ fun c => bigSep Finset.univ fun x => X c x : sProp 𝕄)
      = bigSep Finset.univ fun c => bigSep Finset.univ fun x => X (prv c (r x)) x := by
  rw [bigSep_univ_comm, bigSep_univ_comm (fun c x => X (prv c (r x)) x)]
  exact bigSep_congr fun x _ => bigSep_univ_equiv (nxtEquiv (r x)).symm fun c => X c x

/-! ## The tokens -/

def roundsSet : Finset (ℕ × ℕ) := Finset.range 3 ×ˢ Finset.range 24
/-- All tokens of a cell. -/
def cellToks (g : GSem nD τ sig) : sProp 𝕄 := bigSep roundsSet fun r => dutyTok ER g r.1 r.2

theorem cellToks_one (g : GSem nD τ sig) : cellToks g ⊢ (bigSep (Finset.range 3) fun r => dutyTok ER g r 0 : sProp 𝕄) := by
  unfold cellToks roundsSet
  rw [SparseCore.bigSep_product]
  exact bigSep_mono fun r _ => bigSep_at (F := F) (Finset.mem_range.mpr (by decide : 0 < 24))
theorem cellToks_first (g : GSem nD τ sig) : cellToks g ⊢ (bigSep (Finset.Ico 0 24) fun d => dutyTok ER g 0 d : sProp 𝕄) := by
  unfold cellToks roundsSet
  rw [SparseCore.bigSep_product, ← Finset.range_eq_Ico]
  exact bigSep_at (F := F) (Finset.mem_range.mpr (by decide : 0 < 3)) (Φ := fun r => bigSep (Finset.range 24) fun d => dutyTok ER g r d)
theorem cellToks_two (g : GSem nD τ sig) : cellToks g ⊢ (iprop(dutyTok ER g 0 1 ∗ dutyTok ER g 0 0) : sProp 𝕄) := by
  refine (cellToks_first g).trans ?_
  rw [bigSep_first (by decide), bigSep_first (by decide)]
  iintro ⟨H0, H1, -⟩
  isplitl [H1]; · iexact H1
  iexact H0

/-- The tokens of a device's own cells that get used. -/
def ownToks (c : Dev nD) : sProp 𝕄 :=
  iprop((dutyTok ER (barCell c) 0 1 ∗ dutyTok ER (barCell c) 0 0)
    ∗ (bigSep Finset.univ fun k : Fin 2 => bigSep (Finset.Ico 0 24) (dutyTok ER (credCell c k) 0))
    ∗ (bigSep Finset.univ fun x : KB => bigSep (Finset.Ico 0 6) fun u => dutyTok ER (sendCell c x.1 (par u) x.2) (u / 2) 0)
    ∗ bigSep Finset.univ fun x : KB => bigSep (Finset.Ico 0 6) fun u => dutyTok ER (recvCell c x.1 (par (u + 1)) x.2) (u / 2) 0)
/-- The tokens a device uses. -/
def payToks (c : Dev nD) : sProp 𝕄 :=
  iprop((dutyTok ER (barCell (nxt c 0)) 0 1 ∗ dutyTok ER (barCell (nxt c 1)) 0 0)
    ∗ (bigSep Finset.univ fun k : Fin 2 => bigSep (Finset.Ico 0 24) (dutyTok ER (credCell (prv c k) k) 0))
    ∗ (bigSep Finset.univ fun x : KB => bigSep (Finset.Ico 0 6) fun u => dutyTok ER (sendCell c x.1 (par u) x.2) (u / 2) 0)
    ∗ bigSep Finset.univ fun x : KB => bigSep (Finset.Ico 0 6) fun u => dutyTok ER (recvCell (nxt c x.1) x.1 (par (u + 1)) x.2) (u / 2) 0)

theorem toks_own (c : Dev nD) : (bigSep Finset.univ fun x : CK => cellToks (cellX (c, x)) : sProp 𝕄) ⊢ ownToks c := by
  rw [ck_split, ksb_split, ksb_split]
  unfold ownToks
  refine BI.sep_mono (cellToks_two _) (BI.sep_mono (bigSep_mono fun k _ => cellToks_first _) (BI.sep_mono (bigSep_mono fun x _ => ?_) (bigSep_mono fun x _ => ?_)))
  · exact (BI.sep_mono (cellToks_one _) (cellToks_one _)).trans (six fun s r => dutyTok ER (sendCell c x.1 s x.2) r 0)
  · exact (BI.sep_mono (cellToks_one _) (cellToks_one _)).trans (six' fun s r => dutyTok ER (recvCell c x.1 s x.2) r 0)

theorem toks_around : (bigSep Finset.univ fun c => ownToks (F := F) c : sProp 𝕄) ⊢ bigSep Finset.univ fun c => payToks c := by
  unfold ownToks payToks
  rw [bigSep_sep', bigSep_sep', bigSep_sep', bigSep_sep', bigSep_sep', bigSep_sep', bigSep_sep', bigSep_sep']
  refine BI.sep_mono (BI.sep_mono ?_ ?_) (BI.sep_mono ?_ (BI.sep_mono (Entails.refl _) ?_))
  · exact Entails.of_eq (bigSep_univ_equiv (nxtEquiv 0) (fun c => dutyTok ER (barCell c) 0 1))
  · exact Entails.of_eq (bigSep_univ_equiv (nxtEquiv 1) (fun c => dutyTok ER (barCell c) 0 0))
  · exact Entails.of_eq (back (F := F) (fun k => k) (fun c k => bigSep (Finset.Ico 0 24) (dutyTok ER (credCell c k) 0)))
  · exact Entails.of_eq (around (F := F) (fun x : KB => x.1) (fun c x => bigSep (Finset.Ico 0 6) fun u => dutyTok ER (recvCell c x.1 (par (u + 1)) x.2) (u / 2) 0))

/-! ## The slots' tokens -/

def ownWrites (c : Dev nD) : sProp 𝕄 := bigSep Finset.univ fun x : KB => bigSep (Finset.Ico 0 6) fun u => writeTok ES (c, x.1, par (u + 1), x.2) (u / 2 + 1)
def payWrites (c : Dev nD) : sProp 𝕄 :=
  bigSep Finset.univ fun x : KB => bigSep (Finset.Ico 0 6) fun u => writeTok ES (nxt c x.1, x.1, par (u + 1), x.2) (u / 2 + 1)

theorem writes_own (c : Dev nD) : (bigSep Finset.univ fun x : KSB => bigSep (Finset.range 3) fun r => writeTok ES (c, x) (r + 1) : sProp 𝕄) ⊢ ownWrites c := by
  rw [ksb_split]
  unfold ownWrites
  exact bigSep_mono fun x _ => six' fun s r => writeTok ES (c, x.1, s, x.2) (r + 1)
theorem writes_around : (bigSep Finset.univ fun c => ownWrites (F := F) c : sProp 𝕄) ⊢ bigSep Finset.univ fun c => payWrites c := by
  unfold ownWrites payWrites
  exact Entails.of_eq (around (F := F) (fun x : KB => x.1) (fun c x => bigSep (Finset.Ico 0 6) fun u => writeTok ES (c, x.1, par (u + 1), x.2) (u / 2 + 1)))

/-- A device's tokens, by block and ring. -/
def dealt (c : Dev nD) : sProp 𝕄 :=
  iprop((dutyTok ER (barCell (nxt c 0)) 0 1 ∗ dutyTok ER (barCell (nxt c 1)) 0 0)
    ∗ (bigSep Finset.univ fun k : Fin 2 => bigSep (Finset.Ico 0 24) (dutyTok ER (credCell (prv c k) k) 0))
    ∗ bigSep Finset.univ fun x : KB => bigSep (Finset.Ico 0 6) (sendTok c x.1 x.2))
theorem deal_device (c : Dev nD) : (iprop(payToks c ∗ payWrites c) : sProp 𝕄) ⊢ dealt c := by
  unfold payToks payWrites dealt sendTok
  simp only [bigSep_sep']
  iintro ⟨⟨Hb, Hc, Hs, Hr⟩, Hw⟩
  isplitl [Hb]; · iexact Hb
  isplitl [Hc]; · iexact Hc
  isplitl [Hs]; · iexact Hs
  isplitl [Hr]; · iexact Hr
  iexact Hw

theorem deal_all : (iprop((bigSep Finset.univ fun x : Dev nD × CK => cellToks (cellX x))
      ∗ bigSep (Finset.univ ×ˢ Finset.range 3) fun x : SK × ℕ => writeTok ES x.1 (x.2 + 1)) : sProp 𝕄)
    ⊢ bigSep Finset.univ fun c => dealt c := by
  rw [SparseCore.bigSep_product, bigSep_univ_prod, bigSep_univ_prod]
  refine (BI.sep_mono ((bigSep_mono fun c _ => toks_own c).trans toks_around) ((bigSep_mono fun c _ => writes_own c).trans writes_around)).trans ?_
  refine (Entails.of_eq (bigSep_sep' _ _ _).symm).trans (bigSep_mono fun c _ => deal_device c)

end Cert.KernelIdeal.Ring

end
-- ==== Proof.Own.lean ====
/- The launch's semaphores and ghost state: every ring cell and every landing slot gets its invariant, and each device
   what it starts with. -/
module

public import proofs.«01_k».proof.Proof.Deal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The kernel's own semaphores -/

abbrev OK : Type := Fin 2 ⊕ (KSB ⊕ (KSB ⊕ (Fin 2 ⊕ Fin 2)))
def osem : OK → SemLoc sig
  | .inl k => .reg (credSem k)
  | .inr (.inl x) => .dma (sendSem x.1 x.2.1 x.2.2)
  | .inr (.inr (.inl x)) => .dma (recvSem x.1 x.2.1 x.2.2)
  | .inr (.inr (.inr (.inl s))) => .dma (convSem s)
  | .inr (.inr (.inr (.inr k))) => .dma (outSem k)

theorem osem_inj : Function.Injective osem := by decide +kernel
theorem ownSemFacts : Pipeline.OwnSemFacts cfg0.spec osem :=
  ⟨by decide +kernel, osem_inj, by decide +kernel⟩

section Sems
omit [FloatOps F]
variable (c : Dev nD)

/-- The unscoped semaphore is the barrier. -/
theorem unscoped_eq : (unscopedSems0 (Ix := ℕ) (Name := ℕ) (U := UU) (Lvl := ℕ) (Val := Elt F) c : sProp 𝕄) = semVal (barCell c) 0 := by
  unfold unscopedSems0
  rw [bigSep_eq_bigSepL_of_eq [SemLoc.reg barSem] (by decide +kernel) (by decide +kernel)]
  rfl

abbrev outV (k : Fin 2) : sProp 𝕄 := semVal ((c : Thread nD τ), .dma (outSem k)) 0
/-- The ring cells' semaphores. -/
def cellsV : sProp 𝕄 := bigSep Finset.univ fun x : CK => semVal (cellX (c, x)) 0

theorem own_eq : (Pipeline.ownSems0 (Ix := ℕ) (Name := ℕ) (U := UU) (Lvl := ℕ) (Val := Elt F) (τ := τ) osem c : sProp 𝕄)
    = iprop((bigSep Finset.univ fun k => semVal (credCell c k) 0) ∗ (bigSep Finset.univ fun x : KSB => semVal (sendCell c x.1 x.2.1 x.2.2) 0)
      ∗ (bigSep Finset.univ fun x : KSB => semVal (recvCell c x.1 x.2.1 x.2.2) 0) ∗ (convV c 0 ∗ convV c 1) ∗ bigSep Finset.univ (outV (F := F) c)) := by
  unfold Pipeline.ownSems0
  rw [bigSep_univ_sum, bigSep_univ_sum, bigSep_univ_sum, bigSep_univ_sum, both (fun a : Fin 2 => semVal ((c : Thread nD τ), osem (.inr (.inr (.inr (.inl a))))) 0)]
  rfl
theorem cellsV_eq : cellsV (F := F) c = iprop(semVal (barCell c) 0 ∗ (bigSep Finset.univ fun k => semVal (credCell c k) 0)
    ∗ (bigSep Finset.univ fun x : KSB => semVal (sendCell c x.1 x.2.1 x.2.2) 0) ∗ bigSep Finset.univ fun x : KSB => semVal (recvCell c x.1 x.2.1 x.2.2) 0) := by
  unfold cellsV; rw [ck_split]; rfl

theorem sems_in : (iprop(Pipeline.ownSems0 (Ix := ℕ) (Name := ℕ) (U := UU) (Lvl := ℕ) (Val := Elt F) (τ := τ) osem c ∗ unscopedSems0 c) : sProp 𝕄)
    ⊢ iprop(cellsV c ∗ (convV c 0 ∗ convV c 1) ∗ bigSep Finset.univ (outV c)) := by
  rw [own_eq, cellsV_eq, unscoped_eq]
  iintro ⟨⟨H1, H2, H3, H4, H5⟩, H0⟩
  isplitr [H4 H5]
  · isplitl [H0]; · iexact H0
    isplitl [H1]; · iexact H1
    isplitl [H2]; · iexact H2
    iexact H3
  isplitl [H4]; · iexact H4
  iexact H5
theorem sems_out : (iprop(cellsV c ∗ (convV c 0 ∗ convV c 1) ∗ bigSep Finset.univ (outV c)) : sProp 𝕄)
    ⊢ iprop(Pipeline.ownSems0 (Ix := ℕ) (Name := ℕ) (U := UU) (Lvl := ℕ) (Val := Elt F) (τ := τ) osem c ∗ unscopedSems0 c) := by
  rw [own_eq, cellsV_eq, unscoped_eq]
  iintro ⟨⟨H0, H1, H2, H3⟩, H4, H5⟩
  isplitr [H0]
  · isplitl [H1]; · iexact H1
    isplitl [H2]; · iexact H2
    isplitl [H3]; · iexact H3
    isplitl [H4]; · iexact H4
    iexact H5
  iexact H0

/-! ## Ghost state -/

def places : sProp 𝕄 := bigSep Finset.univ fun x : CK => atPos ER (cellX (c, x)) 0 ∅ 0
def readers : sProp 𝕄 := bigSep Finset.univ fun x : KSB => readerAt ES (c, x) 0
/-- What a device starts with. -/
def ghost : sProp 𝕄 := iprop(dealt c ∗ places c ∗ readers c ∗ (convV c 0 ∗ convV c 1) ∗ bigSep Finset.univ (outV c))

theorem cellX_inj : Function.Injective cellX := fun x y h => by
  have h1 : x.1 = y.1 := congrArg (fun g : GSem nD τ sig => g.1.1) h
  have h2 : semOf x.2 = semOf y.2 := congrArg (fun g : GSem nD τ sig => g.2) h
  have h3 : x.2 = y.2 := Option.some.inj (by rw [← ck_semOf x.2, ← ck_semOf y.2, h2])
  exact Prod.ext h1 h3
def ringCells : Finset (GSem nD τ sig) := Finset.univ.map ⟨cellX, cellX_inj⟩
def tokX (x : (Dev nD × CK) × ℕ × ℕ) : GSem nD τ sig × ℕ × ℕ := (cellX x.1, x.2)
theorem tokX_inj : Function.Injective tokX := fun x y h =>
  Prod.ext (cellX_inj (congrArg (fun z : GSem nD τ sig × ℕ × ℕ => z.1) h)) (congrArg (fun z : GSem nD τ sig × ℕ × ℕ => z.2) h)
def ringToks : Finset (GSem nD τ sig × ℕ × ℕ) := (Finset.univ ×ˢ roundsSet).map ⟨tokX, tokX_inj⟩

theorem cells_eq (Φ : GSem nD τ sig → sProp 𝕄) : (bigSep ringCells Φ : sProp 𝕄) = bigSep Finset.univ fun x : Dev nD × CK => Φ (cellX x) := by
  unfold ringCells; rw [bigSep_map]; rfl
theorem toks_eq : (bigSep ringToks fun x => (dutyTok ER x.1 x.2.1 x.2.2 : sProp 𝕄)) = bigSep Finset.univ fun x : Dev nD × CK => cellToks (cellX x) := by
  unfold ringToks; rw [bigSep_map, SparseCore.bigSep_product]; rfl

end Sems

/-- The ring's part of the ghost state at launch, and the whole of it. -/
def uB : UB := (initOf ringCells ringToks, (initSlots Finset.univ 3, 1))
def u₀ : UU := (initOf (Pipeline.cells cfgs cellOf_inj) (Pipeline.launchToks cfgs cellOf_inj), uB)

section Glob
variable (m : (ℓ : Loc nD τ sig) → Buf (Elt F) ℓ)

/-- The ring's ghost state lies with device 0 until it is dealt. -/
def G (c : Dev nD) : sProp 𝕄 := if c = 0 then iprop(BI.own (EB uB)) else iprop(emp)

omit [FloatOps F] in
theorem G_intro : (BI.own (EB uB) : sProp 𝕄) ⊢ bigSep Finset.univ (G (F := F)) := by
  rw [bigSep_erase (Finset.mem_univ (0 : Dev nD)), bigSep_congr (s := Finset.univ.erase 0) (Φ := G (F := F)) (Ψ := fun _ => iprop(emp))
    fun c hc => if_neg (Finset.ne_of_mem_erase hc)]
  show _ ⊢ iprop(G (F := F) 0 ∗ bigSep (Finset.univ.erase 0) fun _ : Dev nD => iprop(emp))
  rw [show G (F := F) 0 = iprop(BI.own (EB uB)) from if_pos rfl]
  iintro H
  isplitl [H]; · iexact H
  iapply (BI.bigSep_of_persistent (Finset.univ.erase (0 : Dev nD)) (iprop(emp) : sProp 𝕄))
  iempintro

theorem G_open : (BI.own (EB uB) : sProp 𝕄) ⊢ iprop(BI.own (ER (initOf ringCells ringToks)) ∗ BI.own (ES (initSlots Finset.univ 3))) := by
  iintro H
  ihave H := (own_pair_emb (EB (F := F)) _ _) $$ H
  icases H with ⟨H, H'⟩
  isplitl [H]; · iexact H
  ihave H' := (own_pair_emb ((Emb.inr : Emb _ UB).trans (EB (F := F))) _ _) $$ H'
  icases H' with ⟨H, -⟩
  iexact H

/-- The invariants, by name. -/
def known (κ : GSem nD τ sig → ℕ) (ν : SK → ℕ) : sProp 𝕄 :=
  iprop((bigSep Finset.univ fun x : Dev nD × CK => iprop(cellInv ER (Rd m) (κ (cellX x)) (cellX x) ∗ reached ER (cellX x) 0))
    ∗ bigSep Finset.univ fun x : SK => slotInv ES (ν x) x (slotS x))
instance known_persistent (κ : GSem nD τ sig → ℕ) (ν : SK → ℕ) : BI.Persistent (known m κ ν) := by unfold known; infer_instance
theorem known_recs (κ : GSem nD τ sig → ℕ) (ν : SK → ℕ) : iprop(known m κ ν ∗ levAts L lv) ⊢ recs m κ ν := by
  unfold known recs
  iintro ⟨⟨H, H'⟩, Hl⟩
  isplitl [H]; · iexact H
  isplitl [H']; · iexact H'
  iexact Hl

def G' (c : Dev nD) : sProp 𝕄 := iprop(∃ κ ν, known m κ ν ∗ ghost c)

theorem spread_one (κ : GSem nD τ sig → ℕ) (ν : SK → ℕ) (c : Dev nD) : iprop(known m κ ν ∗ ghost c) ⊢ G' m c := by
  unfold G'
  iintro H
  iexists κ; iexists ν
  iexact H
theorem spread (κ : GSem nD τ sig → ℕ) (ν : SK → ℕ) : iprop(known m κ ν ∗ bigSep Finset.univ fun c => ghost c) ⊢ bigSep Finset.univ (G' m) := by
  refine (sep_mono_left (BI.bigSep_of_persistent (Finset.univ : Finset (Dev nD)) (known m κ ν))).trans ?_
  rw [← bigSep_sep']
  exact bigSep_mono fun c _ => spread_one m κ ν c

theorem alloc : iprop((bigSep Finset.univ fun c => cellsV c) ∗ BI.own (EB uB))
    ⊢ |={Set.univ}=> ∃ κ ν, known m κ ν ∗ (bigSep Finset.univ fun c => dealt c) ∗ (bigSep Finset.univ fun c => places c) ∗ bigSep Finset.univ fun c => readers c := by
  iintro ⟨Hv, Hu⟩
  ihave Hu := (G_open (F := F)) $$ Hu
  icases Hu with ⟨Hu, Hs⟩
  imod (Rounds.fund ER (Rd m) ringCells ringToks) $$ Hu with ⟨Hst, Hre, Hat, Htok⟩
  have ev : (bigSep Finset.univ fun c => cellsV c : sProp 𝕄) ⊢ bigSep ringCells fun g => semVal g 0 := by
    rw [cells_eq, bigSep_univ_prod]; exact Entails.refl _
  ihave Hv := ev $$ Hv
  ihave Hb := (Rounds.bodies_intro ER (Rd m) ringCells) $$ [Hv Hst]
  · isplitl [Hv]; · iexact Hv
    iexact Hst
  imod (inv_alloc_family ringCells (Rounds.body ER (Rd m)) ∅ (E := Set.univ)) $$ Hb with ⟨%κ, -, Hinv⟩
  imod (slots_init ES (Finset.univ : Finset SK) 3 (fun x => slotS (F := F) x) ∅ (Es := Set.univ)) $$ Hs with ⟨%ν, -, Hsl, Hrd, Hwr⟩
  imodintro
  iexists κ; iexists ν
  isplitl [Hinv Hre Hsl]
  · unfold known
    isplitl [Hinv Hre]
    · have e : iprop((bigSep ringCells fun g => inv (κ g) (Rounds.body ER (Rd m) g)) ∗ bigSep ringCells fun g => reached ER g 0)
          ⊢ bigSep Finset.univ fun x : Dev nD × CK => iprop(cellInv ER (Rd m) (κ (cellX x)) (cellX x) ∗ reached ER (cellX x) 0) := by
        rw [cells_eq, cells_eq, ← bigSep_sep']
      iapply e
      isplitl [Hinv]; · iexact Hinv
      iexact Hre
    iexact Hsl
  isplitl [Htok Hwr]
  · iapply (deal_all (F := F))
    isplitl [Htok]
    · iapply (Entails.of_eq (toks_eq (F := F))); iexact Htok
    iexact Hwr
  isplitl [Hat]
  · have e : (bigSep ringCells fun g => atPos ER g 0 ∅ 0 : sProp 𝕄) ⊢ bigSep Finset.univ fun c => places c := by
      rw [cells_eq, bigSep_univ_prod]; exact Entails.refl _
    iapply e; iexact Hat
  have e : (bigSep Finset.univ fun x : SK => readerAt ES x 0 : sProp 𝕄) ⊢ bigSep Finset.univ fun c => readers c := by
    rw [bigSep_univ_prod]; exact Entails.refl _
  iapply e; iexact Hrd

theorem glob : (bigSep Finset.univ fun c => iprop(Pipeline.ownSems0 (Ix := ℕ) (Name := ℕ) (U := UU) (Lvl := ℕ) (Val := Elt F) (τ := τ) osem c ∗ unscopedSems0 c ∗ G c) : sProp 𝕄)
    ⊢ |={Set.univ}=> bigSep Finset.univ (G' m) := by
  have h : ∀ c : Dev nD, (iprop(Pipeline.ownSems0 (Ix := ℕ) (Name := ℕ) (U := UU) (Lvl := ℕ) (Val := Elt F) (τ := τ) osem c ∗ unscopedSems0 c ∗ G c) : sProp 𝕄)
      ⊢ iprop((cellsV c ∗ (convV c 0 ∗ convV c 1) ∗ bigSep Finset.univ (outV c)) ∗ G c) := fun c => by
    iintro ⟨H, H', HG⟩
    isplitr [HG]
    · iapply (sems_in c); isplitl [H]; · iexact H
      iexact H'
    iexact HG
  refine (bigSep_mono fun c _ => h c).trans ?_
  rw [bigSep_sep', bigSep_sep']
  show iprop(((bigSep Finset.univ fun c => cellsV c) ∗ bigSep Finset.univ fun c => iprop((convV c 0 ∗ convV c 1) ∗ bigSep Finset.univ (outV (F := F) c)))
      ∗ bigSep Finset.univ (G (F := F))) ⊢ _
  iintro ⟨⟨Hv, Hco⟩, HG⟩
  ihave HG := (bigSep_at (F := F) (Finset.mem_univ (0 : Dev nD)) (Φ := G (F := F))) $$ HG
  have eG : G (F := F) 0 ⊢ BI.own (EB uB) := Entails.of_eq (if_pos rfl)
  ihave HG := eG $$ HG
  imod (alloc m) $$ [Hv HG] with ⟨%κ, %ν, Hk, Hd, Hp, Hrd⟩
  · isplitl [Hv]; · iexact Hv
    iexact HG
  imodintro
  iapply (spread m κ ν)
  isplitl [Hk]; · iexact Hk
  have e : iprop((bigSep Finset.univ fun c => dealt c) ∗ (bigSep Finset.univ fun c => places c) ∗ (bigSep Finset.univ fun c => readers c)
      ∗ bigSep Finset.univ fun c => iprop((convV c 0 ∗ convV c 1) ∗ bigSep Finset.univ (outV (F := F) c))) ⊢ (bigSep Finset.univ fun c => ghost c : sProp 𝕄) := by
    unfold ghost
    simp only [bigSep_sep']
    exact Entails.refl _
  iapply e
  isplitl [Hd]; · iexact Hd
  isplitl [Hp]; · iexact Hp
  isplitl [Hrd]; · iexact Hrd
  iexact Hco

end Glob

end Cert.KernelIdeal.Ring

end
-- ==== Proof.Credits.lean ====
/- The launch's credits: what a device owes at launch is a credit to the device it owes it to. -/
module

public import proofs.«01_k».proof.Proof.Own

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

section Credits
omit [FloatOps F]
variable (c : Dev nD)

/-- A family handed over along an injection. -/
theorem regroup {J : Type} [DecidableEq J] (s : Finset J) (t : Finset ℕ) (f : J → ℕ) (hi : Set.InjOn f s) (hm : ∀ j ∈ s, f j ∈ t) (Φ : ℕ → sProp 𝕄) :
    (bigSep t Φ : sProp 𝕄) ⊢ bigSep s fun j => Φ (f j) := by
  rw [← SparseCore.bigSep_image_of_injOn hi Φ]
  exact bigSep_subset (Finset.image_subset_iff.mpr hm)

def posOf (y : KB × ℕ) : ℕ := 8 * y.2 + 2 * y.1.2.val + y.1.1.val
theorem posOf_inj (s : Set (KB × ℕ)) : Set.InjOn posOf s := fun y _ z _ h => by
  obtain ⟨⟨k, b⟩, u⟩ := y
  obtain ⟨⟨k', b'⟩, u'⟩ := z
  unfold posOf at h
  dsimp only at h
  have e1 : k = k' := Fin.ext (by omega)
  have e2 : b = b' := Fin.ext (by omega)
  have e3 : u = u' := by omega
  rw [e1, e2, e3]
def credOf (y : Fin 2 × ℕ) : ℕ := 2 * y.2 + y.1.val
theorem credOf_inj (s : Set (Fin 2 × ℕ)) : Set.InjOn credOf s := fun y _ z _ h => by
  obtain ⟨k, u⟩ := y
  obtain ⟨k', u'⟩ := z
  unfold credOf at h
  dsimp only at h
  have e1 : k = k' := Fin.ext (by omega)
  have e3 : u = u' := by omega
  rw [e1, e3]

theorem sends_cred : (Pipeline.launchCred (fun d => owedS d 0) c : sProp 𝕄) ⊢ bigSep Finset.univ fun x : KB => bigSep (Finset.Ico 0 6) (recvCred c x.1 x.2) := by
  unfold owedS
  rw [Pipeline.launchCred_sum]
  have h1 : ∀ i, (Pipeline.launchCred (fun d => sendTally d i) c : sProp 𝕄)
      ⊢ cred (tallyAt (recvCell c (kOf i) (par (i / 8 + 1)) (bOf i)) (2 * i + 2) N) := fun i =>
    Pipeline.launchCred_tallyAt (.dma (recvSem (kOf i) (par (i / 8 + 1)) (bOf i))) (fun d => nxt d (kOf i)) (fun d => prv d (kOf i))
      (fun d => nxt_prv d _) (fun d => prv_nxt d _) _ _ c
  refine (bigSep_mono fun i _ => h1 i).trans ?_
  refine (regroup (Finset.univ ×ˢ Finset.Ico 0 6) (Finset.Ico 0 48) posOf (posOf_inj _) (fun y hy => ?_) _).trans ?_
  · have := (Finset.mem_Ico.mp (Finset.mem_product.mp hy).2).2
    have := y.1.2.isLt; have := y.1.1.isLt
    unfold posOf; rw [Finset.mem_Ico]; omega
  rw [SparseCore.bigSep_product]
  refine bigSep_mono fun x _ => bigSep_mono fun u _ => ?_
  have e1 : kOf (posOf (x, u)) = x.1 := Fin.ext (by show (8 * u + 2 * x.2.val + x.1.val) % 2 = x.1.val; omega)
  have e2 : bOf (posOf (x, u)) = x.2 := Fin.ext (by show (8 * u + 2 * x.2.val + x.1.val) % 8 / 2 = x.2.val; omega)
  have e3 : posOf (x, u) / 8 = u := by show (8 * u + 2 * x.2.val + x.1.val) / 8 = u; omega
  rw [e1, e2, e3]
  exact Entails.refl _

theorem creds_cred : (Pipeline.launchCred (fun d => owedC d 0) c : sProp 𝕄) ⊢ bigSep Finset.univ fun k : Fin 2 => bigSep (Finset.Ico 0 24) (credCred c k) := by
  unfold owedC
  rw [Pipeline.launchCred_sum]
  have h1 : ∀ i, (Pipeline.launchCred (fun d => credTally d i) c : sProp 𝕄) ⊢ cred (tallyAt (credCell c (kOf i)) (2 * i + 3) 1) := fun i =>
    Pipeline.launchCred_tallyAt (.reg (credSem (kOf i))) (fun d => prv d (kOf i)) (fun d => nxt d (kOf i))
      (fun d => prv_nxt d _) (fun d => nxt_prv d _) _ _ c
  refine (bigSep_mono fun i _ => h1 i).trans ?_
  refine (regroup (Finset.univ ×ˢ Finset.Ico 0 24) (Finset.Ico 0 48) credOf (credOf_inj _) (fun y hy => ?_) _).trans ?_
  · have := (Finset.mem_Ico.mp (Finset.mem_product.mp hy).2).2
    have := y.1.isLt
    unfold credOf; rw [Finset.mem_Ico]; omega
  rw [SparseCore.bigSep_product]
  refine bigSep_mono fun k _ => bigSep_mono fun u _ => ?_
  have e1 : kOf (credOf (k, u)) = k := Fin.ext (by show (2 * u + k.val) % 2 = k.val; omega)
  rw [e1]
  exact Entails.refl _

theorem bar_cred (k k' : Fin 2) (h : ∀ d, nxt (nxt d k') k = d) (h' : ∀ d, nxt (nxt d k) k' = d) :
    (Pipeline.launchCred (fun d => barTally d k) c : sProp 𝕄) ⊢ cred (tallyAt (barCell c) 1 1) :=
  Pipeline.launchCred_tallyAt (.reg barSem) (fun d => nxt d k) (fun d => nxt d k') h h' _ _ c

/-- A device's credits at launch. -/
def credits : sProp 𝕄 := iprop(cred (tallyAt (barCell c) 1 2) ∗ (bigSep Finset.univ fun x : KB => bigSep (Finset.Ico 0 6) (recvCred c x.1 x.2))
  ∗ bigSep Finset.univ fun k : Fin 2 => bigSep (Finset.Ico 0 24) (credCred c k))

theorem launch_credits : (Pipeline.launchCred O₀ c : sProp 𝕄) ⊢ credits c := by
  show (Pipeline.launchCred (fun d => owedS d 0 + owedC d 0 + barTally d 1 + barTally d 0) c : sProp 𝕄) ⊢ credits c
  rw [Pipeline.launchCred_add (fun d => owedS d 0 + owedC d 0 + barTally d 1) (fun d => barTally d 0),
    Pipeline.launchCred_add (fun d => owedS d 0 + owedC d 0) (fun d => barTally d 1), Pipeline.launchCred_add (fun d => owedS d 0) (fun d => owedC d 0)]
  show iprop(((Pipeline.launchCred (fun d => owedS d 0) c ∗ Pipeline.launchCred (fun d => owedC d 0) c) ∗ Pipeline.launchCred (fun d => barTally d 1) c)
    ∗ Pipeline.launchCred (fun d => barTally d 0) c) ⊢ _
  unfold credits
  iintro ⟨⟨⟨HS, HC⟩, H1⟩, H0⟩
  isplitl [H1 H0]
  · rw [show tallyAt (barCell c) 1 2 = tallyAt (barCell c) 1 1 + tallyAt (barCell c) 1 1 from (tallyAt_add (barCell c) 1 1 1).symm]
    iapply (cred_add _ _).2
    isplitl [H1]
    · iapply (bar_cred c 1 0 (by decide) (by decide)); iexact H1
    iapply (bar_cred c 0 1 (by decide) (by decide)); iexact H0
  isplitl [HS]
  · iapply (sends_cred c); iexact HS
  iapply (creds_cred c); iexact HC

end Credits

end Cert.KernelIdeal.Ring

end
-- ==== Proof.Regions.lean ====
/- The buffers cut into the pieces the rings work on, and put together again. -/
module

public import proofs.«01_k».proof.Proof.Credits
public import Idealize.ShloMosaic.Lib.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (c : Dev nD)

/-! ## The ring buffer: sixteen blocks -/

theorem mem_blk (k s : Fin 2) (b : Fin 4) (i : S2x2x1024x4096.Idx) :
    i ∈ (vBlk k s b).view.set ↔ (i (0 : Fin 4)).val = k.val ∧ (i (1 : Fin 4)).val = s.val ∧ (i (2 : Fin 4)).val / 256 = b.val := by
  rw [View.set_reshape, View.set_slice_whole, Rect.mem_set_unit]
  have h3 : (i (3 : Fin 4)).val < 4096 := (i (3 : Fin 4)).isLt
  constructor
  · intro h
    have a0 : k.val ≤ (i (0 : Fin 4)).val ∧ (i (0 : Fin 4)).val < k.val + 1 := h 0
    have a1 : s.val ≤ (i (1 : Fin 4)).val ∧ (i (1 : Fin 4)).val < s.val + 1 := h 1
    have a2 : b.val * 256 ≤ (i (2 : Fin 4)).val ∧ (i (2 : Fin 4)).val < b.val * 256 + 256 := h 2
    omega
  · rintro ⟨h0, h1, h2⟩ a
    match a with
    | ⟨0, _⟩ => exact ⟨le_of_eq h0.symm, by show (i (0 : Fin 4)).val < k.val + 1; omega⟩
    | ⟨1, _⟩ => exact ⟨le_of_eq h1.symm, by show (i (1 : Fin 4)).val < s.val + 1; omega⟩
    | ⟨2, _⟩ => exact ⟨by show b.val * 256 ≤ (i (2 : Fin 4)).val; omega, by show (i (2 : Fin 4)).val < b.val * 256 + 256; omega⟩
    | ⟨3, _⟩ => exact ⟨Nat.zero_le _, by show (i (3 : Fin 4)).val < 0 + 4096; omega⟩

/-- The elements of a block of the ring buffer. -/
def blkSet (x : KSB) : Finset S2x2x1024x4096.Idx := (vBlk x.1 x.2.1 x.2.2).view.set
theorem blk_disj (x y : KSB) (h : x ≠ y) : Disjoint (blkSet x) (blkSet y) := Finset.disjoint_left.mpr fun i hi hj => by
  obtain ⟨h0, h1, h2⟩ := (mem_blk _ _ _ i).mp hi
  obtain ⟨g0, g1, g2⟩ := (mem_blk _ _ _ i).mp hj
  exact h (Prod.ext (Fin.ext (h0.symm.trans g0)) (Prod.ext (Fin.ext (h1.symm.trans g1)) (Fin.ext (h2.symm.trans g2))))
theorem blk_cover : (Finset.univ : Finset KSB).biUnion blkSet = Finset.univ := Finset.eq_univ_iff_forall.mpr fun i => by
  have h2 : (i (2 : Fin 4)).val < 1024 := (i (2 : Fin 4)).isLt
  have hb : (i (2 : Fin 4)).val / 256 < 4 := by omega
  exact Finset.mem_biUnion.mpr ⟨(⟨(i (0 : Fin 4)).val, (i (0 : Fin 4)).isLt⟩, ⟨(i (1 : Fin 4)).val, (i (1 : Fin 4)).isLt⟩, ⟨(i (2 : Fin 4)).val / 256, hb⟩),
    Finset.mem_univ _, (mem_blk ⟨(i (0 : Fin 4)).val, (i (0 : Fin 4)).isLt⟩ ⟨(i (1 : Fin 4)).val, (i (1 : Fin 4)).isLt⟩ ⟨(i (2 : Fin 4)).val / 256, hb⟩ i).mpr ⟨rfl, rfl, rfl⟩⟩

theorem ring_split (f : Buf (Elt F) ((c : Thread nD τ).loc cc0_scratch0)) :
    (((c : Thread nD τ).loc cc0_scratch0) ↦{fullShare} f : sProp 𝕄) ⊢ bigSep Finset.univ fun x : KSB => slotS (c, x) := by
  rw [Idealize.ShloMosaic.Ring.pointsTo_blocks (ℓ := (c : Thread nD τ).loc cc0_scratch0) blkSet blk_disj blk_cover f]
  refine bigSep_mono fun x _ => ?_
  unfold slotS
  show slotP c x.1 x.2.1 x.2.2 fullShare f ⊢ _
  iintro H
  iexists f
  iexact H
theorem ring_unsplit (f₀ : Buf (Elt F) ((c : Thread nD τ).loc cc0_scratch0)) :
    (bigSep Finset.univ fun x : KSB => slotS (c, x) : sProp 𝕄) ⊢ iprop(∃ f : Buf (Elt F) ((c : Thread nD τ).loc cc0_scratch0), ((c : Thread nD τ).loc cc0_scratch0) ↦{fullShare} f) :=
  Idealize.ShloMosaic.Ring.pointsTo_blocks_join_exists (ℓ := (c : Thread nD τ).loc cc0_scratch0) blkSet blk_disj blk_cover f₀

/-! ## The staging buffers: two slots each -/

theorem mem_cstage (s : Fin 2) (i : S2x512x1024.Idx) : i ∈ (vC s).view.set ↔ (i (0 : Fin 3)).val = s.val := by
  rw [View.set_reshape, View.set_slice_whole, Rect.mem_set_unit]
  constructor
  · intro h
    have a0 : s.val ≤ (i (0 : Fin 3)).val ∧ (i (0 : Fin 3)).val < s.val + 1 := h 0
    omega
  · intro h0 a
    match a with
    | ⟨0, _⟩ => exact ⟨le_of_eq h0.symm, by show (i (0 : Fin 3)).val < s.val + 1; omega⟩
    | ⟨1, _⟩ => exact ⟨Nat.zero_le _, by have := (i (1 : Fin 3)).isLt
                                         show (i (1 : Fin 3)).val < 0 + 512; rw [Nat.zero_add]; exact this⟩
    | ⟨2, _⟩ => exact ⟨Nat.zero_le _, by have := (i (2 : Fin 3)).isLt
                                         show (i (2 : Fin 3)).val < 0 + 1024; rw [Nat.zero_add]; exact this⟩
theorem mem_ostage (s : Fin 2) (i : S2x256x1024.Idx) : i ∈ (vO s).view.set ↔ (i (0 : Fin 3)).val = s.val := by
  rw [View.set_reshape, View.set_slice_whole, Rect.mem_set_unit]
  constructor
  · intro h
    have a0 : s.val ≤ (i (0 : Fin 3)).val ∧ (i (0 : Fin 3)).val < s.val + 1 := h 0
    omega
  · intro h0 a
    match a with
    | ⟨0, _⟩ => exact ⟨le_of_eq h0.symm, by show (i (0 : Fin 3)).val < s.val + 1; omega⟩
    | ⟨1, _⟩ => exact ⟨Nat.zero_le _, by have := (i (1 : Fin 3)).isLt
                                         show (i (1 : Fin 3)).val < 0 + 256; rw [Nat.zero_add]; exact this⟩
    | ⟨2, _⟩ => exact ⟨Nat.zero_le _, by have := (i (2 : Fin 3)).isLt
                                         show (i (2 : Fin 3)).val < 0 + 1024; rw [Nat.zero_add]; exact this⟩

def cSet (s : Fin 2) : Finset S2x512x1024.Idx := (vC s).view.set
def oSet (s : Fin 2) : Finset S2x256x1024.Idx := (vO s).view.set
theorem c_disj (x y : Fin 2) (h : x ≠ y) : Disjoint (cSet x) (cSet y) := Finset.disjoint_left.mpr fun i hi hj =>
  h (Fin.ext (((mem_cstage _ i).mp hi).symm.trans ((mem_cstage _ i).mp hj)))
theorem o_disj (x y : Fin 2) (h : x ≠ y) : Disjoint (oSet x) (oSet y) := Finset.disjoint_left.mpr fun i hi hj =>
  h (Fin.ext (((mem_ostage _ i).mp hi).symm.trans ((mem_ostage _ i).mp hj)))
theorem c_cover : (Finset.univ : Finset (Fin 2)).biUnion cSet = Finset.univ := Finset.eq_univ_iff_forall.mpr fun i =>
  Finset.mem_biUnion.mpr ⟨⟨(i (0 : Fin 3)).val, (i (0 : Fin 3)).isLt⟩, Finset.mem_univ _, (mem_cstage _ i).mpr rfl⟩
theorem o_cover : (Finset.univ : Finset (Fin 2)).biUnion oSet = Finset.univ := Finset.eq_univ_iff_forall.mpr fun i =>
  Finset.mem_biUnion.mpr ⟨⟨(i (0 : Fin 3)).val, (i (0 : Fin 3)).isLt⟩, Finset.mem_univ _, (mem_ostage _ i).mpr rfl⟩

theorem cstage_split (f : Buf (Elt F) ((c : Thread nD τ).loc cc0_scratch3)) :
    (((c : Thread nD τ).loc cc0_scratch3) ↦{fullShare} f : sProp 𝕄) ⊢ iprop((∃ fc, cP c 0 fc) ∗ ∃ fc, cP c 1 fc) := by
  rw [Idealize.ShloMosaic.Ring.pointsTo_blocks (ℓ := (c : Thread nD τ).loc cc0_scratch3) cSet c_disj c_cover f, both]
  show iprop(cP c 0 f ∗ cP c 1 f) ⊢ _
  iintro ⟨H, H'⟩
  isplitl [H]
  · iexists f; iexact H
  iexists f; iexact H'
theorem cstage_unsplit (f₀ : Buf (Elt F) ((c : Thread nD τ).loc cc0_scratch3)) :
    (iprop((∃ fc, cP c 0 fc) ∗ ∃ fc, cP c 1 fc) : sProp 𝕄) ⊢ iprop(∃ f : Buf (Elt F) ((c : Thread nD τ).loc cc0_scratch3), ((c : Thread nD τ).loc cc0_scratch3) ↦{fullShare} f) :=
  (Entails.of_eq (both (fun s => iprop(∃ fc, cP (F := F) c s fc))).symm).trans
    (Idealize.ShloMosaic.Ring.pointsTo_blocks_join_exists (ℓ := (c : Thread nD τ).loc cc0_scratch3) cSet c_disj c_cover f₀)
theorem ostage_split (f : Buf (Elt F) ((c : Thread nD τ).loc cc0_scratch4)) :
    (((c : Thread nD τ).loc cc0_scratch4) ↦{fullShare} f : sProp 𝕄) ⊢ bigSep Finset.univ fun k => iprop(∃ fo, oP c k fo) := by
  rw [Idealize.ShloMosaic.Ring.pointsTo_blocks (ℓ := (c : Thread nD τ).loc cc0_scratch4) oSet o_disj o_cover f]
  refine bigSep_mono fun k _ => ?_
  show oP c k f ⊢ _
  iintro H
  iexists f
  iexact H
theorem ostage_unsplit (f₀ : Buf (Elt F) ((c : Thread nD τ).loc cc0_scratch4)) :
    (bigSep Finset.univ fun k => iprop(∃ fo, oP c k fo) : sProp 𝕄) ⊢ iprop(∃ f : Buf (Elt F) ((c : Thread nD τ).loc cc0_scratch4), ((c : Thread nD τ).loc cc0_scratch4) ↦{fullShare} f) :=
  Idealize.ShloMosaic.Ring.pointsTo_blocks_join_exists (ℓ := (c : Thread nD τ).loc cc0_scratch4) oSet o_disj o_cover f₀

/-! ## The result: 128 tiles -/

theorem eOff_eq (k : Fin 2) {e : ℕ} (he : e < 64) :
    eOff c k e = ![chunkAt c k (eT e + 1) * 1024 + (eB e).val * 256, k.val * 4096 + (j4 e).val * 1024] :=
  outOff_eq4 c k ⟨eT e, by show 2 + e / 16 < 6; omega⟩ (by show 2 ≤ 2 + e / 16; omega) (eB e) (j4 e)

theorem mem_tile (k : Fin 2) {e : ℕ} (he : e < 64) (i : S4096x8192.Idx) :
    i ∈ (vTile c k e).view.set ↔ (i (0 : Fin 2)).val / 1024 = chunkAt c k (eT e + 1) ∧ (i (0 : Fin 2)).val % 1024 / 256 = (eB e).val
      ∧ (i (1 : Fin 2)).val / 4096 = k.val ∧ (i (1 : Fin 2)).val % 4096 / 1024 = (j4 e).val := by
  rw [View.set_slice_whole, Rect.mem_set_unit, eOff_eq c k he]
  have hc : chunkAt c k (eT e + 1) < 4 := Nat.mod_lt _ (by decide)
  have hb := (eB e).isLt
  have hj := (j4 e).isLt
  constructor
  · intro h
    have a0 : chunkAt c k (eT e + 1) * 1024 + (eB e).val * 256 ≤ (i (0 : Fin 2)).val
      ∧ (i (0 : Fin 2)).val < chunkAt c k (eT e + 1) * 1024 + (eB e).val * 256 + 256 := h 0
    have a1 : k.val * 4096 + (j4 e).val * 1024 ≤ (i (1 : Fin 2)).val ∧ (i (1 : Fin 2)).val < k.val * 4096 + (j4 e).val * 1024 + 1024 := h 1
    omega
  · rintro ⟨h0, h1, h2, h3⟩ a
    match a with
    | ⟨0, _⟩ =>
      show chunkAt c k (eT e + 1) * 1024 + (eB e).val * 256 ≤ (i (0 : Fin 2)).val
        ∧ (i (0 : Fin 2)).val < chunkAt c k (eT e + 1) * 1024 + (eB e).val * 256 + 256
      omega
    | ⟨1, _⟩ =>
      show k.val * 4096 + (j4 e).val * 1024 ≤ (i (1 : Fin 2)).val ∧ (i (1 : Fin 2)).val < k.val * 4096 + (j4 e).val * 1024 + 1024
      omega

theorem chunk_inj : ∀ (k : Fin 2) (t u : Fin 4), chunkAt c k (2 + t.val + 1) = chunkAt c k (2 + u.val + 1) → t = u := by
  revert c; decide +kernel
theorem chunk_surj : ∀ (k : Fin 2) (h : Fin 4), ∃ t : Fin 4, chunkAt c k (2 + t.val + 1) = h.val := by
  revert c; decide +kernel

/-- The elements of tile `e` of ring `k`. -/
def tileSet (x : Fin 2 × ℕ) : Finset S4096x8192.Idx := (vTile c x.1 x.2).view.set
def allTiles : Finset (Fin 2 × ℕ) := Finset.univ ×ˢ Finset.Ico 0 64
theorem mem_allTiles {x : Fin 2 × ℕ} (h : x ∈ allTiles) : x.2 < 64 := (Finset.mem_Ico.mp (Finset.mem_product.mp h).2).2
theorem tile_disj (x : Fin 2 × ℕ) (hx : x ∈ allTiles) (y : Fin 2 × ℕ) (hy : y ∈ allTiles) (h : x ≠ y) : Disjoint (tileSet c x) (tileSet c y) :=
  Finset.disjoint_left.mpr fun i hi hj => by
    have lx := mem_allTiles hx
    have ly := mem_allTiles hy
    obtain ⟨h0, h1, h2, h3⟩ := (mem_tile c x.1 lx i).mp hi
    obtain ⟨g0, g1, g2, g3⟩ := (mem_tile c y.1 ly i).mp hj
    have ek : x.1 = y.1 := Fin.ext (h2.symm.trans g2)
    rw [← ek] at g0
    have et := chunk_inj c x.1 ⟨x.2 / 16, by omega⟩ ⟨y.2 / 16, by omega⟩ (h0.symm.trans g0)
    have et' : x.2 / 16 = y.2 / 16 := congrArg Fin.val et
    have eb : x.2 % 16 / 4 = y.2 % 16 / 4 := h1.symm.trans g1
    have ej : x.2 % 4 = y.2 % 4 := h3.symm.trans g3
    exact h (Prod.ext ek (by omega))
theorem tile_cover : allTiles.biUnion (tileSet c) = Finset.univ := Finset.eq_univ_iff_forall.mpr fun i => by
  have h0 : (i (0 : Fin 2)).val < 4096 := (i (0 : Fin 2)).isLt
  have h1 : (i (1 : Fin 2)).val < 8192 := (i (1 : Fin 2)).isLt
  obtain ⟨t, ht⟩ := chunk_surj c ⟨(i (1 : Fin 2)).val / 4096, by omega⟩ ⟨(i (0 : Fin 2)).val / 1024, by omega⟩
  have htl := t.isLt
  have hk : (i (1 : Fin 2)).val / 4096 < 2 := by omega
  have he : t.val * 16 + (i (0 : Fin 2)).val % 1024 / 256 * 4 + (i (1 : Fin 2)).val % 4096 / 1024 < 64 := by omega
  refine Finset.mem_biUnion.mpr ⟨(⟨(i (1 : Fin 2)).val / 4096, hk⟩, t.val * 16 + (i (0 : Fin 2)).val % 1024 / 256 * 4 + (i (1 : Fin 2)).val % 4096 / 1024),
    Finset.mem_product.mpr ⟨Finset.mem_univ _, Finset.mem_Ico.mpr ⟨Nat.zero_le _, he⟩⟩, (mem_tile c ⟨(i (1 : Fin 2)).val / 4096, hk⟩ he i).mpr ⟨?_, ?_, rfl, ?_⟩⟩
  · have e : eT (t.val * 16 + (i (0 : Fin 2)).val % 1024 / 256 * 4 + (i (1 : Fin 2)).val % 4096 / 1024) = 2 + t.val := by
      show 2 + (t.val * 16 + (i (0 : Fin 2)).val % 1024 / 256 * 4 + (i (1 : Fin 2)).val % 4096 / 1024) / 16 = _; omega
    rw [e]; exact ht.symm
  · show _ = (t.val * 16 + (i (0 : Fin 2)).val % 1024 / 256 * 4 + (i (1 : Fin 2)).val % 4096 / 1024) % 16 / 4; omega
  · show _ = (t.val * 16 + (i (0 : Fin 2)).val % 1024 / 256 * 4 + (i (1 : Fin 2)).val % 4096 / 1024) % 4; omega

theorem out_split (f : Buf (Elt F) ((c : Thread nD τ).loc main_v1)) :
    (((c : Thread nD τ).loc main_v1) ↦{fullShare} f : sProp 𝕄) = bigSep Finset.univ fun k : Fin 2 => bigSep (Finset.Ico 0 64) fun e => tileP c k e f := by
  have h := pointsTo_biUnion (Ix := ℕ) (Val := Elt F) (Name := ℕ) (U := UU) (Lvl := ℕ) (ℓ := (c : Thread nD τ).loc main_v1) (q := fullShare) (f := f) allTiles (tileSet c) (tile_disj c)
  rw [tile_cover] at h
  rw [h]
  unfold allTiles
  rw [SparseCore.bigSep_product]
  rfl
theorem out_todo (f : Buf (Elt F) ((c : Thread nD τ).loc main_v1)) :
    (((c : Thread nD τ).loc main_v1) ↦{fullShare} f : sProp 𝕄) ⊢ bigSep Finset.univ fun k : Fin 2 => tilesTodo c k 0 := by
  rw [out_split]
  refine bigSep_mono fun k _ => bigSep_mono fun e _ => ?_
  show tileP c k e f ⊢ _
  iintro H
  iexists f
  iexact H
variable (m : (ℓ : Loc nD τ sig) → Buf (Elt F) ℓ)
theorem out_done (sc : F .f32) : (bigSep Finset.univ fun k : Fin 2 => tilesDone m c sc k 64 : sProp 𝕄)
    ⊢ ((c : Thread nD τ).loc main_v1) ↦{fullShare} outFull m sc c := by
  rw [out_split]
  unfold tilesDone
  rw [Finset.range_eq_Ico]

/-! ## The arguments: two shares -/

theorem xSrc_left : (xSrc m c 0 : sProp 𝕄) = (((c : Thread nD τ).loc main_arg0) ↦{fullShare.left} m ((c : Thread nD τ).loc main_arg0)) := rfl
theorem xSrc_right : (xSrc m c 1 : sProp 𝕄) = (((c : Thread nD τ).loc main_arg0) ↦{fullShare.right} m ((c : Thread nD τ).loc main_arg0)) := rfl
theorem wSrc_left : (wSrc m c 0 : sProp 𝕄) = (((c : Thread nD τ).loc main_arg1) ↦{fullShare.left} m ((c : Thread nD τ).loc main_arg1)) := rfl
theorem wSrc_right : (wSrc m c 1 : sProp 𝕄) = (((c : Thread nD τ).loc main_arg1) ↦{fullShare.right} m ((c : Thread nD τ).loc main_arg1)) := rfl
theorem src_shares : (iprop((((c : Thread nD τ).loc main_arg0) ↦{fullShare} m ((c : Thread nD τ).loc main_arg0))
      ∗ ((c : Thread nD τ).loc main_arg1) ↦{fullShare} m ((c : Thread nD τ).loc main_arg1)) : sProp 𝕄)
    ⊣⊢ iprop((xSrc m c 0 ∗ wSrc m c 0) ∗ xSrc m c 1 ∗ wSrc m c 1) := by
  rw [xSrc_left, xSrc_right, wSrc_left, wSrc_right]
  have hx := pointsTo_share (Ix := ℕ) (Val := Elt F) (Name := ℕ) (U := UU) (Lvl := ℕ) (ℓ := (c : Thread nD τ).loc main_arg0) (I := Finset.univ) (f := m ((c : Thread nD τ).loc main_arg0)) (PosShare.mem_left_op_right fullShare)
  have hw := pointsTo_share (Ix := ℕ) (Val := Elt F) (Name := ℕ) (U := UU) (Lvl := ℕ) (ℓ := (c : Thread nD τ).loc main_arg1) (I := Finset.univ) (f := m ((c : Thread nD τ).loc main_arg1)) (PosShare.mem_left_op_right fullShare)
  constructor
  · iintro ⟨Hx, Hw⟩
    ihave Hx := hx.1 $$ Hx
    ihave Hw := hw.1 $$ Hw
    icases Hx with ⟨X0, X1⟩
    icases Hw with ⟨W0, W1⟩
    isplitl [X0 W0]
    · isplitl [X0]; · iexact X0
      iexact W0
    isplitl [X1]; · iexact X1
    iexact W1
  · iintro ⟨⟨X0, W0⟩, X1, W1⟩
    isplitl [X0 X1]
    · iapply hx.2; isplitl [X0]; · iexact X0
      iexact X1
    iapply hw.2; isplitl [W0]; · iexact W0
    iexact W1

end Cert.KernelIdeal.Ring

end
-- ==== Proof.Enter.lean ====
/- What a device holds at launch, dealt to the barrier, the blocks and the rings. -/
module

public import proofs.«01_k».proof.Proof.Regions

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ) (ν : SK → ℕ) (c : Dev nD)

/-- A place at round 0, with the record that the round was reached. -/
theorem posS_zero (k s : Fin 2) (b : Fin 4) : iprop(recs m κ ν ∗ atPos ER (sendCell c k s b) 0 ∅ 0) ⊢ posS c k s b 0 := by
  unfold posS
  iintro ⟨#Hr, H⟩
  isplitl [H]; · iexact H
  ihave Hc := (recs_cell m κ ν (c, .send k s b)) $$ Hr
  icases Hc with ⟨-, Hc⟩
  iexact Hc
theorem posR_zero (k s : Fin 2) (b : Fin 4) : iprop(recs m κ ν ∗ atPos ER (recvCell c k s b) 0 ∅ 0) ⊢ posR c k s b 0 := by
  unfold posR
  iintro ⟨#Hr, H⟩
  isplitl [H]; · iexact H
  ihave Hc := (recs_cell m κ ν (c, .recv k s b)) $$ Hr
  icases Hc with ⟨-, Hc⟩
  iexact Hc

/-- What is dealt to a block: six parts, over all blocks. -/
def laneParts (x : KB) : sProp 𝕄 :=
  iprop((bigSep (Finset.Ico 0 6) (sendTok c x.1 x.2)) ∗ (bigSep (Finset.Ico 0 6) (recvCred c x.1 x.2))
    ∗ (atPos ER (sendCell c x.1 0 x.2) 0 ∅ 0 ∗ atPos ER (sendCell c x.1 1 x.2) 0 ∅ 0)
    ∗ (atPos ER (recvCell c x.1 0 x.2) 0 ∅ 0 ∗ atPos ER (recvCell c x.1 1 x.2) 0 ∅ 0)
    ∗ (readerAt ES (c, x.1, 0, x.2) 0 ∗ readerAt ES (c, x.1, 1, x.2) 0) ∗ slotS (c, x.1, 0, x.2) ∗ slotS (c, x.1, 1, x.2))
theorem lane_in (x : KB) : iprop(recs m κ ν ∗ laneParts c x) ⊢ laneIn c x := by
  unfold laneParts laneIn
  iintro ⟨#Hr, H1, H2, ⟨S0, S1⟩, ⟨R0, R1⟩, ⟨G0, G1⟩, B0, B1⟩
  isplitl [H1]; · iexact H1
  isplitl [H2]; · iexact H2
  isplitl [S0]
  · iapply (posS_zero m κ ν c x.1 0 x.2); isplitr; · iexact Hr
    iexact S0
  isplitl [S1]
  · iapply (posS_zero m κ ν c x.1 1 x.2); isplitr; · iexact Hr
    iexact S1
  isplitl [R1]
  · iapply (posR_zero m κ ν c x.1 1 x.2); isplitr; · iexact Hr
    iexact R1
  isplitl [R0]
  · iapply (posR_zero m κ ν c x.1 0 x.2); isplitr; · iexact Hr
    iexact R0
  isplitl [G0]; · iexact G0
  isplitl [G1]; · iexact G1
  isplitl [B0]; · iexact B0
  iexact B1

/-- A step made with the records, over a whole family. -/
theorem all_recs {I : Type} [DecidableEq I] (s : Finset I) {Φ Ψ : I → sProp 𝕄} (h : ∀ x ∈ s, iprop(recs m κ ν ∗ Φ x) ⊢ Ψ x) :
    iprop(recs m κ ν ∗ bigSep s Φ) ⊢ bigSep s Ψ := by
  refine (sep_mono_left (BI.bigSep_of_persistent s (recs m κ ν))).trans ?_
  rw [← bigSep_sep']
  exact bigSep_mono h

theorem lanes_in :
    iprop(recs m κ ν ∗ (bigSep Finset.univ fun x : KB => bigSep (Finset.Ico 0 6) (sendTok c x.1 x.2))
      ∗ (bigSep Finset.univ fun x : KB => bigSep (Finset.Ico 0 6) (recvCred c x.1 x.2))
      ∗ (bigSep Finset.univ fun x : KSB => atPos ER (sendCell c x.1 x.2.1 x.2.2) 0 ∅ 0)
      ∗ (bigSep Finset.univ fun x : KSB => atPos ER (recvCell c x.1 x.2.1 x.2.2) 0 ∅ 0)
      ∗ readers c ∗ bigSep Finset.univ fun x : KSB => slotS (c, x))
    ⊢ bigSep Finset.univ (laneIn c) := by
  refine BIBase.Entails.trans ?_ (all_recs m κ ν Finset.univ fun x _ => lane_in m κ ν c x)
  unfold laneParts readers
  simp only [ksb_split, bigSep_sep']
  exact Entails.refl _

/-- What is dealt to a ring. -/
theorem ring_in (k : Fin 2) :
    (iprop(atPos ER (credCell c k) 0 ∅ 0 ∗ (bigSep (Finset.Ico 0 24) (dutyTok ER (credCell (prv c k) k) 0)) ∗ (bigSep (Finset.Ico 0 24) (credCred c k))
      ∗ outV c k ∗ (∃ fo, oP c k fo) ∗ tilesTodo c k 0) : sProp 𝕄) ⊢ ringIn c k := by
  unfold ringIn outFree
  iintro ⟨Ha, Hd, Hc, Hv, Ho, Ht⟩
  isplitl [Ha]; · iapply (credPos_zero c k); iexact Ha
  isplitl [Hd]; · iexact Hd
  isplitl [Hc]; · iexact Hc
  isplitl [Ho Hv]
  · isplitl [Ho]; · iexact Ho
    iexact Hv
  iexact Ht
theorem rings_in :
    (iprop((bigSep Finset.univ fun k => atPos ER (credCell c k) 0 ∅ 0) ∗ (bigSep Finset.univ fun k : Fin 2 => bigSep (Finset.Ico 0 24) (dutyTok ER (credCell (prv c k) k) 0))
      ∗ (bigSep Finset.univ fun k : Fin 2 => bigSep (Finset.Ico 0 24) (credCred c k)) ∗ (bigSep Finset.univ (outV c))
      ∗ (bigSep Finset.univ fun k => iprop(∃ fo, oP c k fo)) ∗ bigSep Finset.univ fun k => tilesTodo c k 0) : sProp 𝕄)
    ⊢ bigSep Finset.univ (ringIn c) := by
  refine BIBase.Entails.trans ?_ (bigSep_mono fun k _ => ring_in c k)
  rw [bigSep_sep', bigSep_sep', bigSep_sep', bigSep_sep', bigSep_sep']

theorem xq_whole (f : Vec F S4096x1024 .fp8e4m3) : (xqP c f : sProp 𝕄) = (((c : Thread nD τ).loc cc0_scratch1) ↦{fullShare} f) := rfl
theorem wq_whole (f : Vec F S1024x8192 .fp8e5m2) : (wqP c f : sProp 𝕄) = (((c : Thread nD τ).loc cc0_scratch2) ↦{fullShare} f) := rfl

/-- The two arguments, as launched. -/
def args : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

theorem enter :
    iprop(recs m κ ν ∗ ghost c ∗ credits c ∗ args m c ∗ (((c : Thread nD τ).loc main_v1) ↦{fullShare} m ((c : Thread nD τ).loc main_v1))
      ∗ Pipeline.scopedRest spec0 c) ⊢ start m c := by
  rw [scopedRest0_eq]
  unfold ghost credits dealt places args start barIn
  rw [ck_split]
  iintro ⟨#Hr, ⟨⟨⟨T0, T1⟩, Td, Ts⟩, ⟨Pb, Pc, Ps, Pr⟩, Hrd, ⟨V0, V1⟩, Vo⟩, ⟨Cb, Cr, Cc⟩, Ha, Hv, ⟨%f0, M0⟩, ⟨%f1, M1⟩, ⟨%f2, M2⟩, ⟨%f3, M3⟩, %f4, M4⟩
  isplitl [T0 T1 Cb Pb]
  · isplitl [T0]; · iexact T0
    isplitl [T1]; · iexact T1
    isplitl [Cb]; · iexact Cb
    iexact Pb
  isplitl [Ha V0 V1 M3]
  · ihave Ha := (src_shares c m).1 $$ Ha
    icases Ha with ⟨A0, A1⟩
    ihave M3 := (cstage_split c f3) $$ M3
    icases M3 with ⟨C0, C1⟩
    unfold idle
    isplitl [A0 C0 V0]
    · isplitl [A0]; · iexact A0
      isplitl [C0]; · iexact C0
      iexact V0
    isplitl [A1]; · iexact A1
    isplitl [C1]; · iexact C1
    iexact V1
  isplitl [M1 M2]
  · unfold xw
    iexists f1; iexists f2
    isplitr; · ipureintro; exact fun t ht => absurd ht List.not_mem_nil
    rw [xq_whole, wq_whole]
    isplitl [M1]; · iexact M1
    iexact M2
  isplitl [Ts Cr Ps Pr Hrd M0]
  · iapply (lanes_in m κ ν c)
    isplitr; · iexact Hr
    isplitl [Ts]; · iexact Ts
    isplitl [Cr]; · iexact Cr
    isplitl [Ps]; · iexact Ps
    isplitl [Pr]; · iexact Pr
    isplitl [Hrd]; · iexact Hrd
    iapply (ring_split c f0); iexact M0
  iapply (rings_in c)
  isplitl [Pc]; · iexact Pc
  isplitl [Td]; · iexact Td
  isplitl [Cc]; · iexact Cc
  isplitl [Vo]; · iexact Vo
  isplitl [M4]; · iapply (ostage_split c f4); iexact M4
  iapply (out_todo c _); iexact Hv

end Cert.KernelIdeal.Ring

end
-- ==== Proof.Exit.lean ====
/- The end of a device's run: its cells closed, its buffers whole again. -/
module

public import proofs.«01_k».proof.Proof.Enter

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ) (ν : SK → ℕ) (c : Dev nD)

/-- A cell whose rounds are over is closed, its counter back at zero. -/
theorem close_cell (x : CK) {R : ℕ} (hR : ∀ r, R ≤ r → (Rd m).duties (cellX (c, x)) r = ∅) :
    iprop(recs m κ ν ∗ atPos ER (cellX (c, x)) R ∅ 0) ⊢ |={Set.univ}=> semVal (cellX (c, x)) 0 := by
  iintro ⟨#Hr, Hat⟩
  ihave Hc := (recs_cell m κ ν (c, x)) $$ Hr
  icases Hc with ⟨Hc, -⟩
  iapply (Rounds.cell_close ER (Rd m) (Set.mem_univ (κ (cellX (c, x)))) (fun h => h) (R := R) hR)
  isplitl [Hc]; · iexact Hc
  iexact Hat

theorem close_send (k s : Fin 2) (b : Fin 4) : iprop(recs m κ ν ∗ posS c k s b 3) ⊢ |={Set.univ}=> semVal (sendCell c k s b) 0 := by
  unfold posS
  iintro ⟨#Hr, Hat, -⟩
  iapply (close_cell m κ ν c (.send k s b) (duties_send_after m c k s b))
  isplitr; · iexact Hr
  iexact Hat
theorem close_recv (k s : Fin 2) (b : Fin 4) : iprop(recs m κ ν ∗ posR c k s b 3) ⊢ |={Set.univ}=> semVal (recvCell c k s b) 0 := by
  unfold posR
  iintro ⟨#Hr, Hat, -⟩
  iapply (close_cell m κ ν c (.recv k s b) (duties_recv_after m c k s b))
  isplitr; · iexact Hr
  iexact Hat

/-- What is left of a block: its two slots and its four counters. -/
def laneOff (x : KB) : sProp 𝕄 :=
  iprop((slotS (c, x.1, 0, x.2) ∗ slotS (c, x.1, 1, x.2))
    ∗ (semVal (sendCell c x.1 0 x.2) 0 ∗ semVal (sendCell c x.1 1 x.2) 0) ∗ semVal (recvCell c x.1 0 x.2) 0 ∗ semVal (recvCell c x.1 1 x.2) 0)
theorem lane_off (x : KB) : iprop(recs m κ ν ∗ laneEnd c x.1 x.2) ⊢ |={Set.univ}=> laneOff c x := by
  unfold laneEnd laneOff
  iintro ⟨#Hr, B0, B1, S0, S1, R0, R1⟩
  imod (close_send m κ ν c x.1 0 x.2) $$ [S0] with S0
  · isplitr; · iexact Hr
    iexact S0
  imod (close_send m κ ν c x.1 1 x.2) $$ [S1] with S1
  · isplitr; · iexact Hr
    iexact S1
  imod (close_recv m κ ν c x.1 0 x.2) $$ [R0] with R0
  · isplitr; · iexact Hr
    iexact R0
  imod (close_recv m κ ν c x.1 1 x.2) $$ [R1] with R1
  · isplitr; · iexact Hr
    iexact R1
  imodintro
  isplitl [B0 B1]
  · isplitl [B0]; · unfold slotS; iexact B0
    unfold slotS; iexact B1
  isplitl [S0 S1]
  · isplitl [S0]; · iexact S0
    iexact S1
  isplitl [R0]; · iexact R0
  iexact R1
theorem lanes_off : iprop(recs m κ ν ∗ bigSep Finset.univ fun x : KB => laneEnd c x.1 x.2)
    ⊢ |={Set.univ}=> ((bigSep Finset.univ fun x : KSB => slotS (c, x)) ∗ (bigSep Finset.univ fun x : KSB => semVal (sendCell c x.1 x.2.1 x.2.2) 0)
      ∗ bigSep Finset.univ fun x : KSB => semVal (recvCell c x.1 x.2.1 x.2.2) 0) := by
  refine (all_recs m κ ν Finset.univ fun x _ => lane_off m κ ν c x).trans ((bigSep_fupd _ _).trans (BI.fupd_mono ?_))
  unfold laneOff
  simp only [ksb_split, bigSep_sep']
  exact Entails.refl _

theorem ring_off (sc : F .f32) (k : Fin 2) : iprop(recs m κ ν ∗ ringEnd m c sc k)
    ⊢ |={Set.univ}=> (semVal (credCell c k) 0 ∗ (∃ fo, oP c k fo) ∗ outV c k ∗ tilesDone m c sc k 64) := by
  unfold ringEnd outFree
  iintro ⟨#Hr, Hat, ⟨Ho, Hv⟩, Ht⟩
  imod (close_cell m κ ν c (.cred k) (duties_cred_after m c k)) $$ [Hat] with Hz
  · isplitr; · iexact Hr
    iexact Hat
  imodintro
  isplitl [Hz]; · iexact Hz
  isplitl [Ho]; · iexact Ho
  isplitl [Hv]; · iexact Hv
  iexact Ht
theorem rings_off (sc : F .f32) : iprop(recs m κ ν ∗ bigSep Finset.univ (ringEnd m c sc))
    ⊢ |={Set.univ}=> ((bigSep Finset.univ fun k => semVal (credCell c k) 0) ∗ (bigSep Finset.univ fun k => iprop(∃ fo, oP c k fo))
      ∗ (bigSep Finset.univ (outV c)) ∗ bigSep Finset.univ fun k => tilesDone m c sc k 64) := by
  refine (all_recs m κ ν Finset.univ fun k _ => ring_off m κ ν c sc k).trans ((bigSep_fupd _ _).trans (BI.fupd_mono ?_))
  rw [bigSep_sep', bigSep_sep', bigSep_sep']

/-- What a device keeps for the caller: its arguments as they were, the result, its barrier counter at zero. -/
def left (sc : F .f32) : sProp 𝕄 :=
  iprop(args m c ∗ (((c : Thread nD τ).loc main_v1) ↦{fullShare} outFull m sc c) ∗ unscopedSems0 c)

theorem exit (sc : F .f32) : iprop(recs m κ ν ∗ finish m c sc)
    ⊢ |={Set.univ}=> (left m c sc ∗ Pipeline.ownSems0 (Ix := ℕ) (Name := ℕ) (U := UU) (Lvl := ℕ) (Val := Elt F) (τ := τ) osem c ∗ Pipeline.scopedRest spec0 c) := by
  rw [scopedRest0_eq]
  unfold finish left args
  iintro ⟨#Hr, Hb, ⟨I0, I1⟩, Hxw, HL, HR⟩
  imod (close_cell m κ ν c .bar (duties_bar_after m c)) $$ [Hb] with Zb
  · isplitr; · iexact Hr
    iexact Hb
  imod (lanes_off m κ ν c) $$ [HL] with ⟨Hs, Zs, Zr⟩
  · isplitr; · iexact Hr
    iexact HL
  imod (rings_off m κ ν c sc) $$ [HR] with ⟨Zc, Ho, Hv, Ht⟩
  · isplitr; · iexact Hr
    iexact HR
  imodintro
  unfold idle xw
  icases I0 with ⟨A0, C0, V0⟩
  icases I1 with ⟨A1, C1, V1⟩
  icases Hxw with ⟨%fx, %fw, -, Hx, Hw⟩
  ihave Hx := (Entails.of_eq (xq_whole c fx)) $$ Hx
  ihave Hw := (Entails.of_eq (wq_whole c fw)) $$ Hw
  ihave Hsem := (sems_out c) $$ [Zb Zs Zr Zc V0 V1 Hv]
  · isplitl [Zb Zs Zr Zc]
    · unfold cellsV
      rw [ck_split]
      isplitl [Zb]; · iexact Zb
      isplitl [Zc]; · iexact Zc
      isplitl [Zs]; · iexact Zs
      iexact Zr
    isplitl [V0 V1]
    · isplitl [V0]; · iexact V0
      iexact V1
    iexact Hv
  icases Hsem with ⟨Hown, Hun⟩
  isplitl [A0 A1 Ht Hun]
  · isplitl [A0 A1]
    · iapply (src_shares c m).2
      isplitl [A0]; · iexact A0
      iexact A1
    isplitl [Ht]; · iapply (out_done c m sc); iexact Ht
    iexact Hun
  isplitl [Hown]; · iexact Hown
  isplitl [Hs]; · iapply (ring_unsplit c (m _)); iexact Hs
  isplitl [Hx]; · iexists fx; iexact Hx
  isplitl [Hw]; · iexists fw; iexact Hw
  isplitl [C0 C1]
  · iapply (cstage_unsplit c (m _))
    isplitl [C0]; · iexact C0
    iexact C1
  iapply (ostage_unsplit c (m _)); iexact Ho

end Cert.KernelIdeal.Ring

end
-- ==== Proof.Launch.lean ====
/- The launch: from any memory with zero counters all four devices run to the end. -/
module

public import proofs.«01_k».proof.Proof.Exit
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's region -/

def s₀ : MemSt nD τ sig (Elt F) := ⟨m, fun _ => 0, ρ⟩

abbrev t₀ : Fin cfg0.N := t0_0
theorem fin_N (t : Fin cfg0.N) : t = t₀ := fin_N0 t
theorem fetch_0 (t : Fin cfg0.N) : (cfg0.win (0 : Fin 2)).fetch t = true := fetch0_0 t
theorem fetch_1 (t : Fin cfg0.N) : (cfg0.win (1 : Fin 2)).fetch t = true := fetch0_1 t

/-- The two scales as staged. -/
def sxAt (c : Dev nD) : (cc0_stg0_0 : Ref sig .tc).ty.Contents (Elt F) :=
  ((cfg0.win (0 : Fin 2)).blk t₀).view.read (Elt F) (m ((cfg0.win (0 : Fin 2)).arr.view.loc (c : Thread nD τ)))
def swAt (c : Dev nD) : (cc0_stg1_0 : Ref sig .tc).ty.Contents (Elt F) :=
  ((cfg0.win (1 : Fin 2)).blk t₀).view.read (Elt F) (m ((cfg0.win (1 : Fin 2)).arr.view.loc (c : Thread nD τ)))

/-- The product of the scales on device `c`. -/
def scAt (c : Dev nD) : F .f32 := scal c (sxAt m c) (swAt m c)

def Φ₀ (c : Dev nD) : sProp 𝕄 := iprop(∃ κ ν, recs m κ ν ∗ start m c)
def Φ₁ (c : Dev nD) : sProp 𝕄 :=
  iprop(left m c (scAt m c) ∗ Pipeline.ownSems0 (Ix := ℕ) (Name := ℕ) (U := UU) (Lvl := ℕ) (Val := Elt F) (τ := τ) osem c ∗ Pipeline.scopedRest spec0 c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => sxAt m c
    | ⟨1, _⟩ => swAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt (0 : ℕ) t₀.succ ∗ stg c cc0_stg0_0 (sxAt m c) ∗ stg c cc0_stg1_0 (swAt m c))

/-- What the body leaves, once the cells are closed. -/
theorem body_after (c : Dev nD) (κ : GSem nD τ sig → ℕ) (ν : SK → ℕ) :
    iprop(recs m κ ν ∗ Ow c 0 ∗ finish m c (scAt m c) ∗ scalP c (sxAt m c) (swAt m c)) ⊢ |={Set.univ}=> bodyPost m ρ c := by
  unfold Ow scalP
  iintro ⟨#Hr, ⟨%W, HO⟩, Hf, Hsx, Hsw⟩
  imod (exit m κ ν c (scAt m c)) $$ [Hf] with Hf
  · isplitr; · iexact Hr
    iexact Hf
  imodintro
  unfold bodyPost Φ₁ Pipeline.Dat.owesAt Pipeline.owesWithin
  rw [show (dats m ρ 0 c).owed t₀.succ = 0 from rfl]
  isplitl [Hf]; · iexact Hf
  isplitl [HO]
  · iexists W
    isplitr; · ipureintro; exact fun _ _ => Or.inl trivial
    iexact HO
  isplitl [Hsx]
  · iexists (sxAt m c)
    isplitr; · ipureintro; rfl
    iexact Hsx
  iexists (swAt m c)
  isplitr; · ipureintro; rfl
  iexact Hsw

theorem body_sound (c : Dev nD) : bodyPre m ρ c ⊢ WP c (bodyS mSx mSw) (fun _ => bodyPost m ρ c) := by
  unfold bodyPre Φ₀
  iintro ⟨⟨%κ, %ν, #Hr, Hs⟩, Ho, ⟨%d0, %g0, %hg0, Hx⟩, ⟨%d1, %g1, %hg1, Hw⟩⟩
  have hx : g0 = sxAt m c := by rw [hg0]; unfold Pipeline.Dat.before; rw [if_pos (fetch_0 t₀)]; rfl
  have hw : g1 = swAt m c := by rw [hg1]; unfold Pipeline.Dat.before; rw [if_pos (fetch_1 t₀)]; rfl
  subst hx
  subst hw
  unfold Pipeline.Dat.owesAt Pipeline.owesWithin
  icases Ho with ⟨%W, %hW, HO⟩
  rw [show (dats m ρ 0 c).owed t₀.castSucc = O₀ c from rfl]
  iapply (wp_fupd _ _ _ _ (fun _ => bodyPost m ρ c))
  iapply (wp_last c (body_wp m κ ν c (sxAt m c) (swAt m c))) $$ [HO Hs Hx Hw]
  rotate_left
  · iintro H
    iapply (body_after m ρ c κ ν)
    isplitr; · iexact Hr
    iexact H
  isplitr; · iexact Hr
  isplitl [HO]
  · unfold Ow; iexists W; iexact HO
  isplitl [Hs]; · iexact Hs
  unfold scalP
  isplitl [Hx]; · iexact Hx
  iexact Hw

end Cert.KernelIdeal.Ring

end
-- ==== Proof.ProgEq.lean ====
/- The printed body is the body written as loops. -/
module

public import proofs.«01_k».proof.Proof.Prog
public import Idealize.ShloMosaic.Lib.Pipeline.Regions

@[expose] public section

noncomputable section

namespace Cert.KernelIdeal.Ring

open Idealize.ShloMosaic Idealize.SL.Sem

variable {F : FTy → Type} [FloatOps F]

set_option maxRecDepth 1000000 in
theorem body_eq (mSx mSw : Memref sig .tc .smem S1 .f32) (h2 : mSx.IsWhole) (h3 : mSw.IsWhole) :
    cc0__body (F := F) (Memref.whole main_arg0) (Memref.isWhole_whole _) (Memref.whole main_arg1) (Memref.isWhole_whole _) mSx h2 mSw h3 (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9
      = bodyS mSx mSw := by
  chain_rfl

end Cert.KernelIdeal.Ring

end
-- ==== Proof.Entry.lean ====
/- The region's call runs the kernel's body. -/
module

public import proofs.«01_k».proof.Proof.Launch
public import proofs.«01_k».proof.Proof.ProgEq

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-- The table's row at the staging buffers. -/
theorem row_eq (t : Fin cfg0.N) (s : (w : Fin cfg0.W) → Fin (cfg0.win w).nbuf) :
    defs₀ (F := F) .tc cfg0.body (cfg0.bodyArgs t s)
      = cc0__body (Memref.whole main_arg0) (Memref.isWhole_whole _) (Memref.whole main_arg1) (Memref.isWhole_whole _) (win0_0.stage (s 0)) (hstage0_0 0) (win0_1.stage (s 1)) (hstage0_1 0) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 := by
  unfold defs₀ Defs.onTc
  with_reducible rfl
theorem body_row (t : Fin cfg0.N) (s : (w : Fin cfg0.W) → Fin (cfg0.win w).nbuf) :
    defs₀ (F := F) .tc cfg0.body (cfg0.bodyArgs t s) = bodyS mSx mSw := by
  rw [row_eq, body_eq]

end Cert.KernelIdeal.Ring

end
-- ==== Proof.Run.lean ====
/- The run of the whole program: the arguments unchanged, the result computed, every counter back at zero. -/
module

public import proofs.«01_k».proof.Proof.Entry
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

set_option maxRecDepth 4000 in
theorem body_obligation (c : Dev nD) : Pipeline.BodyObligation (dats (F := F) m ρ 0 c) (defs₀ (F := F)) 𝒱₀ (0 : ℕ) Set.univ := fun t => by
  rw [fin_N t, body_row]
  rw [bigSep_W, bigSep_W]
  simp only [owns_whole_eq]
  have e0 : (dats m ρ 0 c).Φ t₀.castSucc = Φ₀ m c := rfl
  have e1 : (dats m ρ 0 c).Φ t₀.succ = Φ₁ m c := rfl
  have e2 : (dats m ρ 0 c).after (0 : Fin 2) t₀ = sxAt m c := rfl
  have e3 : (dats m ρ 0 c).after (1 : Fin 2) t₀ = swAt m c := rfl
  rw [e0, e1, e2, e3]
  have h := body_sound m ρ c
  unfold bodyPre bodyPost WP at h
  with_reducible exact h

theorem share_eq (c : Dev nD) (w : Fin cfg0.W) : (dats m ρ 0 c).share w = fullShare := by unfold Pipeline.Dat.share; split <;> rfl

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => mayWait_of c _ (by omega) (by
    rcases t with ⟨_ | _, ht⟩
    · exact above_O₀ c
    · exact above_zero 0)

/-! ## The launch's side conditions -/

/-- What a device brings to the region. -/
def bring (c : Dev nD) : sProp 𝕄 :=
  iprop((∃ κ ν, recs m κ ν ∗ ghost c) ∗ credits c ∗ args m c ∗ ((c : Thread nD τ).loc main_v1) ↦{fullShare} m ((c : Thread nD τ).loc main_v1))

theorem bring_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(bring m c ∗ emp) := by
  rw [Pipeline.unscopedRestP_none, unscopedRest0_eq]
  unfold bring G' args
  iintro ⟨⟨A0, A1, V⟩, #Hlev, Hcr, -, %κ, %ν, #Hk, Hg⟩
  imodintro
  isplitl
  · isplitl [Hg]
    · iexists κ; iexists ν
      isplitr
      · iapply (known_recs m κ ν)
        isplitr; · iexact Hk
        iexact Hlev
      iexact Hg
    isplitl [Hcr]; · iapply (launch_credits c); iexact Hcr
    isplitl [A0 A1]
    · isplitl [A0]; · iexact A0
      iexact A1
    iexact V
  iempintro

theorem phi0_intro (c : Dev nD) :
    iprop(bring m c ∗ Pipeline.prefHeld Pipeline.Prefetch.none c (fun _ => fullShare.right) (fun k => k.elim0) ∗ Pipeline.scopedRest cfg0.spec c)
      ⊢ (dats m ρ 0 c).Φ 0 := by
  show _ ⊢ Φ₀ m c
  unfold bring Φ₀
  iintro ⟨⟨⟨%κ, %ν, #Hr, Hg⟩, Hc, Ha, Hv⟩, -, Hs⟩
  iexists κ; iexists ν
  isplitr; · iexact Hr
  iapply (enter m κ ν c)
  isplitr; · iexact Hr
  isplitl [Hg]; · iexact Hg
  isplitl [Hc]; · iexact Hc
  isplitl [Ha]; · iexact Ha
  isplitl [Hv]; · iexact Hv
  iexact Hs

theorem phi1_exit (c : Dev nD) :
    (dats m ρ 0 c).Φ (Fin.last cfg0.N) ⊢ iprop(left m c (scAt m c) ∗ Pipeline.ownSems0 osem c ∗ Pipeline.scopedRest cfg0.spec c) :=
  show Φ₁ m c ⊢ _ from Entails.refl _

/-- What the final memory holds on device `c`. -/
def Held (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outFull m (scAt m c) c)
  ∧ ∀ sm : SemLoc sig, sm.isScoped .tc = false → s.sem ((c.tc : Thread nD τ), sm) = 0

theorem held (c : Dev nD) (s' : Phys nD τ sig (Elt F)) :
    (iprop(left m c (scAt m c) ∗ emp ∗ SI s') : sProp 𝕄) ⊢ |={Set.univ}=> iprop(⌜Held m c s'.mem⌝ ∗ SI s') := by
  unfold left args
  iintro ⟨⟨⟨H0, H1⟩, H2, Hu⟩, -, HSI⟩
  icombine HSI H0 gives %h0
  icombine HSI H1 gives %h1
  icombine HSI H2 gives %h2
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ h0, Buf.eq_of_forall_mem_univ h1, Buf.eq_of_forall_mem_univ h2⟩, hu⟩
  iexact HSI

/-! ## The run -/

set_option maxRecDepth 8000 in
theorem run_main : θ_run defs (onTc (τ := τ) (main (F := F))) (s₀ m ρ) (fun r =>
    (∀ c : Dev nD, (∀ w : Fin cfg0.W, r.2.mem ((cfg0.win w).arr.view.loc (c : Thread nD τ)) = (dats m ρ 0 c).arrAt w cfg0.N) ∧ Held m c r.2)
      ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := by
      unfold u₀
      iintro Hu
      ihave H := (ownU_pair _ _) $$ Hu
      icases H with ⟨HP, HX⟩
      imodintro
      isplitl [HP]; · iexact HP
      iapply G_intro
      iexact HX)
    (hglob := glob m)
    (hA := fun _ _ => rfl) (hpf := fun _ k => k.elim0)
    (X := bring m) (Y := fun c => left m c (scAt m c)) (Z := fun _ => iprop(emp))
    (hX := bring_intro m ρ) (hin := phi0_intro m ρ) (hout := phi1_exit m ρ)
    (QY := fun c s => Held m c s)
    (hY := held m)
    (hQ := fun _ h hs => ⟨fun c => ⟨(h c).1, (h c).2.2⟩, sem_eq_zero hs fun c => (h c).2.2.2⟩)

/-- The four arguments unchanged, the result computed, every counter at zero. -/
theorem run_final : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = outFull m (scAt m c) c)
    ∧ r.2.sem = fun _ => 0) :=
  (θ_run defs _ _).mono (fun _ h => ⟨fun c =>
    ⟨(h.1 c).2.1.1, (h.1 c).2.1.2.1, ((h.1 c).1 0).trans ((dats m ρ 0 c).arrAt_in 0 rfl _), ((h.1 c).1 1).trans ((dats m ρ 0 c).arrAt_in 1 rfl _),
      (h.1 c).2.1.2.2⟩, h.2⟩) (run_main m ρ)

end Cert.KernelIdeal.Ring

end
-- ==== Proof.Frames.lean ====
/- The three frames: each program runs, leaves its arguments as they were and every counter at zero. -/
module

public import proofs.«01_k».proof.Proof.Run
public import proofs.«01_k».proof.Proof.Gen.Kernel
public import proofs.«01_k».proof.Proof.Gen.ReferenceIdeal
public import proofs.«01_k».proof.Defs
public import Idealize.ShloMosaic.Lib.Claim

@[expose] public section

noncomputable section

namespace Cert.Proof

open Idealize.ShloMosaic Idealize.SL.Sem

/-- What the frame of the program says, stated of the idealization's text at the machine's own floats. -/
def frameText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frameText_holds : frameText := fun m ρ _ =>
  (θ_run (Cert.KernelIdeal.defs (F := Bits)) _ _).mono
    (fun _ h => ⟨fun c => ⟨(h.1 c).1, (h.1 c).2.1, (h.1 c).2.2.1, (h.1 c).2.2.2.1⟩, h.2⟩)
    (Cert.KernelIdeal.Ring.run_final (F := Bits) m ρ)

/-- The program and its idealization have one text. -/
theorem frameText_eq : frameText = Cert.quiescent_Kernel := by chain_rfl

/-- So the run proved of that text at any float values serves both. -/
theorem frame_kernel : Cert.quiescent_Kernel := frameText_eq ▸ frameText_holds

theorem frame_ideal : Cert.quiescent_KernelIdeal := fun m ρ _ =>
  (θ_run (Cert.KernelIdeal.defs (F := Ideal)) _ _).mono
    (fun _ h => ⟨fun c => ⟨(h.1 c).1, (h.1 c).2.1, (h.1 c).2.2.1, (h.1 c).2.2.2.1⟩, h.2⟩)
    (Cert.KernelIdeal.Ring.run_final (F := Ideal) m ρ)

/-- The reference's arguments are read only, and it has no semaphores. -/
theorem frame_reference : Cert.quiescent_ReferenceIdeal := fun m ρ _ => by
  refine θ_run_mono (Q := fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
    ?_ (fun r h => ⟨h, sem_eq_zero_of_no_sems (by decide) r.2⟩)
  hlo_run

end Cert.Proof

end
-- ==== Proof.IdealSum.lean ====
/- The sums that travel along the rings at the ideal values: each device adds the product of its own two blocks. -/
module

public import proofs.«01_k».proof.Proof.Vals
public import Idealize.ShloMosaic.Lib.MatmulPlain

@[expose] public section

noncomputable section

namespace Cert.KernelIdeal.Ring

open Cert.KernelIdeal Cert.KernelIdeal.Gen
open Idealize.ShloMosaic
open Idealize.ShloMosaic.TcCoe

open Idealize.SL.Sem

open Idealize.ShloMosaic.ValueIdx
open scoped BigOperators

/-! ## The three stored values at a row and a column -/

/-- The kernel's contraction is the plain product of a 256 by 1024 and a 1024 by 1024 matrix. -/
theorem dot_plain : dot_S256x1024_S1024x1024_S256x1024_1_0_0_1_n_n = DotDims.plain 256 1024 1024 := rfl

theorem dot_apply (u : FVec Ideal S256x1024 .fp8e4m3) (v : FVec Ideal S1024x1024 .fp8e5m2) (r : Fin 256) (c : Fin 1024) :
    (matmul dot_S256x1024_S1024x1024_S256x1024_1_0_0_1_n_n none u v (constant S256x1024 .f32 0x00000000#32) : FVec Ideal S256x1024 .f32) (ix2 r c)
      = ∑ q : Fin 1024, u (ix2 r q) * v (ix2 q c) := by
  rw [dot_plain]
  refine (Ideal.matmul_plain_apply none u v _ r c).trans ?_
  have h0 : (constant (F := Ideal) S256x1024 .f32 0x00000000#32 : FVec Ideal S256x1024 .f32) (ix2 r c) = (0 : EReal) := Ideal.ofBits_zero_f32
  rw [h0, zero_add]

theorem pos_ix4 (r : Fin 256) (c : Fin 1024) :
    (S256x1024.rowMajor (ix2 r c)).val = (S1x1x256x1024.rowMajor (ix4 (0 : Fin 1) (0 : Fin 1) r c)).val := by
  rw [Shape.rowMajor_val_four, Shape.rowMajor_val_two]
  show r.val * 1024 + c.val = ((0 * 1 + 0) * 256 + r.val) * 1024 + c.val
  omega

/-- A 256 by 1024 tile given two leading unit axes, and one whose two leading unit axes are dropped. -/
theorem lift_apply {α : Type} (x : S256x1024.Idx → α) (h : S256x1024.ShapeCasts S1x1x256x1024) (r : Fin 256) (c : Fin 1024) :
    shapeCast S1x1x256x1024 x h (ix4 (0 : Fin 1) (0 : Fin 1) r c) = x (ix2 r c) :=
  shapeCast_apply x h _ _ (pos_ix4 r c)
theorem drop_apply {α : Type} (x : S1x1x256x1024.Idx → α) (h : S1x1x256x1024.ShapeCasts S256x1024) (r : Fin 256) (c : Fin 1024) :
    shapeCast S256x1024 x h (ix2 r c) = x (ix4 (0 : Fin 1) (0 : Fin 1) r c) :=
  shapeCast_apply x h _ _ (pos_ix4 r c).symm

theorem first_apply (u : FVec Ideal S256x1024 .fp8e4m3) (v : FVec Ideal S1024x1024 .fp8e5m2) (r : Fin 256) (c : Fin 1024) :
    (k0_pay23 (F := Ideal) u v (ix4 (0 : Fin 1) (0 : Fin 1) r c) : EReal) = ∑ q : Fin 1024, (u (ix2 r q) : EReal) * (v (ix2 q c) : EReal) := by
  unfold k0_pay23
  exact (lift_apply _ _ r c).trans (dot_apply u v r c)

theorem next_apply (a : Vec Ideal S1x1x256x1024 .bf16) (u : FVec Ideal S256x1024 .fp8e4m3) (v : FVec Ideal S1024x1024 .fp8e5m2)
    (r : Fin 256) (c : Fin 1024) :
    (k0_pay157 a u v (ix4 (0 : Fin 1) (0 : Fin 1) r c) : EReal)
      = (a (ix4 (0 : Fin 1) (0 : Fin 1) r c) : EReal) + ∑ q : Fin 1024, (u (ix2 r q) : EReal) * (v (ix2 q c) : EReal) := by
  unfold k0_pay157
  refine (lift_apply _ _ r c).trans ?_
  exact congrArg₂ (fun x y : EReal => x + y) (drop_apply a _ r c) (dot_apply u v r c)

theorem last_apply (sc : Ideal .f32) (a : Vec Ideal S1x1x256x1024 .bf16) (r : Fin 256) (c : Fin 1024) :
    (k0_pay160 sc a (ix3 (0 : Fin 1) r c) : EReal) = max ((a (ix4 (0 : Fin 1) (0 : Fin 1) r c) : EReal) * (sc : EReal)) 0 := by
  unfold k0_pay160
  refine (shapeCast_ab_1ab_apply _ _ 0 r c).trans ?_
  exact congrArg₂ (fun x y : EReal => max (x * (sc : EReal)) y) (drop_apply a _ r c) Ideal.ofBits_zero_f32

/-! ## The sums -/

variable (m : (ℓ : Loc nD τ sig) → Buf (Elt Ideal) ℓ)

/-- Device `d`'s part of the product at row `r` and column `c`: its columns of `x` against its rows of `w`. -/
def part (d : Dev nD) (r c : ℕ) : EReal :=
  ∑ q : Fin 1024, ((xArg m d : FVec Ideal S4096x1024 .f32) (iX r q.val) : EReal) * ((wArg m d : FVec Ideal S1024x8192 .f32) (iW q.val c) : EReal)

/-- The product of the two tiles that a step multiplies. -/
theorem tiles_part (d : Dev nD) (k : Fin 2) (ch : ℕ) (b j : Fin 4) (r : Fin 256) (c : Fin 1024) :
    (∑ q : Fin 1024, (xT m d ch b : FVec Ideal S256x1024 .fp8e4m3) (ix2 r q) * (wT m d k j : FVec Ideal S1024x1024 .fp8e5m2) (ix2 q c) : EReal)
      = part m d (ch * 1024 + b.val * 256 + r.val) (k.val * 4096 + j.val * 1024 + c.val) := rfl

/-- What device `d` holds after step `t`, summed by recursion along the ring. -/
def ringSum (k : Fin 2) (r c : ℕ) : ℕ → Dev nD → EReal
  | 0, d => part m d r c
  | t + 1, d => if t ≤ 2 then ringSum k r c t (prv d k) + part m d r c else ringSum k r c t (prv d k)

theorem chunk_prv : ∀ (d : Dev nD) (k : Fin 2) (t : ℕ), chunkAt (prv d k) k t = chunkAt d k (t + 1) := by
  intro d k t
  unfold chunkAt prv
  match k with
  | ⟨0, _⟩ => show ((d.val + 3) % 4 + 3 * t) % 4 = (d.val + 3 * (t + 1)) % 4; omega
  | ⟨1, _⟩ => show ((d.val + 1) % 4 + 1 * t) % 4 = (d.val + 1 * (t + 1)) % 4; omega

theorem chunk_zero (d : Dev nD) (k : Fin 2) : chunkAt d k 0 = d.val := by
  unfold chunkAt
  have : d.val < 4 := d.isLt
  rw [Nat.mul_zero, Nat.add_zero, Nat.mod_eq_of_lt this]

theorem outT_sum (k : Fin 2) (b j : Fin 4) (r : Fin 256) (c : Fin 1024) : ∀ (t : ℕ) (d : Dev nD),
    (outT m d k t b j (ix4 (0 : Fin 1) (0 : Fin 1) r c) : EReal)
      = ringSum m k (chunkAt d k t * 1024 + b.val * 256 + r.val) (k.val * 4096 + j.val * 1024 + c.val) t d
  | 0, d => by
      rw [chunk_zero]
      exact (first_apply _ _ r c).trans (tiles_part m d k d.val b j r c)
  | t + 1, d => by
      have ih := outT_sum k b j r c t (prv d k)
      rw [chunk_prv] at ih
      unfold outT ringSum
      by_cases h : t ≤ 2
      · rw [if_pos h, if_pos h]
        exact (next_apply _ _ _ r c).trans (congrArg₂ (fun x y : EReal => x + y) ih (tiles_part m d k _ b j r c))
      · rw [if_neg h, if_neg h]
        exact ih

/-- A device and the three before it in a ring are all the devices, each once. -/
theorem four_devices : ∀ (d : Dev nD) (k : Fin 2),
    (Finset.univ : Finset (Dev nD)) = {prv (prv (prv d k) k) k, prv (prv d k) k, prv d k, d}
    ∧ prv (prv (prv d k) k) k ∉ ({prv (prv d k) k, prv d k, d} : Finset (Dev nD))
    ∧ prv (prv d k) k ∉ ({prv d k, d} : Finset (Dev nD)) ∧ prv d k ∉ ({d} : Finset (Dev nD)) := by decide +kernel

/-- After the third step every device has added its part once. -/
theorem ring_three (k : Fin 2) (r c : ℕ) (d : Dev nD) : ringSum m k r c 3 d = ∑ e : Dev nD, part m e r c := by
  have hd := four_devices d k
  have h3 : ringSum m k r c 3 d
      = part m (prv (prv (prv d k) k) k) r c + part m (prv (prv d k) k) r c + part m (prv d k) r c + part m d r c := rfl
  rw [h3, hd.1, Finset.sum_insert hd.2.1, Finset.sum_insert hd.2.2.1, Finset.sum_insert hd.2.2.2, Finset.sum_singleton,
    add_assoc, add_assoc]

/-- From then on the sum is only passed on. -/
theorem ring_full (k : Fin 2) (r c : ℕ) : ∀ (t : ℕ) (d : Dev nD), ringSum m k r c (t + 3) d = ∑ e : Dev nD, part m e r c
  | 0, d => ring_three m k r c d
  | t + 1, d => by
      have h : ringSum m k r c (t + 1 + 3) d = ringSum m k r c (t + 3) (prv d k) := if_neg (by omega)
      rw [h]
      exact ring_full k r c t (prv d k)

theorem tOf_spec : ∀ (d : Dev nD) (k : Fin 2) (ch : Fin 4), 2 ≤ tOf d k ch.val ∧ chunkAt d k (tOf d k ch.val + 1) = ch.val := by
  decide +kernel

/-- The result at the ideal values: the parts of all devices summed, scaled, and clamped at zero. -/
theorem outFull_apply (sc : Ideal .f32) (d : Dev nD) (i : S4096x8192.Idx) :
    (outFull m sc d i : EReal) = max ((∑ e : Dev nD, part m e (i (0 : Fin 2)).val (i (1 : Fin 2)).val) * (sc : EReal)) 0 := by
  have h0 : (i (0 : Fin 2)).val < 4096 := (i (0 : Fin 2)).isLt
  have h1 : (i (1 : Fin 2)).val < 8192 := (i (1 : Fin 2)).isLt
  have ht := tOf_spec d ⟨(i (1 : Fin 2)).val / 4096, by omega⟩ ⟨(i (0 : Fin 2)).val / 1024, by omega⟩
  refine (last_apply sc _ _ _).trans ?_
  rw [outT_sum, ht.2]
  obtain ⟨t, e⟩ := Nat.exists_eq_add_of_le' (show 3 ≤ tOf d ⟨(i (1 : Fin 2)).val / 4096, by omega⟩ ((i (0 : Fin 2)).val / 1024) + 1 from Nat.succ_le_succ ht.1)
  rw [e, ring_full]
  have r0 : (i (0 : Fin 2)).val / 1024 * 1024 + (i (0 : Fin 2)).val % 1024 / 256 * 256 + (i (0 : Fin 2)).val % 256 = (i (0 : Fin 2)).val := by omega
  have r1 : (i (1 : Fin 2)).val / 4096 * 4096 + (i (1 : Fin 2)).val % 4096 / 1024 * 1024 + (i (1 : Fin 2)).val % 1024 = (i (1 : Fin 2)).val := by omega
  show max ((∑ e : Dev nD, part m e ((i (0 : Fin 2)).val / 1024 * 1024 + (i (0 : Fin 2)).val % 1024 / 256 * 256 + (i (0 : Fin 2)).val % 256)
    ((i (1 : Fin 2)).val / 4096 * 4096 + (i (1 : Fin 2)).val % 4096 / 1024 * 1024 + (i (1 : Fin 2)).val % 1024)) * (sc : EReal)) 0 = _
  rw [r0, r1]

end Cert.KernelIdeal.Ring

end
-- ==== Proof.Algebraic.lean ====
/- The kernel's result at the ideal values is the reference's: the devices' parts of the product are the reference's
   contraction, cut into four blocks of its contracted axis. -/
module

public import proofs.«01_k».proof.Proof.Frames
public import proofs.«01_k».proof.Proof.IdealSum

@[expose] public section

noncomputable section

namespace Cert.Proof

open Idealize.ShloMosaic Idealize.ShloMosaic.ValueIdx Idealize.SL.Sem
open scoped BigOperators

/-! ## The reference -/

/-- The reference's result over its arguments. -/
abbrev refOut (X : FVec Ideal Cert.ReferenceIdeal.S4096x4096 .f32) (W : FVec Ideal Cert.ReferenceIdeal.S4096x8192 .f32)
    (a b : FVec Ideal Cert.ReferenceIdeal.S1 .f32) : FVec Ideal Cert.ReferenceIdeal.S4096x8192 .f32 :=
  maximumf (mulf (Host.dotGeneral Cert.ReferenceIdeal.dot_S4096x4096_S4096x8192_S4096x8192_1_0_0_1_n_n none X W)
      (broadcastInDim Cert.ReferenceIdeal.S4096x8192 ![0, 1] Cert.ReferenceIdeal.Gen.bcast_S1x1_S4096x8192_0_1
        (broadcastInDim Cert.ReferenceIdeal.S1x1 ![1] Cert.ReferenceIdeal.Gen.bcast_S1_S1x1_1 (mulf a b))))
    (broadcastInDim Cert.ReferenceIdeal.S4096x8192 ![] Cert.ReferenceIdeal.Gen.bcast_S_S4096x8192 (constant Cert.ReferenceIdeal.S_ .f32 0x00000000#32))

/-- A vector of one element has one index. -/
theorem one_idx (i j : (⟨1, ![1]⟩ : Shape).Idx) : i = j := by
  funext a
  match a with
  | ⟨0, _⟩ => exact Fin.ext (by
      have hi : (i (0 : Fin 1)).val < 1 := (i (0 : Fin 1)).isLt
      have hj : (j (0 : Fin 1)).val < 1 := (j (0 : Fin 1)).isLt
      show (i (0 : Fin 1)).val = (j (0 : Fin 1)).val
      omega)

theorem refOut_apply (X : FVec Ideal Cert.ReferenceIdeal.S4096x4096 .f32) (W : FVec Ideal Cert.ReferenceIdeal.S4096x8192 .f32)
    (a b : FVec Ideal Cert.ReferenceIdeal.S1 .f32) (r : Fin 4096) (c : Fin 8192) (o : (⟨1, ![1]⟩ : Shape).Idx) :
    (refOut X W a b (ix2 r c) : EReal)
      = max ((∑ q : Fin 4096, (X (ix2 r q) : EReal) * (W (ix2 q c) : EReal)) * ((a o : EReal) * (b o : EReal))) 0 := by
  have hdot : (Host.dotGeneral Cert.ReferenceIdeal.dot_S4096x4096_S4096x8192_S4096x8192_1_0_0_1_n_n none X W (ix2 r c) : EReal)
      = ∑ q : Fin 4096, (X (ix2 r q) : EReal) * (W (ix2 q c) : EReal) :=
    (Ideal.matmul_plain_apply none X W (fun _ => 0) r c).trans (zero_add _)
  refine congrArg₂ (fun x y : EReal => max x y) (congrArg₂ (fun x y : EReal => x * y) hdot ?_) Ideal.ofBits_zero_f32
  exact congrArg₂ (fun x y : EReal => x * y) (congrArg (fun j => (a j : EReal)) (one_idx _ o)) (congrArg (fun j => (b j : EReal)) (one_idx _ o))

/-! ## The four blocks -/

/-- A sum over the contracted axis is the sum over its four blocks. -/
theorem sum_blocks (f : Fin 4096 → EReal) :
    ∑ q : Fin 4096, f q = ∑ e : Fin 4, ∑ q : Fin 1024, f ⟨e.val * 1024 + q.val, by omega⟩ := by
  rw [← Fintype.sum_prod_type' (f := fun (e : Fin 4) (q : Fin 1024) => f ⟨e.val * 1024 + q.val, by omega⟩),
    ← Equiv.sum_comp (finProdFinEquiv (m := 4) (n := 1024)) f]
  exact Finset.sum_congr rfl fun p _ => congrArg f (Fin.ext (by show p.2.val + 1024 * p.1.val = p.1.val * 1024 + p.2.val; omega))

/-! ## The two results -/

section Values

open Cert.KernelIdeal Cert.KernelIdeal.Ring Idealize.ShloMosaic.TcCoe

variable (m : (ℓ : Loc nD τ sig) → Buf (Elt Ideal) ℓ)

/-- The product of the two scales, as the kernel reads them. -/
theorem scale_apply (c : Dev nD) (a b : FVec Ideal S1 .f32) (o : S1.Idx)
    (ha : m ((c : Thread nD τ).loc main_arg2) = a) (hb : m ((c : Thread nD τ).loc main_arg3) = b) :
    (scAt m c : EReal) = (a o : EReal) * (b o : EReal) := by
  subst ha hb
  exact congrArg₂ (fun x y : EReal => x * y)
    (congrArg (fun j : S1.Idx => ((m ((c : Thread nD τ).loc main_arg2) : FVec Ideal S1 .f32) j : EReal)) (one_idx _ o))
    (congrArg (fun j : S1.Idx => ((m ((c : Thread nD τ).loc main_arg3) : FVec Ideal S1 .f32) j : EReal)) (one_idx _ o))

/-- A device's part of the product, over the whole arrays. -/
theorem part_whole (e : Dev nD) (X : FVec Ideal Cert.ReferenceIdeal.S4096x4096 .f32) (W : FVec Ideal Cert.ReferenceIdeal.S4096x8192 .f32)
    (hx : m ((e : Thread nD τ).loc main_arg0) = Layout.block ⟨2, ![4096, 1024]⟩ ⟨2, ![4096, 4096]⟩ 1 4 e X)
    (hw : m ((e : Thread nD τ).loc main_arg1) = Layout.block ⟨2, ![1024, 8192]⟩ ⟨2, ![4096, 8192]⟩ 0 4 e W)
    (r : Fin 4096) (c : Fin 8192) :
    part m e r.val c.val = ∑ q : Fin 1024, (X (ix2 r ⟨e.val * 1024 + q.val, by have : e.val < 4 := e.isLt; omega⟩) : EReal)
      * (W (ix2 ⟨e.val * 1024 + q.val, by have : e.val < 4 := e.isLt; omega⟩ c) : EReal) := by
  unfold part xArg wArg
  rw [hx, hw]
  refine Finset.sum_congr rfl fun q _ => congrArg₂ (fun x y : EReal => x * y) (congrArg X ?_) (congrArg W ?_)
  · funext a
    match a with
    | ⟨0, _⟩ => exact Fin.ext (Nat.mod_eq_of_lt r.isLt)
    | ⟨1, _⟩ => exact Fin.ext (congrArg (e.val * 1024 + ·) (Nat.mod_eq_of_lt q.isLt))
  · funext a
    match a with
    | ⟨0, _⟩ => exact Fin.ext (congrArg (e.val * 1024 + ·) (Nat.mod_eq_of_lt q.isLt))
    | ⟨1, _⟩ => exact Fin.ext (Nat.mod_eq_of_lt c.isLt)

/-- The kernel's result on any device is the reference's value, when the blocks agree. -/
theorem result_eq (X : FVec Ideal Cert.ReferenceIdeal.S4096x4096 .f32) (W : FVec Ideal Cert.ReferenceIdeal.S4096x8192 .f32)
    (a b : FVec Ideal Cert.ReferenceIdeal.S1 .f32)
    (h : ∀ c : Dev nD, m ((c : Thread nD τ).loc main_arg0) = Layout.block ⟨2, ![4096, 1024]⟩ ⟨2, ![4096, 4096]⟩ 1 4 c X
      ∧ m ((c : Thread nD τ).loc main_arg1) = Layout.block ⟨2, ![1024, 8192]⟩ ⟨2, ![4096, 8192]⟩ 0 4 c W
      ∧ m ((c : Thread nD τ).loc main_arg2) = a ∧ m ((c : Thread nD τ).loc main_arg3) = b) (d : Dev nD) :
    outFull m (scAt m d) d = refOut X W a b := by
  funext i
  have o : S1.Idx := fun x => match x with
    | ⟨0, _⟩ => ⟨0, Nat.one_pos⟩
  have hi : i = ix2 (i (0 : Fin 2)) (i (1 : Fin 2)) := by
    funext x
    match x with
    | ⟨0, _⟩ => rfl
    | ⟨1, _⟩ => rfl
  refine (outFull_apply m (scAt m d) d i).trans ?_
  refine Eq.trans ?_ (congrArg (refOut X W a b) hi.symm)
  refine Eq.trans ?_ (refOut_apply X W a b (i (0 : Fin 2)) (i (1 : Fin 2)) o).symm
  refine congrArg₂ (fun x y : EReal => max (x * y) 0) ?_ (scale_apply m d a b o (h d).2.2.1 (h d).2.2.2)
  rw [sum_blocks]
  exact Finset.sum_congr rfl fun e _ => part_whole m e X W (h e).1 (h e).2.1 _ _

end Values

/-- Every device's result is the reference's. -/
theorem algebraic : Cert.algebraic_KernelIdeal_ReferenceIdeal := by
  intro m g m' g' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run (Cert.KernelIdeal.defs (F := Ideal)) _ _).mono
      (fun _ h c => ⟨(h.1 c).2.2.2.2.trans (result_eq m _ _ _ _ hagree c),
        (h.1 c).1, (h.1 c).2.1, (h.1 c).2.2.1, (h.1 c).2.2.2.1⟩)
      (Cert.KernelIdeal.Ring.run_final (F := Ideal) m g)
  · hlo_run

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    frame_kernel, frame_ideal, frame_reference, trivial, algebraic⟩

end Cert.Proof

end
